-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Argmin (m : (ℓ : Loc Cert.Argmin.nD Cert.Argmin.τ Cert.Argmin.sig) → Buf (Elt Bits) ℓ) : Prop :=
  True

def Pre_ArgminIdeal (m : (ℓ : Loc Cert.ArgminIdeal.nD Cert.ArgminIdeal.τ Cert.ArgminIdeal.sig) → Buf (Elt Ideal) ℓ) : Prop :=
  True

def Pre_NearestIdeal (m : (ℓ : Loc Cert.NearestIdeal.nD Cert.NearestIdeal.τ Cert.NearestIdeal.sig) → Buf (Elt Ideal) ℓ) : Prop :=
  True

def Pre_Finalize (m : (ℓ : Loc Cert.Finalize.nD Cert.Finalize.τ Cert.Finalize.sig) → Buf (Elt Bits) ℓ) : Prop :=
  True

def Pre_FinalizeIdeal (m : (ℓ : Loc Cert.FinalizeIdeal.nD Cert.FinalizeIdeal.τ Cert.FinalizeIdeal.sig) → Buf (Elt Ideal) ℓ) : Prop :=
  True

def Pre_NormalisedIdeal (m : (ℓ : Loc Cert.NormalisedIdeal.nD Cert.NormalisedIdeal.τ Cert.NormalisedIdeal.sig) → Buf (Elt Ideal) ℓ) : Prop :=
  True

def Pre_Gather [hPre_idx_in_table : Cert.Pre_idx_in_table.Facts] (m : (ℓ : Loc Cert.Gather.nD Cert.Gather.τ Cert.Gather.sig) → Buf (Elt Bits) ℓ) : Prop :=
  ∀ c : Dev Cert.Gather.nD,
    (Cert.Pre_idx_in_table.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_idx_in_table : Cert.Pre_idx_in_table.Facts] (m : (ℓ : Loc Cert.GatherIdeal.nD Cert.GatherIdeal.τ Cert.GatherIdeal.sig) → Buf (Elt Ideal) ℓ) : Prop :=
  ∀ c : Dev Cert.GatherIdeal.nD,
    (Cert.Pre_idx_in_table.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_Rows [hPre_idx_in_table : Cert.Pre_idx_in_table.Facts] (m : (ℓ : Loc Cert.Rows.nD Cert.Rows.τ Cert.Rows.sig) → Buf (Elt Bits) ℓ) : Prop :=
  ∀ c : Dev Cert.Rows.nD,
    (Cert.Pre_idx_in_table.fn (F := Bits) (m ((c.tc : Thread Cert.Rows.nD Cert.Rows.τ).loc Cert.Rows.main_arg0)) (m ((c.tc : Thread Cert.Rows.nD Cert.Rows.τ).loc Cert.Rows.main_arg1))) = (fun _ => 1#1)

def Pre_RowsIdeal [hPre_idx_in_table : Cert.Pre_idx_in_table.Facts] (m : (ℓ : Loc Cert.RowsIdeal.nD Cert.RowsIdeal.τ Cert.RowsIdeal.sig) → Buf (Elt Ideal) ℓ) : Prop :=
  ∀ c : Dev Cert.RowsIdeal.nD,
    (Cert.Pre_idx_in_table.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Argmin [hArgmin : Cert.Argmin.Facts] : Prop :=
  ∀ (m : (ℓ : Loc Cert.Argmin.nD Cert.Argmin.τ Cert.Argmin.sig) → Buf (Elt Bits) ℓ) (g : Dev Cert.Argmin.nD → PrngReg), Pre_Argmin m →
    θ_run (Cert.Argmin.defs (F := Bits)) (onTc (τ := Cert.Argmin.τ) (Cert.Argmin.main (F := Bits))) ⟨m, fun _ => 0, g⟩ (fun r => (∀ c : Dev Cert.Argmin.nD,
      r.2.mem ((c.tc : Thread Cert.Argmin.nD Cert.Argmin.τ).loc Cert.Argmin.main_arg0) = m ((c.tc : Thread Cert.Argmin.nD Cert.Argmin.τ).loc Cert.Argmin.main_arg0)
      ∧ r.2.mem ((c.tc : Thread Cert.Argmin.nD Cert.Argmin.τ).loc Cert.Argmin.main_arg1) = m ((c.tc : Thread Cert.Argmin.nD Cert.Argmin.τ).loc Cert.Argmin.main_arg1)
      ∧ r.2.mem ((c.tc : Thread Cert.Argmin.nD Cert.Argmin.τ).loc Cert.Argmin.main_arg2) = m ((c.tc : Thread Cert.Argmin.nD Cert.Argmin.τ).loc Cert.Argmin.main_arg2)
      ∧ r.2.mem ((c.tc : Thread Cert.Argmin.nD Cert.Argmin.τ).loc Cert.Argmin.main_arg3) = m ((c.tc : Thread Cert.Argmin.nD Cert.Argmin.τ).loc Cert.Argmin.main_arg3))
      ∧ r.2.sem = fun _ => 0)

def quiescent_ArgminIdeal [hArgminIdeal : Cert.ArgminIdeal.Facts] : Prop :=
  ∀ (m : (ℓ : Loc Cert.ArgminIdeal.nD Cert.ArgminIdeal.τ Cert.ArgminIdeal.sig) → Buf (Elt Ideal) ℓ) (g : Dev Cert.ArgminIdeal.nD → PrngReg), Pre_ArgminIdeal m →
    θ_run (Cert.ArgminIdeal.defs (F := Ideal)) (onTc (τ := Cert.ArgminIdeal.τ) (Cert.ArgminIdeal.main (F := Ideal))) ⟨m, fun _ => 0, g⟩ (fun r => (∀ c : Dev Cert.ArgminIdeal.nD,
      r.2.mem ((c.tc : Thread Cert.ArgminIdeal.nD Cert.ArgminIdeal.τ).loc Cert.ArgminIdeal.main_arg0) = m ((c.tc : Thread Cert.ArgminIdeal.nD Cert.ArgminIdeal.τ).loc Cert.ArgminIdeal.main_arg0)
      ∧ r.2.mem ((c.tc : Thread Cert.ArgminIdeal.nD Cert.ArgminIdeal.τ).loc Cert.ArgminIdeal.main_arg1) = m ((c.tc : Thread Cert.ArgminIdeal.nD Cert.ArgminIdeal.τ).loc Cert.ArgminIdeal.main_arg1)
      ∧ r.2.mem ((c.tc : Thread Cert.ArgminIdeal.nD Cert.ArgminIdeal.τ).loc Cert.ArgminIdeal.main_arg2) = m ((c.tc : Thread Cert.ArgminIdeal.nD Cert.ArgminIdeal.τ).loc Cert.ArgminIdeal.main_arg2)
      ∧ r.2.mem ((c.tc : Thread Cert.ArgminIdeal.nD Cert.ArgminIdeal.τ).loc Cert.ArgminIdeal.main_arg3) = m ((c.tc : Thread Cert.ArgminIdeal.nD Cert.ArgminIdeal.τ).loc Cert.ArgminIdeal.main_arg3))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
      ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2)
      ∧ r.2.mem ((c.tc : Thread Cert.NearestIdeal.nD Cert.NearestIdeal.τ).loc Cert.NearestIdeal.main_arg3) = m ((c.tc : Thread Cert.NearestIdeal.nD Cert.NearestIdeal.τ).loc Cert.NearestIdeal.main_arg3))
      ∧ r.2.sem = fun _ => 0)

def quiescent_Finalize [hFinalize : Cert.Finalize.Facts] : Prop :=
  ∀ (m : (ℓ : Loc Cert.Finalize.nD Cert.Finalize.τ Cert.Finalize.sig) → Buf (Elt Bits) ℓ) (g : Dev Cert.Finalize.nD → PrngReg), Pre_Finalize m →
    θ_run (Cert.Finalize.defs (F := Bits)) (onTc (τ := Cert.Finalize.τ) (Cert.Finalize.main (F := Bits))) ⟨m, fun _ => 0, g⟩ (fun r => (∀ c : Dev Cert.Finalize.nD,
      r.2.mem ((c.tc : Thread Cert.Finalize.nD Cert.Finalize.τ).loc Cert.Finalize.main_arg0) = m ((c.tc : Thread Cert.Finalize.nD Cert.Finalize.τ).loc Cert.Finalize.main_arg0)
      ∧ r.2.mem ((c.tc : Thread Cert.Finalize.nD Cert.Finalize.τ).loc Cert.Finalize.main_arg1) = m ((c.tc : Thread Cert.Finalize.nD Cert.Finalize.τ).loc Cert.Finalize.main_arg1))
      ∧ r.2.sem = fun _ => 0)

def quiescent_FinalizeIdeal [hFinalizeIdeal : Cert.FinalizeIdeal.Facts] : Prop :=
  ∀ (m : (ℓ : Loc Cert.FinalizeIdeal.nD Cert.FinalizeIdeal.τ Cert.FinalizeIdeal.sig) → Buf (Elt Ideal) ℓ) (g : Dev Cert.FinalizeIdeal.nD → PrngReg), Pre_FinalizeIdeal m →
    θ_run (Cert.FinalizeIdeal.defs (F := Ideal)) (onTc (τ := Cert.FinalizeIdeal.τ) (Cert.FinalizeIdeal.main (F := Ideal))) ⟨m, fun _ => 0, g⟩ (fun r => (∀ c : Dev Cert.FinalizeIdeal.nD,
      r.2.mem ((c.tc : Thread Cert.FinalizeIdeal.nD Cert.FinalizeIdeal.τ).loc Cert.FinalizeIdeal.main_arg0) = m ((c.tc : Thread Cert.FinalizeIdeal.nD Cert.FinalizeIdeal.τ).loc Cert.FinalizeIdeal.main_arg0)
      ∧ r.2.mem ((c.tc : Thread Cert.FinalizeIdeal.nD Cert.FinalizeIdeal.τ).loc Cert.FinalizeIdeal.main_arg1) = m ((c.tc : Thread Cert.FinalizeIdeal.nD Cert.FinalizeIdeal.τ).loc Cert.FinalizeIdeal.main_arg1))
      ∧ r.2.sem = fun _ => 0)

def quiescent_NormalisedIdeal [hNormalisedIdeal : Cert.NormalisedIdeal.Facts] : Prop :=
  ∀ (m : (ℓ : Loc Cert.NormalisedIdeal.nD Cert.NormalisedIdeal.τ Cert.NormalisedIdeal.sig) → Buf (Elt Ideal) ℓ) (g : Dev Cert.NormalisedIdeal.nD → PrngReg), Pre_NormalisedIdeal m →
    θ_run (Cert.NormalisedIdeal.defs (F := Ideal)) (onTc (τ := Cert.NormalisedIdeal.τ) (Cert.NormalisedIdeal.main (F := Ideal))) ⟨m, fun _ => 0, g⟩ (fun r => (∀ c : Dev Cert.NormalisedIdeal.nD,
      r.2.mem ((c.tc : Thread Cert.NormalisedIdeal.nD Cert.NormalisedIdeal.τ).loc Cert.NormalisedIdeal.main_arg0) = m ((c.tc : Thread Cert.NormalisedIdeal.nD Cert.NormalisedIdeal.τ).loc Cert.NormalisedIdeal.main_arg0)
      ∧ r.2.mem ((c.tc : Thread Cert.NormalisedIdeal.nD Cert.NormalisedIdeal.τ).loc Cert.NormalisedIdeal.main_arg1) = m ((c.tc : Thread Cert.NormalisedIdeal.nD Cert.NormalisedIdeal.τ).loc Cert.NormalisedIdeal.main_arg1))
      ∧ r.2.sem = fun _ => 0)

def quiescent_Gather [hGather : Cert.Gather.Facts] [hPre_idx_in_table : Cert.Pre_idx_in_table.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_idx_in_table : Cert.Pre_idx_in_table.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_Rows [hRows : Cert.Rows.Facts] [hPre_idx_in_table : Cert.Pre_idx_in_table.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] [hPre_idx_in_table : Cert.Pre_idx_in_table.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Argmin_ArgminIdeal : Prop :=
  True

def algebraic_ArgminIdeal_NearestIdeal [hArgminIdeal : Cert.ArgminIdeal.Facts] [hNearestIdeal : Cert.NearestIdeal.Facts] : Prop :=
  ∀ (m : (ℓ : Loc Cert.ArgminIdeal.nD Cert.ArgminIdeal.τ Cert.ArgminIdeal.sig) → Buf (Elt Ideal) ℓ) (g : Dev Cert.ArgminIdeal.nD → PrngReg)
    (m' : (ℓ : Loc Cert.NearestIdeal.nD Cert.NearestIdeal.τ Cert.NearestIdeal.sig) → Buf (Elt Ideal) ℓ) (g' : Dev Cert.NearestIdeal.nD → PrngReg), Pre_ArgminIdeal m →
    (∀ c : Dev Cert.ArgminIdeal.nD,
      m' ((c.tc : Thread Cert.NearestIdeal.nD Cert.NearestIdeal.τ).loc Cert.NearestIdeal.main_arg0) = m ((c.tc : Thread Cert.ArgminIdeal.nD Cert.ArgminIdeal.τ).loc Cert.ArgminIdeal.main_arg0)
      ∧ m' ((c.tc : Thread Cert.NearestIdeal.nD Cert.NearestIdeal.τ).loc Cert.NearestIdeal.main_arg1) = m ((c.tc : Thread Cert.ArgminIdeal.nD Cert.ArgminIdeal.τ).loc Cert.ArgminIdeal.main_arg1)
      ∧ m' ((c.tc : Thread Cert.NearestIdeal.nD Cert.NearestIdeal.τ).loc Cert.NearestIdeal.main_arg2) = m ((c.tc : Thread Cert.ArgminIdeal.nD Cert.ArgminIdeal.τ).loc Cert.ArgminIdeal.main_arg2)
      ∧ m' ((c.tc : Thread Cert.NearestIdeal.nD Cert.NearestIdeal.τ).loc Cert.NearestIdeal.main_arg3) = m ((c.tc : Thread Cert.ArgminIdeal.nD Cert.ArgminIdeal.τ).loc Cert.ArgminIdeal.main_arg3)) →
    ∃ (v0 : (c : Dev Cert.ArgminIdeal.nD) → Buf (Elt Ideal) ((c.tc : Thread Cert.ArgminIdeal.nD Cert.ArgminIdeal.τ).loc Cert.ArgminIdeal.main_v0)),
      θ_run (Cert.ArgminIdeal.defs (F := Ideal)) (onTc (τ := Cert.ArgminIdeal.τ) (Cert.ArgminIdeal.main (F := Ideal))) ⟨m, fun _ => 0, g⟩ (fun r => ∀ c : Dev Cert.ArgminIdeal.nD,
          r.2.mem ((c.tc : Thread Cert.ArgminIdeal.nD Cert.ArgminIdeal.τ).loc Cert.ArgminIdeal.main_v0) = v0 c
          ∧ r.2.mem ((c.tc : Thread Cert.ArgminIdeal.nD Cert.ArgminIdeal.τ).loc Cert.ArgminIdeal.main_arg0) = m ((c.tc : Thread Cert.ArgminIdeal.nD Cert.ArgminIdeal.τ).loc Cert.ArgminIdeal.main_arg0)
          ∧ r.2.mem ((c.tc : Thread Cert.ArgminIdeal.nD Cert.ArgminIdeal.τ).loc Cert.ArgminIdeal.main_arg1) = m ((c.tc : Thread Cert.ArgminIdeal.nD Cert.ArgminIdeal.τ).loc Cert.ArgminIdeal.main_arg1)
          ∧ r.2.mem ((c.tc : Thread Cert.ArgminIdeal.nD Cert.ArgminIdeal.τ).loc Cert.ArgminIdeal.main_arg2) = m ((c.tc : Thread Cert.ArgminIdeal.nD Cert.ArgminIdeal.τ).loc Cert.ArgminIdeal.main_arg2)
          ∧ r.2.mem ((c.tc : Thread Cert.ArgminIdeal.nD Cert.ArgminIdeal.τ).loc Cert.ArgminIdeal.main_arg3) = m ((c.tc : Thread Cert.ArgminIdeal.nD Cert.ArgminIdeal.τ).loc Cert.ArgminIdeal.main_arg3))
      ∧ θ_run (Cert.NearestIdeal.defs (F := Ideal)) (onTc (τ := Cert.NearestIdeal.τ) (Cert.NearestIdeal.main (F := Ideal))) ⟨m', fun _ => 0, g'⟩ (fun r => ∀ c : Dev Cert.NearestIdeal.nD,
          r.2.mem ((c.tc : Thread Cert.NearestIdeal.nD Cert.NearestIdeal.τ).loc Cert.NearestIdeal.main_v10) = v0 c
          ∧ r.2.mem ((c.tc : Thread Cert.NearestIdeal.nD Cert.NearestIdeal.τ).loc Cert.NearestIdeal.main_arg0) = m' ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m' ((c.tc : Thread Cert.NearestIdeal.nD Cert.NearestIdeal.τ).loc Cert.NearestIdeal.main_arg1)
          ∧ r.2.mem ((c.tc : Thread Cert.NearestIdeal.nD Cert.NearestIdeal.τ).loc Cert.NearestIdeal.main_arg2) = m' ((c.tc : Thread Cert.NearestIdeal.nD Cert.NearestIdeal.τ).loc Cert.NearestIdeal.main_arg2)
          ∧ r.2.mem ((c.tc : Thread Cert.NearestIdeal.nD Cert.NearestIdeal.τ).loc Cert.NearestIdeal.main_arg3) = m' ((c.tc : Thread Cert.NearestIdeal.nD Cert.NearestIdeal.τ).loc Cert.NearestIdeal.main_arg3))

def preserves_Finalize_FinalizeIdeal : Prop :=
  True

def algebraic_FinalizeIdeal_NormalisedIdeal [hFinalizeIdeal : Cert.FinalizeIdeal.Facts] [hNormalisedIdeal : Cert.NormalisedIdeal.Facts] : Prop :=
  ∀ (m : (ℓ : Loc Cert.FinalizeIdeal.nD Cert.FinalizeIdeal.τ Cert.FinalizeIdeal.sig) → Buf (Elt Ideal) ℓ) (g : Dev Cert.FinalizeIdeal.nD → PrngReg)
    (m' : (ℓ : Loc Cert.NormalisedIdeal.nD Cert.NormalisedIdeal.τ Cert.NormalisedIdeal.sig) → Buf (Elt Ideal) ℓ) (g' : Dev Cert.NormalisedIdeal.nD → PrngReg), Pre_FinalizeIdeal m →
    (∀ c : Dev Cert.FinalizeIdeal.nD,
      m' ((c.tc : Thread Cert.NormalisedIdeal.nD Cert.NormalisedIdeal.τ).loc Cert.NormalisedIdeal.main_arg0) = m ((c.tc : Thread Cert.FinalizeIdeal.nD Cert.FinalizeIdeal.τ).loc Cert.FinalizeIdeal.main_arg0)
      ∧ m' ((c.tc : Thread Cert.NormalisedIdeal.nD Cert.NormalisedIdeal.τ).loc Cert.NormalisedIdeal.main_arg1) = m ((c.tc : Thread Cert.FinalizeIdeal.nD Cert.FinalizeIdeal.τ).loc Cert.FinalizeIdeal.main_arg1)) →
    ∃ (v0 : (c : Dev Cert.FinalizeIdeal.nD) → Buf (Elt Ideal) ((c.tc : Thread Cert.FinalizeIdeal.nD Cert.FinalizeIdeal.τ).loc Cert.FinalizeIdeal.main_v0_0)) (v1 : (c : Dev Cert.FinalizeIdeal.nD) → Buf (Elt Ideal) ((c.tc : Thread Cert.FinalizeIdeal.nD Cert.FinalizeIdeal.τ).loc Cert.FinalizeIdeal.main_v0_1)),
      θ_run (Cert.FinalizeIdeal.defs (F := Ideal)) (onTc (τ := Cert.FinalizeIdeal.τ) (Cert.FinalizeIdeal.main (F := Ideal))) ⟨m, fun _ => 0, g⟩ (fun r => ∀ c : Dev Cert.FinalizeIdeal.nD,
          r.2.mem ((c.tc : Thread Cert.FinalizeIdeal.nD Cert.FinalizeIdeal.τ).loc Cert.FinalizeIdeal.main_v0_0) = v0 c
          ∧ r.2.mem ((c.tc : Thread Cert.FinalizeIdeal.nD Cert.FinalizeIdeal.τ).loc Cert.FinalizeIdeal.main_v0_1) = v1 c
          ∧ r.2.mem ((c.tc : Thread Cert.FinalizeIdeal.nD Cert.FinalizeIdeal.τ).loc Cert.FinalizeIdeal.main_arg0) = m ((c.tc : Thread Cert.FinalizeIdeal.nD Cert.FinalizeIdeal.τ).loc Cert.FinalizeIdeal.main_arg0)
          ∧ r.2.mem ((c.tc : Thread Cert.FinalizeIdeal.nD Cert.FinalizeIdeal.τ).loc Cert.FinalizeIdeal.main_arg1) = m ((c.tc : Thread Cert.FinalizeIdeal.nD Cert.FinalizeIdeal.τ).loc Cert.FinalizeIdeal.main_arg1))
      ∧ θ_run (Cert.NormalisedIdeal.defs (F := Ideal)) (onTc (τ := Cert.NormalisedIdeal.τ) (Cert.NormalisedIdeal.main (F := Ideal))) ⟨m', fun _ => 0, g'⟩ (fun r => ∀ c : Dev Cert.NormalisedIdeal.nD,
          r.2.mem ((c.tc : Thread Cert.NormalisedIdeal.nD Cert.NormalisedIdeal.τ).loc Cert.NormalisedIdeal.main_v17) = v0 c
          ∧ r.2.mem ((c.tc : Thread Cert.NormalisedIdeal.nD Cert.NormalisedIdeal.τ).loc Cert.NormalisedIdeal.main_v18) = v1 c
          ∧ r.2.mem ((c.tc : Thread Cert.NormalisedIdeal.nD Cert.NormalisedIdeal.τ).loc Cert.NormalisedIdeal.main_arg0) = m' ((c.tc : Thread Cert.NormalisedIdeal.nD Cert.NormalisedIdeal.τ).loc Cert.NormalisedIdeal.main_arg0)
          ∧ r.2.mem ((c.tc : Thread Cert.NormalisedIdeal.nD Cert.NormalisedIdeal.τ).loc Cert.NormalisedIdeal.main_arg1) = m' ((c.tc : Thread Cert.NormalisedIdeal.nD Cert.NormalisedIdeal.τ).loc Cert.NormalisedIdeal.main_arg1))

def preserves_Gather_GatherIdeal : Prop :=
  True

def bitexact_Gather_Rows [hGather : Cert.Gather.Facts] [hRows : Cert.Rows.Facts] [hPre_idx_in_table : Cert.Pre_idx_in_table.Facts] : Prop :=
  ∀ (m : (ℓ : Loc Cert.Gather.nD Cert.Gather.τ Cert.Gather.sig) → Buf (Elt Bits) ℓ) (g : Dev Cert.Gather.nD → PrngReg)
    (m' : (ℓ : Loc Cert.Rows.nD Cert.Rows.τ Cert.Rows.sig) → Buf (Elt Bits) ℓ) (g' : Dev Cert.Rows.nD → PrngReg), Pre_Gather m →
    (∀ c : Dev Cert.Gather.nD,
      m' ((c.tc : Thread Cert.Rows.nD Cert.Rows.τ).loc Cert.Rows.main_arg0) = m ((c.tc : Thread Cert.Gather.nD Cert.Gather.τ).loc Cert.Gather.main_arg0)
      ∧ m' ((c.tc : Thread Cert.Rows.nD Cert.Rows.τ).loc Cert.Rows.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v0)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v0) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Rows.defs (F := Bits)) (onTc (τ := Cert.Rows.τ) (Cert.Rows.main (F := Bits))) ⟨m', fun _ => 0, g'⟩ (fun r => ∀ c : Dev Cert.Rows.nD,
          r.2.mem ((c.tc : Thread Cert.Rows.nD Cert.Rows.τ).loc Cert.Rows.main_v0) = v0 c
          ∧ r.2.mem ((c.tc : Thread Cert.Rows.nD Cert.Rows.τ).loc Cert.Rows.main_arg0) = m' ((c.tc : Thread Cert.Rows.nD Cert.Rows.τ).loc Cert.Rows.main_arg0)
          ∧ r.2.mem ((c.tc : Thread Cert.Rows.nD Cert.Rows.τ).loc Cert.Rows.main_arg1) = m' ((c.tc : Thread Cert.Rows.nD Cert.Rows.τ).loc Cert.Rows.main_arg1))

def algebraic_GatherIdeal_RowsIdeal [hGatherIdeal : Cert.GatherIdeal.Facts] [hRowsIdeal : Cert.RowsIdeal.Facts] [hPre_idx_in_table : Cert.Pre_idx_in_table.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.RowsIdeal.nD Cert.RowsIdeal.τ Cert.RowsIdeal.sig) → Buf (Elt Ideal) ℓ) (g' : Dev Cert.RowsIdeal.nD → PrngReg), Pre_GatherIdeal m →
    (∀ c : Dev Cert.GatherIdeal.nD,
      m' ((c.tc : Thread Cert.RowsIdeal.nD Cert.RowsIdeal.τ).loc Cert.RowsIdeal.main_arg0) = m ((c.tc : Thread Cert.GatherIdeal.nD Cert.GatherIdeal.τ).loc Cert.GatherIdeal.main_arg0)
      ∧ m' ((c.tc : Thread Cert.RowsIdeal.nD Cert.RowsIdeal.τ).loc Cert.RowsIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.RowsIdeal.defs (F := Ideal)) (onTc (τ := Cert.RowsIdeal.τ) (Cert.RowsIdeal.main (F := Ideal))) ⟨m', fun _ => 0, g'⟩ (fun r => ∀ c : Dev Cert.RowsIdeal.nD,
          r.2.mem ((c.tc : Thread Cert.RowsIdeal.nD Cert.RowsIdeal.τ).loc Cert.RowsIdeal.main_v0) = v0 c
          ∧ r.2.mem ((c.tc : Thread Cert.RowsIdeal.nD Cert.RowsIdeal.τ).loc Cert.RowsIdeal.main_arg0) = m' ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m' ((c.tc : Thread Cert.RowsIdeal.nD Cert.RowsIdeal.τ).loc Cert.RowsIdeal.main_arg1))

def Claim : Prop :=
  ∃ (hKernelIdeal : Cert.KernelIdeal.Facts) (hReferenceIdeal : Cert.ReferenceIdeal.Facts) (hArgmin : Cert.Argmin.Facts) (hArgminIdeal : Cert.ArgminIdeal.Facts) (hNearestIdeal : Cert.NearestIdeal.Facts) (hFinalize : Cert.Finalize.Facts) (hFinalizeIdeal : Cert.FinalizeIdeal.Facts) (hNormalisedIdeal : Cert.NormalisedIdeal.Facts) (hGather : Cert.Gather.Facts) (hGatherIdeal : Cert.GatherIdeal.Facts) (hRows : Cert.Rows.Facts) (hRowsIdeal : Cert.RowsIdeal.Facts) (hPre_idx_in_table : Cert.Pre_idx_in_table.Facts),
    quiescent_KernelIdeal (hKernelIdeal := hKernelIdeal)
    ∧ quiescent_ReferenceIdeal (hReferenceIdeal := hReferenceIdeal)
    ∧ quiescent_Argmin (hArgmin := hArgmin)
    ∧ quiescent_ArgminIdeal (hArgminIdeal := hArgminIdeal)
    ∧ quiescent_NearestIdeal (hNearestIdeal := hNearestIdeal)
    ∧ quiescent_Finalize (hFinalize := hFinalize)
    ∧ quiescent_FinalizeIdeal (hFinalizeIdeal := hFinalizeIdeal)
    ∧ quiescent_NormalisedIdeal (hNormalisedIdeal := hNormalisedIdeal)
    ∧ quiescent_Gather (hGather := hGather) (hPre_idx_in_table := hPre_idx_in_table)
    ∧ quiescent_GatherIdeal (hGatherIdeal := hGatherIdeal) (hPre_idx_in_table := hPre_idx_in_table)
    ∧ quiescent_Rows (hRows := hRows) (hPre_idx_in_table := hPre_idx_in_table)
    ∧ quiescent_RowsIdeal (hRowsIdeal := hRowsIdeal) (hPre_idx_in_table := hPre_idx_in_table)
    ∧ algebraic_KernelIdeal_ReferenceIdeal (hKernelIdeal := hKernelIdeal) (hReferenceIdeal := hReferenceIdeal)
    ∧ preserves_Argmin_ArgminIdeal
    ∧ algebraic_ArgminIdeal_NearestIdeal (hArgminIdeal := hArgminIdeal) (hNearestIdeal := hNearestIdeal)
    ∧ preserves_Finalize_FinalizeIdeal
    ∧ algebraic_FinalizeIdeal_NormalisedIdeal (hFinalizeIdeal := hFinalizeIdeal) (hNormalisedIdeal := hNormalisedIdeal)
    ∧ preserves_Gather_GatherIdeal
    ∧ bitexact_Gather_Rows (hGather := hGather) (hRows := hRows) (hPre_idx_in_table := hPre_idx_in_table)
    ∧ algebraic_GatherIdeal_RowsIdeal (hGatherIdeal := hGatherIdeal) (hRowsIdeal := hRowsIdeal) (hPre_idx_in_table := hPre_idx_in_table)
-- ==== Pre_idx_in_table.lean ====
abbrev S8192x128 : Shape := ⟨2, ![8192, 128]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S8192x128 .f32) (main_arg1 : IVec S16384 32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 8192#32
  let main_v2 : IVec S16384 32 := broadcastInDim S16384 ![] bcast_S_S16384 main_c_0
  let main_v3 : IVec S16384 1 := cmpi .slt main_arg1 main_v2
  let main_v4 : IVec S16384 1 := andi main_v1 main_v3
  main_v4
-- ==== KernelIdeal.lean ====
abbrev S16x1024x32 : Shape := ⟨3, ![16, 1024, 32]⟩
abbrev S8192x32 : Shape := ⟨2, ![8192, 32]⟩
abbrev S_ : Shape := ⟨0, ![]⟩
abbrev S16x32 : Shape := ⟨2, ![16, 32]⟩
abbrev S16x1x32 : Shape := ⟨3, ![16, 1, 32]⟩
abbrev S8192 : Shape := ⟨1, ![8192]⟩
abbrev S8192x1 : Shape := ⟨2, ![8192, 1]⟩
abbrev S16384x32 : Shape := ⟨2, ![16384, 32]⟩
abbrev S16384 : Shape := ⟨1, ![16384]⟩
abbrev S16384x1 : Shape := ⟨2, ![16384, 1]⟩
abbrev S16x1024 : Shape := ⟨2, ![16, 1024]⟩
abbrev S16x1x1024 : Shape := ⟨3, ![16, 1, 1024]⟩
abbrev S1x1024x32 : Shape := ⟨3, ![1, 1024, 32]⟩
abbrev S2048x32 : Shape := ⟨2, ![2048, 32]⟩
abbrev S1x1x1024 : Shape := ⟨3, ![1, 1, 1024]⟩
abbrev S2048x1 : Shape := ⟨2, ![2048, 1]⟩
abbrev S4096x1024 : Shape := ⟨2, ![4096, 1024]⟩
abbrev S1x1024 : Shape := ⟨2, ![1, 1024]⟩
abbrev S1024x32 : Shape := ⟨2, ![1024, 32]⟩
abbrev S2048x1024 : Shape := ⟨2, ![2048, 1024]⟩
abbrev S1024 : Shape := ⟨1, ![1024]⟩
abbrev S8192x128 : Shape := ⟨2, ![8192, 128]⟩
abbrev S16384x128 : Shape := ⟨2, ![16384, 128]⟩
abbrev S128 : Shape := ⟨1, ![128]⟩
abbrev S128x128 : Shape := ⟨2, ![128, 128]⟩
abbrev S16x1024x128 : Shape := ⟨3, ![16, 1024, 128]⟩
abbrev S1x1 : Shape := ⟨2, ![1, 1]⟩
abbrev S1x1024x128 : Shape := ⟨3, ![1, 1024, 128]⟩
abbrev S1024x128 : Shape := ⟨2, ![1024, 128]⟩
abbrev S32 : Shape := ⟨1, ![32]⟩
abbrev S1x32 : Shape := ⟨2, ![1, 32]⟩
abbrev S1 : Shape := ⟨1, ![1]⟩
abbrev S1x1x1 : Shape := ⟨3, ![1, 1, 1]⟩

abbrev nBuf : Table → Nat
  | .hbm => 48
  | .local .tc .vmem => 22
  | .local .tc .smem => 1
  | .local .scVector .vmem => 2
  | _ => 0

abbrev bufTy : (tb : Table) → Fin (nBuf tb) → BufTy
  | .hbm, ⟨0, _⟩ => ⟨S16x1024x32, .f32⟩
  | .hbm, ⟨1, _⟩ => ⟨S8192x32, .f32⟩
  | .hbm, ⟨2, _⟩ => ⟨S16x1024x32, .f32⟩
  | .hbm, ⟨3, _⟩ => ⟨S_, .f32⟩
  | .hbm, ⟨4, _⟩ => ⟨S16x32, .f32⟩
  | .hbm, ⟨5, _⟩ => ⟨S16x1x32, .f32⟩
  | .hbm, ⟨6, _⟩ => ⟨S16x1x32, .f32⟩
  | .hbm, ⟨7, _⟩ => ⟨S_, .f32⟩
  | .hbm, ⟨8, _⟩ => ⟨S16x1x32, .f32⟩
  | .hbm, ⟨9, _⟩ => ⟨S16x1x32, .f32⟩
  | .hbm, ⟨10, _⟩ => ⟨S16x1024x32, .f32⟩
  | .hbm, ⟨11, _⟩ => ⟨S16x1024x32, .f32⟩
  | .hbm, ⟨12, _⟩ => ⟨S8192x32, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x32, .f32⟩
  | .hbm, ⟨21, _⟩ => ⟨S8192x32, .f32⟩
  | .hbm, ⟨22, _⟩ => ⟨S16384x32, .f32⟩
  | .hbm, ⟨23, _⟩ => ⟨S16384x32, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S16x1024, .f32⟩
  | .hbm, ⟨28, _⟩ => ⟨S16x1x1024, .f32⟩
  | .hbm, ⟨29, _⟩ => ⟨S8192x32, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S16x1024x32, .f32⟩
  | .hbm, ⟨35, _⟩ => ⟨S16x1024x32, .f32⟩
  | .hbm, ⟨36, _⟩ => ⟨S16x1024x32, .bf16⟩
  | .hbm, ⟨37, _⟩ => ⟨S8192x32, .bf16⟩
  | .hbm, ⟨38, _⟩ => ⟨S16x1x1024, .i32⟩
  | .hbm, ⟨39, _⟩ => ⟨S16384, .i32⟩
  | .hbm, ⟨40, _⟩ => ⟨S_, .i32⟩
  | .hbm, ⟨41, _⟩ => ⟨S_, .f32⟩
  | .hbm, ⟨42, _⟩ => ⟨S8192x128, .f32⟩
  | .hbm, ⟨43, _⟩ => ⟨S16384x128, .f32⟩
  | .hbm, ⟨44, _⟩ => ⟨S16x1024x128, .f32⟩
  | .hbm, ⟨45, _⟩ => ⟨S16x1024x32, .f32⟩
  | .hbm, ⟨46, _⟩ => ⟨S1x1, .f32⟩
  | .hbm, ⟨47, _⟩ => ⟨S_, .f32⟩
  | .local .tc .vmem, ⟨0, _⟩ => ⟨S1x1024x32, .bf16⟩
  | .local .tc .vmem, ⟨1, _⟩ => ⟨S1x1024x32, .bf16⟩
  | .local .tc .vmem, ⟨2, _⟩ => ⟨S2048x32, .bf16⟩
  | .local .tc .vmem, ⟨3, _⟩ => ⟨S2048x32, .bf16⟩
  | .local .tc .vmem, ⟨4, _⟩ => ⟨S1x1x1024, .f32⟩
  | .local .tc .vmem, ⟨5, _⟩ => ⟨S1x1x1024, .f32⟩
  | .local .tc .vmem, ⟨6, _⟩ => ⟨S2048x1, .f32⟩
  | .local .tc .vmem, ⟨7, _⟩ => ⟨S2048x1, .f32⟩
  | .local .tc .vmem, ⟨8, _⟩ => ⟨S1x1x1024, .i32⟩
  | .local .tc .vmem, ⟨9, _⟩ => ⟨S1x1x1024, .i32⟩
  | .local .tc .vmem, ⟨10, _⟩ => ⟨S4096x1024, .f32⟩
  | .local .tc .vmem, ⟨11, _⟩ => ⟨S1x1024, .f32⟩
  | .local .tc .vmem, ⟨12, _⟩ => ⟨S1x1024, .i32⟩
  | .local .tc .vmem, ⟨13, _⟩ => ⟨S1x1024, .f32⟩
  | .local .tc .vmem, ⟨14, _⟩ => ⟨S1x1024, .i32⟩
  | .local .tc .vmem, ⟨15, _⟩ => ⟨S1x1024x128, .f32⟩
  | .local .tc .vmem, ⟨16, _⟩ => ⟨S1x1024x128, .f32⟩
  | .local .tc .vmem, ⟨17, _⟩ => ⟨S1x1024x32, .f32⟩
  | .local .tc .vmem, ⟨18, _⟩ => ⟨S1x1024x32, .f32⟩
  | .local .tc .vmem, ⟨19, _⟩ => ⟨S1x1024x32, .f32⟩
  | .local .tc .vmem, ⟨20, _⟩ => ⟨S1x1024x32, .f32⟩
  | .local .tc .vmem, ⟨21, _⟩ => ⟨S1x1, .f32⟩
  | .local .tc .smem, ⟨0, _⟩ => ⟨S1x1, .f32⟩
  | .local .scVector .vmem, ⟨0, _⟩ => ⟨S128, .i32⟩
  | .local .scVector .vmem, ⟨1, _⟩ => ⟨S128x128, .f32⟩
  | _, _ => ⟨S16x1024x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_call2_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28_0 : Ref sig .tc := ⟨.hbm, 45, rfl⟩
abbrev main_v28_1 : Ref sig .tc := ⟨.hbm, 46, rfl⟩
abbrev main_v29 : Ref sig .tc := ⟨.hbm, 47, rfl⟩
abbrev main_v25_scv : Ref sig .scVector := ⟨.hbm, 42, rfl⟩
abbrev main_v24_scv : Ref sig .scVector := ⟨.hbm, 39, rfl⟩
abbrev main_v26_scv : Ref sig .scVector := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_scratch0 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![16, 4], ![false, false]⟩

def k0_off1 (i : grid0.Coords) : Fin 2 → Nat :=
  let arg1 : BitVec 32 := BitVec.ofNat 32 (i 1).val
  let c2_i32 : BitVec 32 := 2#32
  let c0_i32 : BitVec 32 := 0#32
  let v13 : BitVec 1 := Scalar.cmpi .eq c2_i32 c0_i32
  let c1_i32 : BitVec 32 := 1#32
  let v14 : BitVec 32 := Scalar.select v13 c1_i32 c2_i32
  let v15 : BitVec 32 := Scalar.remsi arg1 v14
  let c0_i32_10 : BitVec 32 := 0#32
  let v17 : BitVec 1 := Scalar.cmpi .slt v15 c0_i32_10
  let c0_i32_11 : BitVec 32 := 0#32
  let v18 : BitVec 1 := Scalar.cmpi .slt v14 c0_i32_11
  let v19 : BitVec 1 := Scalar.xori v17 v18
  let c0_i32_9 : BitVec 32 := 0#32
  let v16 : BitVec 1 := Scalar.cmpi .ne v15 c0_i32_9
  let v20 : BitVec 1 := Scalar.andi v19 v16
  let v21 : BitVec 32 := Scalar.addi v15 v14
  let v22 : BitVec 32 := Scalar.select v20 v21 v15
  let c2048_i32 : BitVec 32 := 2048#32
  let v23 : BitVec 32 := Scalar.muli v22 c2048_i32
  let v24 : Index := Scalar.indexCast v23
  let c0_12 : Index := 0#32
  ![v24.toNat, 0]
def k0_cond6 (i : grid0.Coords) : BitVec 1 :=
  let arg1 : BitVec 32 := BitVec.ofNat 32 (i 1).val
  let c3_i32 : BitVec 32 := 3#32
  let v69 : BitVec 1 := Scalar.cmpi .eq arg1 c3_i32
  let v70 : BitVec 32 := Scalar.extui v69
  let c0_i32_38 : BitVec 32 := 0#32
  let v71 : BitVec 1 := Scalar.cmpi .ne v70 c0_i32_38
  v71

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_16_r1 : BitVec 32 := 0#32
  ![v3.toNat, 0]
abbrev grid2 : Pipeline.Grid := ⟨1, ![16], ![false]⟩

def k2_cond3 (i : grid2.Coords) : BitVec 1 :=
  let arg0 : BitVec 32 := BitVec.ofNat 32 (i 0).val
  let c15_i32 : BitVec 32 := 15#32
  let v30 : BitVec 1 := Scalar.cmpi .eq arg0 c15_i32
  let v31 : BitVec 32 := Scalar.extui v30
  let c0_i32_13 : BitVec 32 := 0#32
  let v32 : BitVec 1 := Scalar.cmpi .ne v31 c0_i32_13
  v32

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1024x32 : Shape := ⟨3, ![16, 1024, 32]⟩
abbrev S8192x32 : Shape := ⟨2, ![8192, 32]⟩
abbrev S_ : Shape := ⟨0, ![]⟩
abbrev S16x32 : Shape := ⟨2, ![16, 32]⟩
abbrev S16x1x32 : Shape := ⟨3, ![16, 1, 32]⟩
abbrev S16384x32 : Shape := ⟨2, ![16384, 32]⟩
abbrev S8192 : Shape := ⟨1, ![8192]⟩
abbrev S8192x1 : Shape := ⟨2, ![8192, 1]⟩
abbrev S16384 : Shape := ⟨1, ![16384]⟩
abbrev S16384x1 : Shape := ⟨2, ![16384, 1]⟩
abbrev S1x8192 : Shape := ⟨2, ![1, 8192]⟩
abbrev S16384x8192 : Shape := ⟨2, ![16384, 8192]⟩
abbrev S32x8192 : Shape := ⟨2, ![32, 8192]⟩
abbrev S1 : Shape := ⟨1, ![1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16x1024x32, .f32⟩
  | .hbm, ⟨3, _⟩ => ⟨S_, .f32⟩
  | .hbm, ⟨4, _⟩ => ⟨S16x32, .f32⟩
  | .hbm, ⟨5, _⟩ => ⟨S16x1x32, .f32⟩
  | .hbm, ⟨6, _⟩ => ⟨S16x1x32, .f32⟩
  | .hbm, ⟨7, _⟩ => ⟨S_, .f32⟩
  | .hbm, ⟨8, _⟩ => ⟨S16x1x32, .f32⟩
  | .hbm, ⟨9, _⟩ => ⟨S16x1x32, .f32⟩
  | .hbm, ⟨10, _⟩ => ⟨S16x1024x32, .f32⟩
  | .hbm, ⟨11, _⟩ => ⟨S16x1024x32, .f32⟩
  | .hbm, ⟨12, _⟩ => ⟨S16384x32, .f32⟩
  | .hbm, ⟨13, _⟩ => ⟨S8192x32, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x32, .f32⟩
  | .hbm, ⟨22, _⟩ => ⟨S8192x32, .f32⟩
  | .hbm, ⟨23, _⟩ => ⟨S16384x32, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S8192x32, .f32⟩
  | .hbm, ⟨28, _⟩ => ⟨S_, .f32⟩
  | .hbm, ⟨29, _⟩ => ⟨S8192, .f32⟩
  | .hbm, ⟨30, _⟩ => ⟨S1x8192, .f32⟩
  | .hbm, ⟨31, _⟩ => ⟨S16384x8192, .f32⟩
  | .hbm, ⟨32, _⟩ => ⟨S16384x8192, .f32⟩
  | .hbm, ⟨33, _⟩ => ⟨S16384x8192, .f32⟩
  | .hbm, ⟨34, _⟩ => ⟨S32x8192, .f32⟩
  | .hbm, ⟨35, _⟩ => ⟨S16384x8192, .f32⟩
  | .hbm, ⟨36, _⟩ => ⟨S_, .f32⟩
  | .hbm, ⟨37, _⟩ => ⟨S16384x8192, .f32⟩
  | .hbm, ⟨38, _⟩ => ⟨S16384x8192, .f32⟩
  | .hbm, ⟨39, _⟩ => ⟨S16384x8192, .f32⟩
  | .hbm, ⟨40, _⟩ => ⟨S16384x8192, .i32⟩
  | .hbm, ⟨41, _⟩ => ⟨S_, .f32⟩
  | .hbm, ⟨42, _⟩ => ⟨S_, .i32⟩
  | .hbm, ⟨43, _⟩ => ⟨S16384, .f32⟩
  | .hbm, ⟨44, _⟩ => ⟨S16384, .i32⟩
  | .hbm, ⟨45, _⟩ => ⟨S_, .i32⟩
  | .hbm, ⟨46, _⟩ => ⟨S16384, .i32⟩
  | .hbm, ⟨47, _⟩ => ⟨S16384, .i1⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S16384x1, .i32⟩
  | .hbm, ⟨53, _⟩ => ⟨S1, .i32⟩
  | .hbm, ⟨54, _⟩ => ⟨S_, .i32⟩
  | .hbm, ⟨55, _⟩ => ⟨S16384x1, .i32⟩
  | .hbm, ⟨56, _⟩ => ⟨S16384x1, .i1⟩
  | .hbm, ⟨57, _⟩ => ⟨S1x1, .i32⟩
  | .hbm, ⟨58, _⟩ => ⟨S16384x1, .i32⟩
  | .hbm, ⟨59, _⟩ => ⟨S16384x1, .i1⟩
  | .hbm, ⟨60, _⟩ => ⟨S16384x1, .i1⟩
  | .hbm, ⟨61, _⟩ => ⟨S_, .i1⟩
  | .hbm, ⟨62, _⟩ => ⟨S16384, .i1⟩
  | .hbm, ⟨63, _⟩ => ⟨S16384x32, .f32⟩
  | .hbm, ⟨64, _⟩ => ⟨S16384x32, .i1⟩
  | .hbm, ⟨65, _⟩ => ⟨S_, .f32⟩
  | .hbm, ⟨66, _⟩ => ⟨S16384x32, .f32⟩
  | .hbm, ⟨67, _⟩ => ⟨S16384x32, .f32⟩
  | .hbm, ⟨68, _⟩ => ⟨S16x1024x32, .f32⟩
  | .hbm, ⟨69, _⟩ => ⟨S16x1024x32, .f32⟩
  | .hbm, ⟨70, _⟩ => ⟨S_, .f32⟩
  | .hbm, ⟨71, _⟩ => ⟨S16x32, .f32⟩
  | .hbm, ⟨72, _⟩ => ⟨S16x1x32, .f32⟩
  | .hbm, ⟨73, _⟩ => ⟨S16x1x32, .f32⟩
  | .hbm, ⟨74, _⟩ => ⟨S_, .f32⟩
  | .hbm, ⟨75, _⟩ => ⟨S16x1x32, .f32⟩
  | .hbm, ⟨76, _⟩ => ⟨S16x1x32, .f32⟩
  | .hbm, ⟨77, _⟩ => ⟨S16x1024x32, .f32⟩
  | .hbm, ⟨78, _⟩ => ⟨S16x1024x32, .f32⟩
  | .hbm, ⟨79, _⟩ => ⟨S16x1024x32, .f32⟩
  | .hbm, ⟨80, _⟩ => ⟨S16x1024x32, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S16x1024x32, .f32⟩
  | .hbm, ⟨86, _⟩ => ⟨S16x1024x32, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S16x1024x32, .f32⟩
  | .hbm, ⟨95, _⟩ => ⟨S16x1024x32, .f32⟩
  | _, _ => ⟨S16x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call2_v0 : Ref sig .tc := ⟨.hbm, 40, rfl⟩
abbrev main_call2_cst : Ref sig .tc := ⟨.hbm, 41, rfl⟩
abbrev main_call2_c : Ref sig .tc := ⟨.hbm, 42, rfl⟩
abbrev main_call2_v1_0 : Ref sig .tc := ⟨.hbm, 43, rfl⟩
abbrev main_v25 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_c_1 : Ref sig .tc := ⟨.hbm, 53, rfl⟩
abbrev main_call3_c_2 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_3 : Ref sig .tc := ⟨.hbm, 61, rfl⟩
abbrev main_call3_v12 : Ref sig .tc := ⟨.hbm, 62, rfl⟩
abbrev main_call3_v13 : Ref sig .tc := ⟨.hbm, 63, rfl⟩
abbrev main_call3_v14 : Ref sig .tc := ⟨.hbm, 64, rfl⟩
abbrev main_call3_cst : Ref sig .tc := ⟨.hbm, 65, rfl⟩
abbrev main_call3_v15 : Ref sig .tc := ⟨.hbm, 66, rfl⟩
abbrev main_v26 : Ref sig .tc := ⟨.hbm, 67, rfl⟩
abbrev main_v27 : Ref sig .tc := ⟨.hbm, 68, rfl⟩
abbrev main_call4_v0 : Ref sig .tc := ⟨.hbm, 69, rfl⟩
abbrev main_call4_cst : Ref sig .tc := ⟨.hbm, 70, rfl⟩
abbrev main_call4_v1 : Ref sig .tc := ⟨.hbm, 71, rfl⟩
abbrev main_call4_v2 : Ref sig .tc := ⟨.hbm, 72, rfl⟩
abbrev main_v28 : Ref sig .tc := ⟨.hbm, 73, rfl⟩
abbrev main_cst_4 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_5 : Ref sig .tc := ⟨.hbm, 81, rfl⟩
abbrev main_v35 : Ref sig .tc := ⟨.hbm, 82, rfl⟩
abbrev main_cst_6 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_7 : Ref sig .tc := ⟨.hbm, 87, rfl⟩
abbrev main_v39 : Ref sig .tc := ⟨.hbm, 88, rfl⟩
abbrev main_cst_8 : Ref sig .tc := ⟨.hbm, 89, rfl⟩
abbrev main_v40 : Ref sig .tc := ⟨.hbm, 90, rfl⟩
abbrev main_cst_9 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩

abbrev nD : Nat := 1
abbrev τ : Topo := Topo.v7x

variable {F : FTy → Type} [FloatOps F]
-- ==== Argmin.lean ====
abbrev S16x1024x32 : Shape := ⟨3, ![16, 1024, 32]⟩
abbrev S8192x32 : Shape := ⟨2, ![8192, 32]⟩
abbrev S16x1x1024 : Shape := ⟨3, ![16, 1, 1024]⟩
abbrev S8192x1 : Shape := ⟨2, ![8192, 1]⟩
abbrev S1x1024x32 : Shape := ⟨3, ![1, 1024, 32]⟩
abbrev S2048x32 : Shape := ⟨2, ![2048, 32]⟩
abbrev S1x1x1024 : Shape := ⟨3, ![1, 1, 1024]⟩
abbrev S2048x1 : Shape := ⟨2, ![2048, 1]⟩
abbrev S4096x1024 : Shape := ⟨2, ![4096, 1024]⟩
abbrev S1x1024 : Shape := ⟨2, ![1, 1024]⟩
abbrev S1024x32 : Shape := ⟨2, ![1024, 32]⟩
abbrev S2048x1024 : Shape := ⟨2, ![2048, 1024]⟩
abbrev S1024 : Shape := ⟨1, ![1024]⟩

abbrev nBuf : Space → Nat
  | .hbm => 5
  | .vmem => 15
  | .smem => 0
  | _ => 0

abbrev bufTy : (tb : Table) → Fin (tcTables nBuf tb) → BufTy
  | .hbm, ⟨0, _⟩ => ⟨S16x1024x32, .bf16⟩
  | .hbm, ⟨1, _⟩ => ⟨S8192x32, .bf16⟩
  | .hbm, ⟨2, _⟩ => ⟨S16x1x1024, .f32⟩
  | .hbm, ⟨3, _⟩ => ⟨S8192x1, .f32⟩
  | .hbm, ⟨4, _⟩ => ⟨S16x1x1024, .i32⟩
  | .local _ .vmem, ⟨0, _⟩ => ⟨S1x1024x32, .bf16⟩
  | .local _ .vmem, ⟨1, _⟩ => ⟨S1x1024x32, .bf16⟩
  | .local _ .vmem, ⟨2, _⟩ => ⟨S2048x32, .bf16⟩
  | .local _ .vmem, ⟨3, _⟩ => ⟨S2048x32, .bf16⟩
  | .local _ .vmem, ⟨4, _⟩ => ⟨S1x1x1024, .f32⟩
  | .local _ .vmem, ⟨5, _⟩ => ⟨S1x1x1024, .f32⟩
  | .local _ .vmem, ⟨6, _⟩ => ⟨S2048x1, .f32⟩
  | .local _ .vmem, ⟨7, _⟩ => ⟨S2048x1, .f32⟩
  | .local _ .vmem, ⟨8, _⟩ => ⟨S1x1x1024, .i32⟩
  | .local _ .vmem, ⟨9, _⟩ => ⟨S1x1x1024, .i32⟩
  | .local _ .vmem, ⟨10, _⟩ => ⟨S4096x1024, .f32⟩
  | .local _ .vmem, ⟨11, _⟩ => ⟨S1x1024, .f32⟩
  | .local _ .vmem, ⟨12, _⟩ => ⟨S1x1024, .i32⟩
  | .local _ .vmem, ⟨13, _⟩ => ⟨S1x1024, .f32⟩
  | .local _ .vmem, ⟨14, _⟩ => ⟨S1x1024, .i32⟩
  | _, _ => ⟨S16x1024x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_off1 (i : grid0.Coords) : Fin 2 → Nat :=
  let arg1 : BitVec 32 := BitVec.ofNat 32 (i 1).val
  let c2_i32 : BitVec 32 := 2#32
  let c0_i32 : BitVec 32 := 0#32
  let v11 : BitVec 1 := Scalar.cmpi .eq c2_i32 c0_i32
  let c1_i32 : BitVec 32 := 1#32
  let v12 : BitVec 32 := Scalar.select v11 c1_i32 c2_i32
  let v13 : BitVec 32 := Scalar.remsi arg1 v12
  let c0_i32_10 : BitVec 32 := 0#32
  let v15 : BitVec 1 := Scalar.cmpi .slt v13 c0_i32_10
  let c0_i32_11 : BitVec 32 := 0#32
  let v16 : BitVec 1 := Scalar.cmpi .slt v12 c0_i32_11
  let v17 : BitVec 1 := Scalar.xori v15 v16
  let c0_i32_9 : BitVec 32 := 0#32
  let v14 : BitVec 1 := Scalar.cmpi .ne v13 c0_i32_9
  let v18 : BitVec 1 := Scalar.andi v17 v14
  let v19 : BitVec 32 := Scalar.addi v13 v12
  let v20 : BitVec 32 := Scalar.select v18 v19 v13
  let c2048_i32 : BitVec 32 := 2048#32
  let v21 : BitVec 32 := Scalar.muli v20 c2048_i32
  let v22 : Index := Scalar.indexCast v21
  let c0_12 : Index := 0#32
  ![v22.toNat, 0]
def k0_cond6 (i : grid0.Coords) : BitVec 1 :=
  let arg1 : BitVec 32 := BitVec.ofNat 32 (i 1).val
  let c3_i32 : BitVec 32 := 3#32
  let v67 : BitVec 1 := Scalar.cmpi .eq arg1 c3_i32
  let v68 : BitVec 32 := Scalar.extui v67
  let c0_i32_38 : BitVec 32 := 0#32
  let v69 : BitVec 1 := Scalar.cmpi .ne v68 c0_i32_38
  v69

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NearestIdeal.lean ====
abbrev S16x1024x32 : Shape := ⟨3, ![16, 1024, 32]⟩
abbrev S8192x32 : Shape := ⟨2, ![8192, 32]⟩
abbrev S16x1x1024 : Shape := ⟨3, ![16, 1, 1024]⟩
abbrev S8192x1 : Shape := ⟨2, ![8192, 1]⟩
abbrev S16384x32 : Shape := ⟨2, ![16384, 32]⟩
abbrev S32x8192 : Shape := ⟨2, ![32, 8192]⟩
abbrev S16384x8192 : Shape := ⟨2, ![16384, 8192]⟩
abbrev S16384x1 : Shape := ⟨2, ![16384, 1]⟩
abbrev S1x8192 : Shape := ⟨2, ![1, 8192]⟩
abbrev S_ : Shape := ⟨0, ![]⟩
abbrev S16384 : Shape := ⟨1, ![16384]⟩

abbrev nBuf : Space → Nat
  | .hbm => 19
  | .vmem => 0
  | .smem => 0
  | _ => 0

abbrev bufTy : (tb : Table) → Fin (tcTables nBuf tb) → BufTy
  | .hbm, ⟨0, _⟩ => ⟨S16x1024x32, .bf16⟩
  | .hbm, ⟨1, _⟩ => ⟨S8192x32, .bf16⟩
  | .hbm, ⟨2, _⟩ => ⟨S16x1x1024, .f32⟩
  | .hbm, ⟨3, _⟩ => ⟨S8192x1, .f32⟩
  | .hbm, ⟨4, _⟩ => ⟨S16384x32, .bf16⟩
  | .hbm, ⟨5, _⟩ => ⟨S32x8192, .bf16⟩
  | .hbm, ⟨6, _⟩ => ⟨S16384x8192, .f32⟩
  | .hbm, ⟨7, _⟩ => ⟨S16384x1, .f32⟩
  | .hbm, ⟨8, _⟩ => ⟨S1x8192, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S16384x8192, .i32⟩
  | .hbm, ⟨14, _⟩ => ⟨S_, .f32⟩
  | .hbm, ⟨15, _⟩ => ⟨S_, .i32⟩
  | .hbm, ⟨16, _⟩ => ⟨S16384, .f32⟩
  | .hbm, ⟨17, _⟩ => ⟨S16384, .i32⟩
  | .hbm, ⟨18, _⟩ => ⟨S16x1x1024, .i32⟩
  | _, _ => ⟨S16x1024x32, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_cst : Ref sig .tc := ⟨.hbm, 14, rfl⟩
abbrev main_call0_c : Ref sig .tc := ⟨.hbm, 15, rfl⟩
abbrev main_call0_v1_0 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Finalize.lean ====
abbrev S16x1024x128 : Shape := ⟨3, ![16, 1024, 128]⟩
abbrev S16x1024x32 : Shape := ⟨3, ![16, 1024, 32]⟩
abbrev S1x1 : Shape := ⟨2, ![1, 1]⟩
abbrev S1x1024x128 : Shape := ⟨3, ![1, 1024, 128]⟩
abbrev S1x1024x32 : Shape := ⟨3, ![1, 1024, 32]⟩
abbrev S1024x128 : Shape := ⟨2, ![1024, 128]⟩
abbrev S1024x32 : Shape := ⟨2, ![1024, 32]⟩
abbrev S32 : Shape := ⟨1, ![32]⟩
abbrev S1x32 : Shape := ⟨2, ![1, 32]⟩
abbrev S1 : Shape := ⟨1, ![1]⟩
abbrev S1x1x1 : Shape := ⟨3, ![1, 1, 1]⟩

abbrev nBuf : Space → Nat
  | .hbm => 4
  | .vmem => 7
  | .smem => 1
  | _ => 0

abbrev bufTy : (tb : Table) → Fin (tcTables nBuf tb) → BufTy
  | .hbm, ⟨0, _⟩ => ⟨S16x1024x128, .f32⟩
  | .hbm, ⟨1, _⟩ => ⟨S16x1024x32, .f32⟩
  | .hbm, ⟨2, _⟩ => ⟨S16x1024x32, .f32⟩
  | .hbm, ⟨3, _⟩ => ⟨S1x1, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x32, .f32⟩
  | .local _ .vmem, ⟨3, _⟩ => ⟨S1x1024x32, .f32⟩
  | .local _ .vmem, ⟨4, _⟩ => ⟨S1x1024x32, .f32⟩
  | .local _ .vmem, ⟨5, _⟩ => ⟨S1x1024x32, .f32⟩
  | .local _ .vmem, ⟨6, _⟩ => ⟨S1x1, .f32⟩
  | .local _ .smem, ⟨0, _⟩ => ⟨S1x1, .f32⟩
  | _, _ => ⟨S16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v30 : BitVec 1 := Scalar.cmpi .eq arg0 c15_i32
  let v31 : BitVec 32 := Scalar.extui v30
  let c0_i32_13 : BitVec 32 := 0#32
  let v32 : BitVec 1 := Scalar.cmpi .ne v31 c0_i32_13
  v32

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== NormalisedIdeal.lean ====
abbrev S16x1024x128 : Shape := ⟨3, ![16, 1024, 128]⟩
abbrev S16x1024x32 : Shape := ⟨3, ![16, 1024, 32]⟩
abbrev S_ : Shape := ⟨0, ![]⟩
abbrev S16x32 : Shape := ⟨2, ![16, 32]⟩
abbrev S16x1x32 : Shape := ⟨3, ![16, 1, 32]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x1024x128, .f32⟩
  | .hbm, ⟨1, _⟩ => ⟨S16x1024x32, .f32⟩
  | .hbm, ⟨2, _⟩ => ⟨S16x1024x32, .f32⟩
  | .hbm, ⟨3, _⟩ => ⟨S16x1024x32, .f32⟩
  | .hbm, ⟨4, _⟩ => ⟨S_, .f32⟩
  | .hbm, ⟨5, _⟩ => ⟨S16x32, .f32⟩
  | .hbm, ⟨6, _⟩ => ⟨S16x1x32, .f32⟩
  | .hbm, ⟨7, _⟩ => ⟨S16x1x32, .f32⟩
  | .hbm, ⟨8, _⟩ => ⟨S_, .f32⟩
  | .hbm, ⟨9, _⟩ => ⟨S16x1x32, .f32⟩
  | .hbm, ⟨10, _⟩ => ⟨S16x1x32, .f32⟩
  | .hbm, ⟨11, _⟩ => ⟨S16x1024x32, .f32⟩
  | .hbm, ⟨12, _⟩ => ⟨S16x1024x32, .f32⟩
  | .hbm, ⟨13, _⟩ => ⟨S16x1024x32, .f32⟩
  | .hbm, ⟨14, _⟩ => ⟨S16x1024x32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16x1024x32, .f32⟩
  | .hbm, ⟨20, _⟩ => ⟨S16x1024x32, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16x1024x32, .f32⟩
  | .hbm, ⟨29, _⟩ => ⟨S16x1024x32, .f32⟩
  | .hbm, ⟨30, _⟩ => ⟨S1x1, .f32⟩
  | _, _ => ⟨S16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Gather.lean ====
abbrev S8192x128 : Shape := ⟨2, ![8192, 128]⟩
abbrev S16384 : Shape := ⟨1, ![16384]⟩
abbrev S16384x128 : Shape := ⟨2, ![16384, 128]⟩
abbrev S128 : Shape := ⟨1, ![128]⟩
abbrev S128x128 : Shape := ⟨2, ![128, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S8192x128, .f32⟩
  | .hbm, ⟨1, _⟩ => ⟨S16384, .i32⟩
  | .hbm, ⟨2, _⟩ => ⟨S16384x128, .f32⟩
  | .local .scVector .vmem, ⟨0, _⟩ => ⟨S128, .i32⟩
  | .local .scVector .vmem, ⟨1, _⟩ => ⟨S128x128, .f32⟩
  | _, _ => ⟨S8192x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_16_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Rows.lean ====
abbrev S8192x128 : Shape := ⟨2, ![8192, 128]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.ArgCall.lean ====
/-
  The argmin call as a program of its own: its body at one point of its grid, run at each of the four steps over the codebook: what it leaves
  in the scratch buffers and, at the last step, in the output block, as functions of the blocks it loads.
-/
module

public import proofs.«01_k».proof.Defs
public import Idealize.ShloMosaic.Lib.Pipeline.Frame
public import Idealize.ShloMosaic.Lib.Pipeline.FrameBody
public import Idealize.ShloMosaic.Lib.Claim
public import Idealize.ShloMosaic.Lib.Tactic
public import proofs.«01_k».proof.Proof.Gen.ArgminIdeal.Frame
public import proofs.«01_k».proof.Proof.Gen.ArgminIdeal.Skeleton
public import Idealize.ShloMosaic.Lib.VecWindow

@[expose] public section

noncomputable section

namespace Cert.Proof.ArgCall

open Cert.ArgminIdeal Cert.ArgminIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ (UR sig nD τ) ℕ

/-- Memref `M`'s buffer on core `c`: its contents' type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref owned is its buffer held at contents that read so. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f : Bf (F := F) c M, ⌜M.view.read (Elt F) f = X⌝ ∗ pt c M f) := by
  unfold owns; rw [hM.set_eq_univ]

section Run

variable (c : Dev nD) (i : grid0.Coords)
    (M0 : Memref sig .tc .vmem S1x1024x32 .bf16) (w0 : M0.IsWhole) (M1 : Memref sig .tc .vmem S2048x32 .bf16) (w1 : M1.IsWhole)
    (M2 : Memref sig .tc .vmem S1x1x1024 .f32) (w2 : M2.IsWhole) (M3 : Memref sig .tc .vmem S2048x1 .f32) (w3 : M3.IsWhole)
    (M4 : Memref sig .tc .vmem S1x1x1024 .i32) (w4 : M4.IsWhole) (M5 : Memref sig .tc .vmem S4096x1024 .f32) (w5 : M5.IsWhole)
    (M6 : Memref sig .tc .vmem S1x1024 .f32) (w6 : M6.IsWhole) (M7 : Memref sig .tc .vmem S1x1024 .i32) (w7 : M7.IsWhole)
    (M8 : Memref sig .tc .vmem S1x1024 .f32) (w8 : M8.IsWhole) (M9 : Memref sig .tc .vmem S1x1024 .i32) (w9 : M9.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) (f9 : Bf (F := F) c M9)

/-- The distance window of 4096 codes with one half, at row `o`, replaced by the distances of the 2048 codes loaded. -/
abbrev dwOf (o : ℕ) (x0 : Vec F S1x1024x32 .bf16) (x1 : Vec F S2048x32 .bf16) (x2 : Vec F S1x1x1024 .f32) (x3 : Vec F S2048x1 .f32) (dw : Vec F S4096x1024 .f32) : Vec F S4096x1024 .f32 :=
  VecWindow.put (s := S4096x1024) dw ![o, 0] ![2048, 1024] (k0_pay3 x0 x1 x2 x3)

/-- The first step of a first half: the window's first half filled, its running minimum started. -/
theorem run_k0 (hk : (i 1).val = 0) (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
        ∗ (iprop(∃ (g5 : Bf (F := F) c M5) (g6 : Bf (F := F) c M6), ⌜M5.view.read (Elt F) g5 = dwOf 0 (M0.view.read (Elt F) f0) (M1.view.read (Elt F) f1) (M2.view.read (Elt F) f2) (M3.view.read (Elt F) f3) (M5.view.read (Elt F) f5)
              ∧ M6.view.read (Elt F) g6 = k0_pay5 (k0_pay4 (M0.view.read (Elt F) f0) (M1.view.read (Elt F) f1) (M2.view.read (Elt F) f2) (M3.view.read (Elt F) f3))⌝
            ∗ pt c M0 f0 ∗ pt c M1 f1 ∗ pt c M2 f2 ∗ pt c M3 f3 ∗ pt c M4 f4 ∗ pt c M5 g5 ∗ pt c M6 g6 ∗ pt c M7 f7 ∗ pt c M8 f8 ∗ pt c M9 f9) -∗ Q ⟨⟩))
      ⊢ wp frame (wpE (defs₀ (F := F)) Variants.none c none) E (cc0__argmin_body i M0 w0 M1 w1 M2 w2 M3 w3 M4 w4 M5 w5 M6 w6 M7 w7 M8 w8 M9 w9) Q := by
  have hc6 : ¬ k0_cond6 i = 1#1 := by unfold k0_cond6; rw [hk]; decide
  have hoff : k0_off1 i = ![0, 0] := by unfold k0_off1; rw [hk]; decide
  letI : ClosedOff (k0_off1 i) := ⟨![0, 0], hoff⟩
  rw [cc0__argmin_body_eq_skeleton]
  unfold cc0__argmin_body_skel
  rw [k0_part1_eq_skeleton, k0_part2_eq_skeleton]
  unfold k0_part1_skel k0_part2_skel
  simp only [dif_neg hc6, hk, bind_assoc, pure_bind]
  simp (decide := true) only [dite_true, dite_false, pure_bind]
  iintro ⟨H0, H1, H2, H3, H4, H5, H6, H7, H8, H9, Hk⟩
  sl_exec!
  sl_step
  iapply Hk
  iexists _, _
  isplitr
  rotate_left
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · ipureintro
    refine ⟨(View.read_writes_cons_put M5.view _ _ _ _ hoff).trans ?_, (View.read_writes_full M6.view _ _ _ _).trans ?_⟩
    · rw [View.readAt_full, View.readAt_full, View.readAt_full, View.readAt_full]; rfl
    · rw [View.readAt_full, View.readAt_full, View.readAt_full, View.readAt_full]

/-- The second step: the window completed, its minimum and the first code that attains it taken as the best so far. -/
theorem run_k1 (hk : (i 1).val = 1) (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
        ∗ (iprop(∃ (g5 : Bf (F := F) c M5) (g6 : Bf (F := F) c M6) (g8 : Bf (F := F) c M8) (g9 : Bf (F := F) c M9), ⌜M5.view.read (Elt F) g5 = dwOf 2048 (M0.view.read (Elt F) f0) (M1.view.read (Elt F) f1) (M2.view.read (Elt F) f2) (M3.view.read (Elt F) f3) (M5.view.read (Elt F) f5)
              ∧ M6.view.read (Elt F) g6 = k0_pay6 (k0_pay4 (M0.view.read (Elt F) f0) (M1.view.read (Elt F) f1) (M2.view.read (Elt F) f2) (M3.view.read (Elt F) f3)) (M6.view.read (Elt F) f6)
              ∧ M8.view.read (Elt F) g8 = k0_pay9 (k0_pay6 (k0_pay4 (M0.view.read (Elt F) f0) (M1.view.read (Elt F) f1) (M2.view.read (Elt F) f2) (M3.view.read (Elt F) f3)) (M6.view.read (Elt F) f6))
              ∧ M9.view.read (Elt F) g9 = k0_pay10 1#32 (k0_pay6 (k0_pay4 (M0.view.read (Elt F) f0) (M1.view.read (Elt F) f1) (M2.view.read (Elt F) f2) (M3.view.read (Elt F) f3)) (M6.view.read (Elt F) f6)) (dwOf 2048 (M0.view.read (Elt F) f0) (M1.view.read (Elt F) f1) (M2.view.read (Elt F) f2) (M3.view.read (Elt F) f3) (M5.view.read (Elt F) f5))⌝
            ∗ pt c M0 f0 ∗ pt c M1 f1 ∗ pt c M2 f2 ∗ pt c M3 f3 ∗ pt c M4 f4 ∗ pt c M5 g5 ∗ pt c M6 g6 ∗ pt c M7 f7 ∗ pt c M8 g8 ∗ pt c M9 g9) -∗ Q ⟨⟩))
      ⊢ wp frame (wpE (defs₀ (F := F)) Variants.none c none) E (cc0__argmin_body i M0 w0 M1 w1 M2 w2 M3 w3 M4 w4 M5 w5 M6 w6 M7 w7 M8 w8 M9 w9) Q := by
  have hc6 : ¬ k0_cond6 i = 1#1 := by unfold k0_cond6; rw [hk]; decide
  have hoff : k0_off1 i = ![2048, 0] := by unfold k0_off1; rw [hk]; decide
  letI : ClosedOff (k0_off1 i) := ⟨![2048, 0], hoff⟩
  rw [cc0__argmin_body_eq_skeleton]
  unfold cc0__argmin_body_skel
  rw [k0_part1_eq_skeleton, k0_part2_eq_skeleton]
  unfold k0_part1_skel k0_part2_skel
  simp only [dif_neg hc6, hk, bind_assoc, pure_bind]
  simp (decide := true) only [dite_true, dite_false, pure_bind]
  iintro ⟨H0, H1, H2, H3, H4, H5, H6, H7, H8, H9, Hk⟩
  sl_exec!
  sl_step
  iapply Hk
  iexists _, _, _, _
  isplitr
  rotate_left
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · ipureintro
    have hcm : run_k1.sl.v70 c M0 M1 M2 M3 M6 f0 f1 f2 f3 f6 = k0_pay6 (k0_pay4 (M0.view.read (Elt F) f0) (M1.view.read (Elt F) f1) (M2.view.read (Elt F) f2) (M3.view.read (Elt F) f3)) (M6.view.read (Elt F) f6) := by
      refine (View.readCov_full M6.view _ _ _ _).trans ?_
      rw [View.readAt_full, View.readAt_full, View.readAt_full, View.readAt_full, View.readAt_full]
    have hdw : View.readAt (Elt F) M5.view (Rect.unit ![0, 0] ![4096, 1024] inb_S4096x1024_S4096x1024_0_0).toLoadRect
        (M5.view.writes (Elt F) f5 (run_k1.sl.H5_1 c i M0 M1 M2 M3 f0 f1 f2 f3)) = dwOf 2048 (M0.view.read (Elt F) f0) (M1.view.read (Elt F) f1) (M2.view.read (Elt F) f2) (M3.view.read (Elt F) f3) (M5.view.read (Elt F) f5) := by
      unfold run_k1.sl.H5_1
      rw [View.readAt_full]
      refine (View.read_writes_cons_put M5.view _ _ _ _ hoff).trans ?_
      rw [View.readAt_full, View.readAt_full, View.readAt_full, View.readAt_full]; rfl
    refine ⟨(View.read_writes_cons_put M5.view _ _ _ _ hoff).trans ?_, (View.read_writes_full M6.view _ _ _ _).trans ?_, (View.read_writes_full M8.view _ _ _ _).trans ?_, (View.read_writes_full M9.view _ _ _ _).trans ?_⟩
    · rw [View.readAt_full, View.readAt_full, View.readAt_full, View.readAt_full]; rfl
    · rw [View.readAt_full, View.readAt_full, View.readAt_full, View.readAt_full, View.readAt_full]
    · rw [hcm]
    · rw [hcm, hdw]

/-- The third step: as the first, the best so far kept. -/
theorem run_k2 (hk : (i 1).val = 2) (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
        ∗ (iprop(∃ (g5 : Bf (F := F) c M5) (g6 : Bf (F := F) c M6), ⌜M5.view.read (Elt F) g5 = dwOf 0 (M0.view.read (Elt F) f0) (M1.view.read (Elt F) f1) (M2.view.read (Elt F) f2) (M3.view.read (Elt F) f3) (M5.view.read (Elt F) f5)
              ∧ M6.view.read (Elt F) g6 = k0_pay5 (k0_pay4 (M0.view.read (Elt F) f0) (M1.view.read (Elt F) f1) (M2.view.read (Elt F) f2) (M3.view.read (Elt F) f3))⌝
            ∗ pt c M0 f0 ∗ pt c M1 f1 ∗ pt c M2 f2 ∗ pt c M3 f3 ∗ pt c M4 f4 ∗ pt c M5 g5 ∗ pt c M6 g6 ∗ pt c M7 f7 ∗ pt c M8 f8 ∗ pt c M9 f9) -∗ Q ⟨⟩))
      ⊢ wp frame (wpE (defs₀ (F := F)) Variants.none c none) E (cc0__argmin_body i M0 w0 M1 w1 M2 w2 M3 w3 M4 w4 M5 w5 M6 w6 M7 w7 M8 w8 M9 w9) Q := by
  have hc6 : ¬ k0_cond6 i = 1#1 := by unfold k0_cond6; rw [hk]; decide
  have hoff : k0_off1 i = ![0, 0] := by unfold k0_off1; rw [hk]; decide
  letI : ClosedOff (k0_off1 i) := ⟨![0, 0], hoff⟩
  rw [cc0__argmin_body_eq_skeleton]
  unfold cc0__argmin_body_skel
  rw [k0_part1_eq_skeleton, k0_part2_eq_skeleton]
  unfold k0_part1_skel k0_part2_skel
  simp only [dif_neg hc6, hk, bind_assoc, pure_bind]
  simp (decide := true) only [dite_true, dite_false, pure_bind]
  iintro ⟨H0, H1, H2, H3, H4, H5, H6, H7, H8, H9, Hk⟩
  sl_exec!
  sl_step
  iapply Hk
  iexists _, _
  isplitr
  rotate_left
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · ipureintro
    refine ⟨(View.read_writes_cons_put M5.view _ _ _ _ hoff).trans ?_, (View.read_writes_full M6.view _ _ _ _).trans ?_⟩
    · rw [View.readAt_full, View.readAt_full, View.readAt_full, View.readAt_full]; rfl
    · rw [View.readAt_full, View.readAt_full, View.readAt_full, View.readAt_full]

set_option maxHeartbeats 2000000 in
/-- The last step: the second window's minimum weighed against the best so far, and the index handed out. -/
theorem run_k3 (hk : (i 1).val = 3) (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
        ∗ (iprop(∃ (g5 : Bf (F := F) c M5) (g6 : Bf (F := F) c M6) (g8 : Bf (F := F) c M8) (g9 : Bf (F := F) c M9) (g4 : Bf (F := F) c M4), ⌜M5.view.read (Elt F) g5 = dwOf 2048 (M0.view.read (Elt F) f0) (M1.view.read (Elt F) f1) (M2.view.read (Elt F) f2) (M3.view.read (Elt F) f3) (M5.view.read (Elt F) f5)
              ∧ M6.view.read (Elt F) g6 = k0_pay6 (k0_pay4 (M0.view.read (Elt F) f0) (M1.view.read (Elt F) f1) (M2.view.read (Elt F) f2) (M3.view.read (Elt F) f3)) (M6.view.read (Elt F) f6)
              ∧ M8.view.read (Elt F) g8 = k0_pay12 (k0_pay6 (k0_pay4 (M0.view.read (Elt F) f0) (M1.view.read (Elt F) f1) (M2.view.read (Elt F) f2) (M3.view.read (Elt F) f3)) (M6.view.read (Elt F) f6)) (M8.view.read (Elt F) f8) (M8.view.read (Elt F) f8)
              ∧ M9.view.read (Elt F) g9 = k0_pay13 3#32 (k0_pay6 (k0_pay4 (M0.view.read (Elt F) f0) (M1.view.read (Elt F) f1) (M2.view.read (Elt F) f2) (M3.view.read (Elt F) f3)) (M6.view.read (Elt F) f6)) (dwOf 2048 (M0.view.read (Elt F) f0) (M1.view.read (Elt F) f1) (M2.view.read (Elt F) f2) (M3.view.read (Elt F) f3) (M5.view.read (Elt F) f5)) (M8.view.read (Elt F) f8) (M9.view.read (Elt F) f9)
              ∧ M4.view.read (Elt F) g4 = k0_pay1 (F := F) (k0_pay13 3#32 (k0_pay6 (k0_pay4 (M0.view.read (Elt F) f0) (M1.view.read (Elt F) f1) (M2.view.read (Elt F) f2) (M3.view.read (Elt F) f3)) (M6.view.read (Elt F) f6)) (dwOf 2048 (M0.view.read (Elt F) f0) (M1.view.read (Elt F) f1) (M2.view.read (Elt F) f2) (M3.view.read (Elt F) f3) (M5.view.read (Elt F) f5)) (M8.view.read (Elt F) f8) (M9.view.read (Elt F) f9))⌝
            ∗ pt c M0 f0 ∗ pt c M1 f1 ∗ pt c M2 f2 ∗ pt c M3 f3 ∗ pt c M4 g4 ∗ pt c M5 g5 ∗ pt c M6 g6 ∗ pt c M7 f7 ∗ pt c M8 g8 ∗ pt c M9 g9) -∗ Q ⟨⟩))
      ⊢ wp frame (wpE (defs₀ (F := F)) Variants.none c none) E (cc0__argmin_body i M0 w0 M1 w1 M2 w2 M3 w3 M4 w4 M5 w5 M6 w6 M7 w7 M8 w8 M9 w9) Q := by
  have hc6 : k0_cond6 i = 1#1 := by unfold k0_cond6; rw [hk]; decide
  have hoff : k0_off1 i = ![2048, 0] := by unfold k0_off1; rw [hk]; decide
  letI : ClosedOff (k0_off1 i) := ⟨![2048, 0], hoff⟩
  rw [cc0__argmin_body_eq_skeleton]
  unfold cc0__argmin_body_skel
  rw [k0_part1_eq_skeleton, k0_part2_eq_skeleton]
  unfold k0_part1_skel k0_part2_skel
  simp only [dif_pos hc6, hk, bind_assoc, pure_bind]
  simp (decide := true) only [dite_true, dite_false, pure_bind]
  iintro ⟨H0, H1, H2, H3, H4, H5, H6, H7, H8, H9, Hk⟩
  sl_exec!
  sl_step
  iapply Hk
  iexists _, _, _, _, _
  isplitr
  rotate_left
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · ipureintro
    have hcm : run_k3.sl.v70 c M0 M1 M2 M3 M6 f0 f1 f2 f3 f6 = k0_pay6 (k0_pay4 (M0.view.read (Elt F) f0) (M1.view.read (Elt F) f1) (M2.view.read (Elt F) f2) (M3.view.read (Elt F) f3)) (M6.view.read (Elt F) f6) := by
      refine (View.readCov_full M6.view _ _ _ _).trans ?_
      rw [View.readAt_full, View.readAt_full, View.readAt_full, View.readAt_full, View.readAt_full]
    have hdw : View.readAt (Elt F) M5.view (Rect.unit ![0, 0] ![4096, 1024] inb_S4096x1024_S4096x1024_0_0).toLoadRect
        (M5.view.writes (Elt F) f5 (run_k3.sl.H5_1 c i M0 M1 M2 M3 f0 f1 f2 f3)) = dwOf 2048 (M0.view.read (Elt F) f0) (M1.view.read (Elt F) f1) (M2.view.read (Elt F) f2) (M3.view.read (Elt F) f3) (M5.view.read (Elt F) f5) := by
      unfold run_k3.sl.H5_1
      rw [View.readAt_full]
      refine (View.read_writes_cons_put M5.view _ _ _ _ hoff).trans ?_
      rw [View.readAt_full, View.readAt_full, View.readAt_full, View.readAt_full]; rfl
    refine ⟨(View.read_writes_cons_put M5.view _ _ _ _ hoff).trans ?_, (View.read_writes_full M6.view _ _ _ _).trans ?_, (View.read_writes_full M8.view _ _ _ _).trans ?_, (View.read_writes_full M9.view _ _ _ _).trans ?_, (View.read_writes_full M4.view _ _ _ _).trans ?_⟩
    · rw [View.readAt_full, View.readAt_full, View.readAt_full, View.readAt_full]; rfl
    · rw [View.readAt_full, View.readAt_full, View.readAt_full, View.readAt_full, View.readAt_full]
    · rw [hcm, View.readAt_full]
    · rw [hcm, hdw, View.readAt_full, View.readAt_full]
    · refine congrArg (k0_pay1 (F := F)) ((View.readCov_full M9.view _ _ _ _).trans ?_)
      rw [hcm, hdw, View.readAt_full, View.readAt_full]

end Run

end Cert.Proof.ArgCall
-- ==== Proof.ArgCallReg.lean ====
/-
  The argmin region: the proof data of one entry of it from a valuation of the TensorCore's buffers, and the library's
  body obligation. Four points make one block of 1024 rows; the invariant says what the scratches hold between them.
-/
module

public import proofs.«01_k».proof.Proof.ArgCall
public import Idealize.ShloMosaic.Lib.ValueIdx

@[expose] public section

noncomputable section

namespace Cert.Proof.ArgCall

open Cert.ArgminIdeal Cert.ArgminIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The generator's register, at some state. -/
abbrev rest0 (c : Dev nD) : sProp 𝕄 := iprop(∃ r, prngReg c r)

/-- A scratch held at something. -/
abbrev some0 (c : Dev nD) {sp : Space} {S : Shape} {e : EltTy} (M : Memref sig .tc sp S e) : sProp 𝕄 := iprop(∃ f : Bf (F := F) c M, pt c M f)

/-- Point `n` of the sixty-four. -/
def pt0 (n : ℕ) : Fin grid0.N := ⟨n % 64, Nat.lt_of_lt_of_eq (Nat.mod_lt _ (by decide)) N_0.symm⟩
theorem pt0_val (t : Fin grid0.N) : pt0 t.val = t := Fin.ext (Nat.mod_eq_of_lt (Nat.lt_of_lt_of_eq t.isLt N_0))

/-- The blocks the body loads at point `t`. -/
abbrev X0_0 (c : Dev nD) (t : Fin grid0.N) : Vec F S1x1024x32 .bf16 := ((cfg0.win 0).blk t).view.read (Elt F) (V c main_arg0)
abbrev X0_1 (c : Dev nD) (t : Fin grid0.N) : Vec F S2048x32 .bf16 := ((cfg0.win 1).blk t).view.read (Elt F) (V c main_arg1)
abbrev X0_2 (c : Dev nD) (t : Fin grid0.N) : Vec F S1x1x1024 .f32 := ((cfg0.win 2).blk t).view.read (Elt F) (V c main_arg2)
abbrev X0_3 (c : Dev nD) (t : Fin grid0.N) : Vec F S2048x1 .f32 := ((cfg0.win 3).blk t).view.read (Elt F) (V c main_arg3)

/-- The distances of the 2048 codes of point `n`, and their column minima. -/
def dist (c : Dev nD) (n : ℕ) : Vec F S2048x1024 .f32 := k0_pay3 (X0_0 V c (pt0 n)) (X0_1 V c (pt0 n)) (X0_2 V c (pt0 n)) (X0_3 V c (pt0 n))
def mins (c : Dev nD) (n : ℕ) := k0_pay4 (X0_0 V c (pt0 n)) (X0_1 V c (pt0 n)) (X0_2 V c (pt0 n)) (X0_3 V c (pt0 n))

/-- Two halves of 2048 rows as one window of 4096. -/
def halves (lo hi : Vec F S2048x1024 .f32) : Vec F S4096x1024 .f32 := fun j =>
  if h : (j 0).val < 2048 then lo (ix2 ⟨(j 0).val, h⟩ (j 1)) else hi (ix2 ⟨(j 0).val - 2048, by have := (j 0).isLt; change _ < 4096 at this; omega⟩ (j 1))

theorem halves_eq (lo hi : Vec F S2048x1024 .f32) (d : Vec F S4096x1024 .f32) :
    VecWindow.put (s := S4096x1024) (VecWindow.put (s := S4096x1024) d ![0, 0] ![2048, 1024] lo) ![2048, 0] ![2048, 1024] hi = halves lo hi := by
  funext j
  have j0 : (j 0).val < 4096 := (j 0).isLt
  have j1 : (j 1).val < 1024 := (j 1).isLt
  unfold halves
  by_cases h : (j 0).val < 2048
  · rw [dif_pos h]
    unfold VecWindow.put
    rw [dif_neg (fun hh => by have := (hh 0).1; change 2048 ≤ _ at this; omega),
      dif_pos (fun a => by fin_cases a <;> [exact ⟨Nat.zero_le _, (by omega : (j 0).val < 0 + 2048)⟩; exact ⟨Nat.zero_le _, (by omega : (j 1).val < 0 + 1024)⟩])]
    congr 1
    funext a
    fin_cases a <;> exact Fin.ext (Nat.sub_zero _)
  · rw [dif_neg h]
    unfold VecWindow.put
    rw [dif_pos (fun a => by fin_cases a <;> [exact ⟨(by omega : 2048 ≤ (j 0).val), (by omega : (j 0).val < 2048 + 2048)⟩; exact ⟨Nat.zero_le _, (by omega : (j 1).val < 0 + 1024)⟩])]
    congr 1
    funext a
    fin_cases a <;> [exact Fin.ext (show (j 0).val - 2048 = (j 0).val - 2048 from rfl); exact Fin.ext (Nat.sub_zero _)]

/-- The window of the points `m` and `m + 1`, and its column minima. -/
def win2k (c : Dev nD) (m : ℕ) : Vec F S4096x1024 .f32 := halves (dist V c m) (dist V c (m + 1))
def cmin (c : Dev nD) (m : ℕ) : Vec F S1x1024 .f32 := k0_pay6 (mins V c (m + 1)) (k0_pay5 (mins V c m))
/-- The best so far after the first window of a block that starts at point `m`. -/
def best (c : Dev nD) (m : ℕ) : Vec F S1x1024 .f32 := k0_pay9 (cmin V c m)
def bestIx (c : Dev nD) (m : ℕ) : Vec F S1x1024 .i32 := k0_pay10 1#32 (cmin V c m) (win2k V c m)
/-- The indices of the block that starts at point `m`. -/
def res0 (c : Dev nD) (m : ℕ) : Vec F S1x1x1024 .i32 :=
  k0_pay1 (F := F) (k0_pay13 3#32 (cmin V c (m + 2)) (win2k V c (m + 2)) (best V c m) (bestIx V c m))

/-- What the scratches hold before position `n`. -/
def Inv0 (c : Dev nD) (n : ℕ) (dw : Vec F S4096x1024 .f32) (cm mn : Vec F S1x1024 .f32) (ix : Vec F S1x1024 .i32) : Prop :=
  (n % 4 = 1 ∨ n % 4 = 3 → (∃ d, dw = VecWindow.put (s := S4096x1024) d ![0, 0] ![2048, 1024] (dist V c (n - 1))) ∧ cm = k0_pay5 (mins V c (n - 1)))
    ∧ (n % 4 = 2 → mn = best V c (n - 2) ∧ ix = bestIx V c (n - 2))
    ∧ (n % 4 = 3 → mn = best V c (n - 3) ∧ ix = bestIx V c (n - 3))

/-- The invariant before position `n`. -/
def Phi0 (c : Dev nD) (n : ℕ) : sProp 𝕄 :=
  iprop((∃ (f5 : Bf (F := F) c (Memref.whole cc0_scratch0)) (f6 : Bf (F := F) c (Memref.whole cc0_scratch1)) (f7 : Bf (F := F) c (Memref.whole cc0_scratch2))
      (f8 : Bf (F := F) c (Memref.whole cc0_scratch3)) (f9 : Bf (F := F) c (Memref.whole cc0_scratch4)),
    ⌜Inv0 V c n f5 f6 f8 f9⌝ ∗ pt c (Memref.whole cc0_scratch0) f5 ∗ pt c (Memref.whole cc0_scratch1) f6 ∗ pt c (Memref.whole cc0_scratch2) f7
      ∗ pt c (Memref.whole cc0_scratch3) f8 ∗ pt c (Memref.whole cc0_scratch4) f9) ∗ rest0 c)

/-- The proof data of the region entered at `V`. -/
def dat0 (c : Dev nD) : Dat τ (Elt F) Unit ℕ (UR sig nD τ) ℕ cfg0 c where
  A w := V c (Pipeline.arrRef spec0 w)
  after w t := match w with
    | ⟨0, _⟩ => X0_0 V c t
    | ⟨1, _⟩ => X0_1 V c t
    | ⟨2, _⟩ => X0_2 V c t
    | ⟨3, _⟩ => X0_3 V c t
    | ⟨4, _⟩ => res0 V c (t.val - 3)
  Φ t := Phi0 V c t.val
  q _ := fullShare
  owed _ := 0

theorem before0_0 (c : Dev nD) (t : Fin grid0.N) (d) : (dat0 V c).before 0 t d = X0_0 V c t :=
  (dat0 V c).before_in_eq_fetched 0 rfl (fun _ => rfl) (fun _ _ _ => rfl) (fun _ => rfl) t d
theorem before0_1 (c : Dev nD) (t : Fin grid0.N) (d) : (dat0 V c).before 1 t d = X0_1 V c t :=
  (dat0 V c).before_in_eq_fetched 1 rfl (fun _ => rfl) (fun _ _ _ => rfl) (fun _ => rfl) t d
theorem before0_2 (c : Dev nD) (t : Fin grid0.N) (d) : (dat0 V c).before 2 t d = X0_2 V c t :=
  (dat0 V c).before_in_eq_fetched 2 rfl (fun _ => rfl) (fun _ _ _ => rfl) (fun _ => rfl) t d
theorem before0_3 (c : Dev nD) (t : Fin grid0.N) (d) : (dat0 V c).before 3 t d = X0_3 V c t :=
  (dat0 V c).before_in_eq_fetched 3 rfl (fun _ => rfl) (fun _ _ _ => rfl) (fun _ => rfl) t d

theorem coord0_1 : ∀ t : Fin grid0.N, (grid0.coords t 1).val = t.val % 4 := by decide
theorem last0 : ∀ t : Fin grid0.N, k0_cond6 (grid0.coords t) = 1#1 ↔ t.val % 4 = 3 := by decide

set_option maxHeartbeats 4000000 in
theorem body0 (c : Dev nD) : BodyObligation (dat0 V c) (defs₀ (F := F)) Variants.none () Set.univ := fun t => by
  have hlt : t.val < 64 := Nat.lt_of_lt_of_eq t.isLt N_0
  have hd : k0_pay3 (X0_0 V c t) (X0_1 V c t) (X0_2 V c t) (X0_3 V c t) = dist V c t.val := by unfold dist; rw [pt0_val]
  have hm : k0_pay4 (X0_0 V c t) (X0_1 V c t) (X0_2 V c t) (X0_3 V c t) = mins V c t.val := by unfold mins; rw [pt0_val]
  rw [bigSep_W0, bigSep_W0]
  dsimp only
  simp only [before0_0, before0_1, before0_2, before0_3]
  simp only [owns_pt c _ (stage_whole0 0 _), owns_pt c _ (stage_whole0 1 _), owns_pt c _ (stage_whole0 2 _), owns_pt c _ (stage_whole0 3 _), owns_pt c _ (stage_whole0 4 _)]
  rw [show (dat0 V c).Φ t.castSucc = Phi0 V c t.val from rfl, show (dat0 V c).Φ t.succ = Phi0 V c (t.val + 1) from rfl,
    show (dat0 V c).owesAt () t.succ = (dat0 V c).owesAt () t.castSucc from rfl]
  unfold Phi0
  show _ ⊢ wp _ _ _ (bodyAt0 t) _
  iintro ⟨⟨⟨%f5, %f6, %f7, %f8, %f9, %hI, H5, H6, H7, H8, H9⟩, HR⟩, HO, ⟨%d0, %f0, %hf0, H0⟩, ⟨%d1, %f1, %hf1, H1⟩, ⟨%d2, %f2, %hf2, H2⟩, ⟨%d3, %f3, %hf3, H3⟩, ⟨%d4, %f4, %hf4, H4⟩⟩
  obtain ⟨hA, hB, hC⟩ := hI
  have hk : (grid0.coords t 1).val = 0 ∨ (grid0.coords t 1).val = 1 ∨ (grid0.coords t 1).val = 2 ∨ (grid0.coords t 1).val = 3 := by
    rw [coord0_1]; omega
  rcases hk with hk | hk | hk | hk
  · have h4 : t.val % 4 = 0 := (coord0_1 t).symm.trans hk
    have hi : idle0 4 (grid0.coords t) = true := by
      show (!(k0_cond6 (grid0.coords t) == 1#1)) = true
      rw [Bool.not_eq_true', beq_eq_false_iff_ne]; exact fun h => by have := (last0 t).mp h; omega
    have hf : (win0 4).flush t = false := by
      rw [Bool.eq_false_iff]; exact fun h => by have := (flush0_4 t).mp h; omega
    rw [hi, hf]
    iapply run_k0 c (grid0.coords t) (st0_0 t) _ (st0_1 t) _ (st0_2 t) _ (st0_3 t) _ (st0_4 t) _ (Memref.whole cc0_scratch0) _ (Memref.whole cc0_scratch1) _
      (Memref.whole cc0_scratch2) _ (Memref.whole cc0_scratch3) _ (Memref.whole cc0_scratch4) _ f0 f1 f2 f3 f4 f5 f6 f7 f8 f9 hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨%g5, %g6, %hg, H0, H1, H2, H3, H4, H5, H6, H7, H8, H9⟩
    rw [hf0, hf1, hf2, hf3] at hg
    unfold dwOf at hg
    rw [hd, hm] at hg
    isplitl [H5 H6 H7 H8 H9 HR]
    · isplitl [H5 H6 H7 H8 H9]
      · iexists g5, g6, f7, f8, f9
        isplitr
        · ipureintro
          exact ⟨fun _ => ⟨⟨_, hg.1⟩, hg.2⟩, fun h => absurd h (by omega), fun h => absurd h (by omega)⟩
        isplitl [H5]; · iexact H5
        isplitl [H6]; · iexact H6
        isplitl [H7]; · iexact H7
        isplitl [H8]; · iexact H8
        iexact H9
      · iexact HR
    isplitl [HO]; · iexact HO
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    isplitl [H3]; · iexists f3; isplitr; (· ipureintro; exact hf3); iexact H3
    iexists d4, f4; isplitr; (· ipureintro; exact hf4); iexact H4
  · have h4 : t.val % 4 = 1 := (coord0_1 t).symm.trans hk
    have hi : idle0 4 (grid0.coords t) = true := by
      show (!(k0_cond6 (grid0.coords t) == 1#1)) = true
      rw [Bool.not_eq_true', beq_eq_false_iff_ne]; exact fun h => by have := (last0 t).mp h; omega
    have hf : (win0 4).flush t = false := by
      rw [Bool.eq_false_iff]; exact fun h => by have := (flush0_4 t).mp h; omega
    rw [hi, hf]
    iapply run_k1 c (grid0.coords t) (st0_0 t) _ (st0_1 t) _ (st0_2 t) _ (st0_3 t) _ (st0_4 t) _ (Memref.whole cc0_scratch0) _ (Memref.whole cc0_scratch1) _
      (Memref.whole cc0_scratch2) _ (Memref.whole cc0_scratch3) _ (Memref.whole cc0_scratch4) _ f0 f1 f2 f3 f4 f5 f6 f7 f8 f9 hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨%g5, %g6, %g8, %g9, %hg, H0, H1, H2, H3, H4, H5, H6, H7, H8, H9⟩
    rw [hf0, hf1, hf2, hf3] at hg
    unfold dwOf at hg
    rw [hd, hm] at hg
    obtain ⟨⟨dw0, hdw⟩, hcm⟩ := hA (by omega)
    rw [show (Memref.whole cc0_scratch0).view.read (Elt F) f5 = _ from hdw, show (Memref.whole cc0_scratch1).view.read (Elt F) f6 = _ from hcm, halves_eq] at hg
    have e1 : t.val - 1 + 1 = t.val := by omega
    have hw : halves (dist V c (t.val - 1)) (dist V c t.val) = win2k V c (t.val - 1) := by unfold win2k; rw [e1]
    have hc : k0_pay6 (mins V c t.val) (k0_pay5 (mins V c (t.val - 1))) = cmin V c (t.val - 1) := by unfold cmin; rw [e1]
    rw [hw, hc] at hg
    isplitl [H5 H6 H7 H8 H9 HR]
    · isplitl [H5 H6 H7 H8 H9]
      · iexists g5, g6, f7, g8, g9
        isplitr
        · ipureintro
          refine ⟨fun h => absurd h (by omega), fun _ => ?_, fun h => absurd h (by omega)⟩
          rw [show t.val + 1 - 2 = t.val - 1 by omega]
          exact ⟨hg.2.2.1, hg.2.2.2⟩
        isplitl [H5]; · iexact H5
        isplitl [H6]; · iexact H6
        isplitl [H7]; · iexact H7
        isplitl [H8]; · iexact H8
        iexact H9
      · iexact HR
    isplitl [HO]; · iexact HO
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    isplitl [H3]; · iexists f3; isplitr; (· ipureintro; exact hf3); iexact H3
    iexists d4, f4; isplitr; (· ipureintro; exact hf4); iexact H4
  · have h4 : t.val % 4 = 2 := (coord0_1 t).symm.trans hk
    have hi : idle0 4 (grid0.coords t) = true := by
      show (!(k0_cond6 (grid0.coords t) == 1#1)) = true
      rw [Bool.not_eq_true', beq_eq_false_iff_ne]; exact fun h => by have := (last0 t).mp h; omega
    have hf : (win0 4).flush t = false := by
      rw [Bool.eq_false_iff]; exact fun h => by have := (flush0_4 t).mp h; omega
    rw [hi, hf]
    iapply run_k2 c (grid0.coords t) (st0_0 t) _ (st0_1 t) _ (st0_2 t) _ (st0_3 t) _ (st0_4 t) _ (Memref.whole cc0_scratch0) _ (Memref.whole cc0_scratch1) _
      (Memref.whole cc0_scratch2) _ (Memref.whole cc0_scratch3) _ (Memref.whole cc0_scratch4) _ f0 f1 f2 f3 f4 f5 f6 f7 f8 f9 hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨%g5, %g6, %hg, H0, H1, H2, H3, H4, H5, H6, H7, H8, H9⟩
    rw [hf0, hf1, hf2, hf3] at hg
    unfold dwOf at hg
    rw [hd, hm] at hg
    isplitl [H5 H6 H7 H8 H9 HR]
    · isplitl [H5 H6 H7 H8 H9]
      · iexists g5, g6, f7, f8, f9
        isplitr
        · ipureintro
          refine ⟨fun _ => ⟨⟨_, hg.1⟩, hg.2⟩, fun h => absurd h (by omega), fun _ => ?_⟩
          rw [show t.val + 1 - 3 = t.val - 2 by omega]
          exact hB h4
        isplitl [H5]; · iexact H5
        isplitl [H6]; · iexact H6
        isplitl [H7]; · iexact H7
        isplitl [H8]; · iexact H8
        iexact H9
      · iexact HR
    isplitl [HO]; · iexact HO
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    isplitl [H3]; · iexists f3; isplitr; (· ipureintro; exact hf3); iexact H3
    iexists d4, f4; isplitr; (· ipureintro; exact hf4); iexact H4
  · have h4 : t.val % 4 = 3 := (coord0_1 t).symm.trans hk
    have hi : idle0 4 (grid0.coords t) = false := by
      show (!(k0_cond6 (grid0.coords t) == 1#1)) = false
      rw [Bool.not_eq_false', beq_iff_eq]; exact (last0 t).mpr h4
    rw [hi]
    iapply run_k3 c (grid0.coords t) (st0_0 t) _ (st0_1 t) _ (st0_2 t) _ (st0_3 t) _ (st0_4 t) _ (Memref.whole cc0_scratch0) _ (Memref.whole cc0_scratch1) _
      (Memref.whole cc0_scratch2) _ (Memref.whole cc0_scratch3) _ (Memref.whole cc0_scratch4) _ f0 f1 f2 f3 f4 f5 f6 f7 f8 f9 hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨%g5, %g6, %g8, %g9, %g4, %hg, H0, H1, H2, H3, H4, H5, H6, H7, H8, H9⟩
    rw [hf0, hf1, hf2, hf3] at hg
    unfold dwOf at hg
    rw [hd, hm] at hg
    obtain ⟨⟨dw0, hdw⟩, hcm⟩ := hA (by omega)
    rw [show (Memref.whole cc0_scratch0).view.read (Elt F) f5 = _ from hdw, show (Memref.whole cc0_scratch1).view.read (Elt F) f6 = _ from hcm, halves_eq] at hg
    have e1 : t.val - 1 + 1 = t.val := by omega
    have hw : halves (dist V c (t.val - 1)) (dist V c t.val) = win2k V c (t.val - 1) := by unfold win2k; rw [e1]
    have hc : k0_pay6 (mins V c t.val) (k0_pay5 (mins V c (t.val - 1))) = cmin V c (t.val - 1) := by unfold cmin; rw [e1]
    rw [hw, hc] at hg
    obtain ⟨hmn, hix⟩ := hC h4
    rw [show (Memref.whole cc0_scratch3).view.read (Elt F) f8 = _ from hmn, show (Memref.whole cc0_scratch4).view.read (Elt F) f9 = _ from hix] at hg
    have e3 : t.val - 3 + 2 = t.val - 1 := by omega
    isplitl [H5 H6 H7 H8 H9 HR]
    · isplitl [H5 H6 H7 H8 H9]
      · iexists g5, g6, f7, g8, g9
        isplitr
        · ipureintro
          exact ⟨fun h => absurd h (by omega), fun h => absurd h (by omega), fun h => absurd h (by omega)⟩
        isplitl [H5]; · iexact H5
        isplitl [H6]; · iexact H6
        isplitl [H7]; · iexact H7
        isplitl [H8]; · iexact H8
        iexact H9
      · iexact HR
    isplitl [HO]; · iexact HO
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    isplitl [H3]; · iexists f3; isplitr; (· ipureintro; exact hf3); iexact H3
    iexists g4; isplitr; (· ipureintro; refine hg.2.2.2.2.trans ?_; show _ = res0 V c (t.val - 3); unfold res0; rw [e3]); iexact H4

/-! ## The launch -/

variable (m : (ℓ : Loc nD τ sig) → Buf (Elt F) ℓ) (ρ : Dev nD → PrngReg)

/-- The proof data of the one pipeline, its arrays as launched. -/
def dats (_ : Fin 1) (c : Dev nD) : Dat τ (Elt F) Unit ℕ (UR sig nD τ) ℕ cfg0 c := dat0 (Gen.V m) c

/-- Before the first point the scratches hold anything. -/
theorem hin (c : Dev nD) : Pipeline.ΦA spec0 c ⊢ (dats m 0 c).Φ 0 := by
  show _ ⊢ Phi0 (Gen.V m) c 0
  unfold Pipeline.ΦA Phi0
  rw [scopedRest0_eq]
  iintro ⟨⟨⟨%f5, H5⟩, ⟨%f6, H6⟩, ⟨%f7, H7⟩, ⟨%f8, H8⟩, ⟨%f9, H9⟩⟩, HR⟩
  isplitl [H5 H6 H7 H8 H9]
  · iexists f5, f6, f7, f8, f9
    isplitr
    · ipureintro
      exact ⟨fun h => absurd h (by decide), fun h => absurd h (by decide), fun h => absurd h (by decide)⟩
    isplitl [H5]; · iexact H5
    isplitl [H6]; · iexact H6
    isplitl [H7]; · iexact H7
    isplitl [H8]; · iexact H8
    iexact H9
  iexact HR

/-- After the last point what they hold is forgotten. -/
theorem hout (c : Dev nD) : (dats m 0 c).Φ (Fin.last cfg0.N) ⊢ Pipeline.ΦA spec0 c := by
  show Phi0 (Gen.V m) c cfg0.N ⊢ _
  unfold Pipeline.ΦA Phi0
  rw [scopedRest0_eq]
  iintro ⟨⟨%f5, %f6, %f7, %f8, %f9, -, H5, H6, H7, H8, H9⟩, HR⟩
  isplitl [H5 H6 H7 H8 H9]
  · isplitl [H5]; · iexists f5; iexact H5
    isplitl [H6]; · iexists f6; iexact H6
    isplitl [H7]; · iexists f7; iexact H7
    isplitl [H8]; · iexists f8; iexact H8
    iexists f9; iexact H9
  iexact HR

set_option backward.isDefEq.respectTransparency.types false in
/-- The run: every array of the call as the proof data compute it, every counter at zero. -/
theorem run_main_quiescent : θ_run defs (onTc (τ := τ) (main (F := F))) (s₀ m ρ) (fun r => Pipeline.FramePost cfgs (dats m) 0 (Gen.V m) r ∧ r.2.sem = fun _ => 0) :=
  Pipeline.θ_run_frame_track (Q' := _) cfgs (dats m) (0 : Fin 1) launch0 defs₀ Variants.none m ρ main
    (hbody := fun c => (body0 (Gen.V m) c).loose) (hshare := fun c => (dats m 0 c).share_full fun _ => rfl)
    (howed := fun _ _ => rfl) (V := Gen.V m) (hmain := hmain m Variants.none) (hA := fun _ _ => rfl) (hin := hin m) (hout := hout m)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (fun _ _ => rfl) ((θ_run defs _ _).mono (fun _ h => h.1) (run_main_quiescent m ρ)))
    ((θ_run defs _ _).mono (fun _ h => h.2) (run_main_quiescent m ρ))

end Cert.Proof.ArgCall
-- ==== Proof.Base.lean ====
/-
  The whole kernel: what its parts share. The program as the launch theorem sees it, the resource algebra, and the
  TensorCore regions' common conditions.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.FrameBody
public import Idealize.ShloMosaic.Lib.Pipeline.RegionArrays
public import Idealize.ShloMosaic.Lib.Pipeline.RegionArraysS
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The algebra of ghost states: the staging cells' rounds, the handshakes' rounds, the local transfers' counters. -/
abbrev UP : Type := URounds (GSem nD τ sig) Unit
abbrev UH : Type := URounds (GSem nD τ sig) ℕ
abbrev UU : Type := UP × (UH × Counters)

local notation "𝕄" => MT nD τ sig (HIx 1) (Elt F) ℕ UU ℕ

abbrev EP : Emb UP (MT nD τ sig (HIx 1) (Elt F) ℕ UU ℕ) := embL
abbrev EH : Emb UH (MT nD τ sig (HIx 1) (Elt F) ℕ UU ℕ) := (Emb.inl : Emb UH (UH × Counters)).trans embR

instance : (EH (F := F)).LandsIn (upEmb : UEmb _ (MT nD τ sig (HIx 1) (Elt F) ℕ UU ℕ)) := by unfold EH; infer_instance

/-- Memref `M`'s buffer on core `c`: its contents' type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.Proof.Whole

end
-- ==== Proof.Finalize.lean ====
/-
  The finalize kernel's body at one point of its grid, run in each of its three cases (the first point, a later
  one, the last one): what it leaves in the two output blocks and in the accumulator, as functions of the blocks
  it loads.
-/
module

public import proofs.«01_k».proof.Proof.Base
public import Idealize.ShloMosaic.Lib.VecWindow

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The body's test for the first point, and for a later one. -/
abbrev isFirst (b : ℕ) : BitVec 1 := Scalar.cmpi .ne (Scalar.extui (Scalar.cmpi .eq (BitVec.ofNat 32 b) 0#32)) 0#32
abbrev isLater (b : ℕ) : BitVec 1 := Scalar.cmpi .ne (Scalar.extui (Scalar.cmpi .sgt (BitVec.ofNat 32 b) 0#32)) 0#32

section Run

variable (c : Dev nD) (i : grid2.Coords)
    (M0 : Memref sig .tc .vmem S1x1024x128 .f32) (w0 : M0.IsWhole) (M1 : Memref sig .tc .vmem S1x1024x32 .f32) (w1 : M1.IsWhole)
    (M2 : Memref sig .tc .vmem S1x1024x32 .f32) (w2 : M2.IsWhole) (M3 : Memref sig .tc .vmem S1x1 .f32) (w3 : M3.IsWhole)
    (M4 : Memref sig .tc .smem S1x1 .f32) (w4 : M4.IsWhole)
    (f0 : Bf (F := F) c M0) (f1 : Bf (F := F) c M1) (f2 : Bf (F := F) c M2) (f3 : Bf (F := F) c M3) (f4 : Bf (F := F) c M4)

/-- The first point: the output block written, the accumulator started. -/
theorem run_first (h1 : isFirst (i 0).val = 1#1) (h2 : ¬ isLater (i 0).val = 1#1) (h3 : ¬ k2_cond3 i = 1#1) (E : Set ℕ) (Q : PUnit → sProp 𝕄) :
    iprop(pt c M0 f0 ∗ pt c M1 f1 ∗ pt c M2 f2 ∗ pt c M3 f3 ∗ pt c M4 f4
        ∗ (iprop(∃ (g2 : Bf (F := F) c M2) (g4 : Bf (F := F) c M4), ⌜M2.view.read (Elt F) g2 = k2_pay3 (M0.view.read (Elt F) f0) (M1.view.read (Elt F) f1)
              ∧ M4.view.read (Elt F) g4 = (fun _ => k2_pay4 (M0.view.read (Elt F) f0) (M1.view.read (Elt F) f1))⌝
            ∗ pt c M0 f0 ∗ pt c M1 f1 ∗ pt c M2 g2 ∗ pt c M3 f3 ∗ pt c M4 g4) -∗ Q ⟨⟩))
      ⊢ wp frame (wpE (defs₀ (F := F)) Variants.none c none) E (cc2__finalize_body i M0 w0 M1 w1 M2 w2 M3 w3 M4 w4) Q := by
  rw [cc2__finalize_body_eq_skeleton]
  unfold cc2__finalize_body_skel
  simp only [dif_pos h1, dif_neg h2, dif_neg h3]
  iintro ⟨H0, H1, H2, H3, H4, Hk⟩
  sl_exec!
  sl_step
  iapply Hk
  iexists _, _
  isplitr
  rotate_left
  · isplitl [H0]; · iexact H0
    isplitl [H1]; · iexact H1
    isplitl [H2]; · iexact H2
    isplitl [H3]; · iexact H3
    iexact H4
  · ipureintro
    refine ⟨(View.read_writes_full M2.view _ _ _ _).trans ?_, (View.read_writes_full M4.view _ _ _ _).trans ?_⟩
    · rw [View.readAt_full, View.readAt_full]
    · rw [View.readAt_full, View.readAt_full]; rfl

/-- A later point that is not the last: the output block written, the accumulator added to. -/
theorem run_mid (a : F .f32) (ha : M4.view.read (Elt F) f4 = fun _ => a) (h1 : ¬ isFirst (i 0).val = 1#1) (h2 : isLater (i 0).val = 1#1) (h3 : ¬ k2_cond3 i = 1#1) (E : Set ℕ) (Q : PUnit → sProp 𝕄) :
    iprop(pt c M0 f0 ∗ pt c M1 f1 ∗ pt c M2 f2 ∗ pt c M3 f3 ∗ pt c M4 f4
        ∗ (iprop(∃ (g2 : Bf (F := F) c M2) (g4 : Bf (F := F) c M4), ⌜M2.view.read (Elt F) g2 = k2_pay3 (M0.view.read (Elt F) f0) (M1.view.read (Elt F) f1)
              ∧ M4.view.read (Elt F) g4 = (fun _ => k2_pay5 (M0.view.read (Elt F) f0) (M1.view.read (Elt F) f1) a)⌝
            ∗ pt c M0 f0 ∗ pt c M1 f1 ∗ pt c M2 g2 ∗ pt c M3 f3 ∗ pt c M4 g4) -∗ Q ⟨⟩))
      ⊢ wp frame (wpE (defs₀ (F := F)) Variants.none c none) E (cc2__finalize_body i M0 w0 M1 w1 M2 w2 M3 w3 M4 w4) Q := by
  rw [cc2__finalize_body_eq_skeleton]
  unfold cc2__finalize_body_skel
  simp only [dif_neg h1, dif_pos h2, dif_neg h3]
  iintro ⟨H0, H1, H2, H3, H4, Hk⟩
  sl_exec!
  sl_step
  iapply Hk
  iexists _, _
  isplitr
  rotate_left
  · isplitl [H0]; · iexact H0
    isplitl [H1]; · iexact H1
    isplitl [H2]; · iexact H2
    isplitl [H3]; · iexact H3
    iexact H4
  · ipureintro
    refine ⟨(View.read_writes_full M2.view _ _ _ _).trans ?_, (View.read_writes_full M4.view _ _ _ _).trans ?_⟩
    · rw [View.readAt_full, View.readAt_full]
    · rw [View.readAt_full, View.readAt_full]; unfold run_mid.sl.r; exact congrArg (fun b => fun _ => k2_pay5 _ _ b) (congrFun ha _)

/-- The last point: the same, and the total handed out. -/
theorem run_last (a : F .f32) (ha : M4.view.read (Elt F) f4 = fun _ => a) (h1 : ¬ isFirst (i 0).val = 1#1) (h2 : isLater (i 0).val = 1#1) (h3 : k2_cond3 i = 1#1) (E : Set ℕ) (Q : PUnit → sProp 𝕄) :
    iprop(pt c M0 f0 ∗ pt c M1 f1 ∗ pt c M2 f2 ∗ pt c M3 f3 ∗ pt c M4 f4
        ∗ (iprop(∃ (g2 : Bf (F := F) c M2) (g3 : Bf (F := F) c M3) (g4 : Bf (F := F) c M4), ⌜M2.view.read (Elt F) g2 = k2_pay3 (M0.view.read (Elt F) f0) (M1.view.read (Elt F) f1)
              ∧ M4.view.read (Elt F) g4 = (fun _ => k2_pay5 (M0.view.read (Elt F) f0) (M1.view.read (Elt F) f1) a) ∧ M3.view.read (Elt F) g3 = k2_pay6 (k2_pay5 (M0.view.read (Elt F) f0) (M1.view.read (Elt F) f1) a)⌝
            ∗ pt c M0 f0 ∗ pt c M1 f1 ∗ pt c M2 g2 ∗ pt c M3 g3 ∗ pt c M4 g4) -∗ Q ⟨⟩))
      ⊢ wp frame (wpE (defs₀ (F := F)) Variants.none c none) E (cc2__finalize_body i M0 w0 M1 w1 M2 w2 M3 w3 M4 w4) Q := by
  rw [cc2__finalize_body_eq_skeleton]
  unfold cc2__finalize_body_skel
  simp only [dif_neg h1, dif_pos h2, dif_pos h3]
  iintro ⟨H0, H1, H2, H3, H4, Hk⟩
  sl_exec!
  sl_step
  iapply Hk
  iexists _, _, _
  isplitr
  rotate_left
  · isplitl [H0]; · iexact H0
    isplitl [H1]; · iexact H1
    isplitl [H2]; · iexact H2
    isplitl [H3]; · iexact H3
    iexact H4
  · ipureintro
    refine ⟨(View.read_writes_full M2.view _ _ _ _).trans ?_, (View.read_writes_full M4.view _ _ _ _).trans ?_, (View.read_writes_full M3.view _ _ _ _).trans ?_⟩
    · rw [View.readAt_full, View.readAt_full]
    · rw [View.readAt_full, View.readAt_full]; unfold run_last.sl.r; exact congrArg (fun b => fun _ => k2_pay5 _ _ b) (congrFun ha _)
    · unfold run_last.sl.r_1 run_last.sl.r; rw [View.readAt_full, View.readAt_full]; exact congrArg (fun b => k2_pay6 (k2_pay5 _ _ b)) (congrFun ha _)

end Run

end Cert.Proof.Whole
-- ==== Proof.FinReg.lean ====
/-
  The finalize region: the proof data of one entry of it from a valuation of the TensorCore's buffers, and the library's
  body obligation.
-/
module

public import proofs.«01_k».proof.Proof.Finalize

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- A whole memref owned is its buffer held at contents that read so. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f : Bf (F := F) c M, ⌜M.view.read (Elt F) f = X⌝ ∗ pt c M f) := by
  unfold owns; rw [hM.set_eq_univ]

/-- The tallies the core owes and the bound on what it has recorded, while a region runs. -/
structure Debt where
  owed : Dev nD → CellTallies nD τ sig (HIx 1)
  recd : Dev nD → Set (SemLoc sig × HIx 1)

variable (V : (c : Dev nD) → (b : Ref sig .tc) → Buf (Elt F) ((c : Thread nD τ).loc b)) (O : Debt)

/-- The scoped buffers the finalize kernel does not stage, its accumulator apart, each held at something. -/
def rest2 (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

theorem mem_scr2 : cc2_scratch0 ∈ (Finset.univ.filter fun b : Ref sig .tc => b.isScoped) \ Finset.univ.image (Pipeline.stageRef spec2) := by decide

theorem scopedRest2_split (c : Dev nD) :
    (Pipeline.scopedRest (Ix := HIx 1) (Name := ℕ) (U := UU) (Lvl := ℕ) (Val := Elt F) spec2 c : sProp 𝕄)
      = iprop((∃ f : Bf (F := F) c (Memref.whole cc2_scratch0), pt c (Memref.whole cc2_scratch0) f) ∗ rest2 c) := by
  unfold Pipeline.scopedRest rest2
  exact BI.bigSep_erase (i := cc2_scratch0) mem_scr2

/-- The two blocks the body loads at point `t`. -/
abbrev X2_0 (c : Dev nD) (t : Fin grid2.N) : Vec F S1x1024x128 .f32 := ((cfg2.win 0).blk t).view.read (Elt F) (V c main_v27)
abbrev X2_1 (c : Dev nD) (t : Fin grid2.N) : Vec F S1x1024x32 .f32 := ((cfg2.win 1).blk t).view.read (Elt F) (V c main_v4)

/-- Point `n` of the sixteen. -/
def pt2 (n : ℕ) : Fin grid2.N := ⟨n % 16, Nat.lt_of_lt_of_eq (Nat.mod_lt _ (by decide)) N_2.symm⟩
theorem pt2_val (t : Fin grid2.N) : pt2 t.val = t := by
  exact Fin.ext (Nat.mod_eq_of_lt (Nat.lt_of_lt_of_eq t.isLt N_2))

/-- The accumulator after point `n`. -/
def acc2 (c : Dev nD) : ℕ → F .f32
  | 0 => k2_pay4 (X2_0 V c (pt2 0)) (X2_1 V c (pt2 0))
  | n + 1 => k2_pay5 (X2_0 V c (pt2 (n + 1))) (X2_1 V c (pt2 (n + 1))) (acc2 c n)

/-- The invariant before position `n`: past the first point the accumulator holds the running total. -/
def Phi2 (c : Dev nD) (n : ℕ) : sProp 𝕄 :=
  iprop((∃ f : Bf (F := F) c (Memref.whole cc2_scratch0), ⌜0 < n → f = fun _ => acc2 V c (n - 1)⌝ ∗ pt c (Memref.whole cc2_scratch0) f) ∗ rest2 c)

/-- The proof data of the region entered at `V`. -/
def dat2 (c : Dev nD) : Dat τ (Elt F) (HIx 1) ℕ UU ℕ cfg2 c where
  A w := V c (Pipeline.arrRef spec2 w)
  after w t := match w with
    | ⟨0, _⟩ => X2_0 V c t
    | ⟨1, _⟩ => X2_1 V c t
    | ⟨2, _⟩ => k2_pay3 (X2_0 V c t) (X2_1 V c t)
    | ⟨3, _⟩ => k2_pay6 (acc2 V c t.val)
  Φ t := Phi2 V c t.val
  q _ := fullShare
  owed _ := O.owed c
  recorded _ := O.recd c

theorem before2_0 (c : Dev nD) (t : Fin grid2.N) (d) : (dat2 V O c).before 0 t d = X2_0 V c t := by
  unfold Dat.before; rw [if_pos (fetch2_0 t)]; rfl
theorem before2_1 (c : Dev nD) (t : Fin grid2.N) (d) : (dat2 V O c).before 1 t d = X2_1 V c t := by
  unfold Dat.before; rw [if_pos (fetch2_1 t)]; rfl

theorem first2 : ∀ t : Fin grid2.N, isFirst (grid2.coords t 0).val = 1#1 ↔ t.val = 0 := by decide
theorem later2 : ∀ t : Fin grid2.N, isLater (grid2.coords t 0).val = 1#1 ↔ 0 < t.val := by decide
theorem last2 : ∀ t : Fin grid2.N, k2_cond3 (grid2.coords t) = 1#1 ↔ t.val = 15 := by decide

set_option maxHeartbeats 2000000 in
theorem body2 (c : Dev nD) : BodyObligation (dat2 V O c) (defs₀ (F := F)) 𝒱₀ none Set.univ := fun t => by
  have hlt : t.val < 16 := Nat.lt_of_lt_of_eq t.isLt N_2
  have hacc : 0 < t.val → acc2 V c t.val = k2_pay5 (X2_0 V c t) (X2_1 V c t) (acc2 V c (t.val - 1)) := fun h0 => by
    obtain ⟨n, hn⟩ : ∃ n, t.val = n + 1 := ⟨t.val - 1, by omega⟩
    rw [hn, Nat.add_sub_cancel]; show k2_pay5 _ _ _ = _; rw [← hn, pt2_val]
  have hacc0 : t.val = 0 → acc2 V c t.val = k2_pay4 (X2_0 V c t) (X2_1 V c t) := fun h0 => by
    rw [h0]; show k2_pay4 _ _ = _; rw [← h0, pt2_val]
  rw [bigSep_W2, bigSep_W2]
  dsimp only
  simp only [before2_0, before2_1]
  simp only [owns_pt c _ (stage_whole2 0 _), owns_pt c _ (stage_whole2 1 _), owns_pt c _ (stage_whole2 2 _), owns_pt c _ (stage_whole2 3 _)]
  rw [show (dat2 V O c).Φ t.castSucc = Phi2 V c t.val from rfl, show (dat2 V O c).Φ t.succ = Phi2 V c (t.val + 1) from rfl,
    show (dat2 V O c).owesAt none t.succ = (dat2 V O c).owesAt none t.castSucc from rfl]
  unfold Phi2
  rw [Nat.add_sub_cancel]
  show _ ⊢ wp _ _ _ (bodyAt2 t) _
  iintro ⟨⟨⟨%f4, %hf4, H4⟩, HR⟩, HO, ⟨%d0, %f0, %hf0, H0⟩, ⟨%d1, %f1, %hf1, H1⟩, ⟨%d2, %f2, -, H2⟩, ⟨%d3, %f3, %hf3, H3⟩⟩
  rcases Nat.eq_zero_or_pos t.val with h0 | h0
  · have hi : idle2 3 (grid2.coords t) = true := by
      show (!(k2_cond3 (grid2.coords t) == 1#1)) = true
      rw [Bool.not_eq_true', beq_eq_false_iff_ne]; exact fun h => by have := (last2 t).mp h; omega
    have hf : (win2 3).flush t = false := by
      rw [Bool.eq_false_iff]; exact fun h => by have := (flush2_3 t).mp h; omega
    rw [hi, hf]
    iapply run_first c (grid2.coords t) (st2_0 t) _ (st2_1 t) _ (st2_2 t) _ (st2_3 t) _ (Memref.whole cc2_scratch0) _ f0 f1 f2 f3 f4
      ((first2 t).mpr h0) (fun h => by have := (later2 t).mp h; omega) (fun h => by have := (last2 t).mp h; omega)
    isplitl [H0]; · iexact H0
    isplitl [H1]; · iexact H1
    isplitl [H2]; · iexact H2
    isplitl [H3]; · iexact H3
    isplitl [H4]; · iexact H4
    iintro ⟨%g2, %g4, %hg, H0, H1, H2, H3, H4⟩
    rw [hf0, hf1] at hg
    isplitl [H4 HR]
    · isplitl [H4]
      · iexists g4
        isplitr; · ipureintro; intro _; rw [hacc0 h0]; exact hg.2
        iexact H4
      · iexact HR
    isplitl [HO]; · iexact HO
    isplitl [H0]; · iexists f0; isplitr; (· ipureintro; exact hf0); iexact H0
    isplitl [H1]; · iexists f1; isplitr; (· ipureintro; exact hf1); iexact H1
    isplitl [H2]; · iexists g2; isplitr; (· ipureintro; exact hg.1); iexact H2
    iexists d3, f3; isplitr; (· ipureintro; exact hf3); iexact H3
  · have ha : (Memref.whole cc2_scratch0).view.read (Elt F) f4 = fun _ => acc2 V c (t.val - 1) := hf4 h0
    by_cases h15 : t.val = 15
    · have hi : idle2 3 (grid2.coords t) = false := by
        show (!(k2_cond3 (grid2.coords t) == 1#1)) = false
        rw [Bool.not_eq_false', beq_iff_eq]; exact (last2 t).mpr h15
      rw [hi]
      iapply run_last c (grid2.coords t) (st2_0 t) _ (st2_1 t) _ (st2_2 t) _ (st2_3 t) _ (Memref.whole cc2_scratch0) _ f0 f1 f2 f3 f4 _ ha
        (fun h => by have := (first2 t).mp h; omega) ((later2 t).mpr h0) ((last2 t).mpr h15)
      isplitl [H0]; · iexact H0
      isplitl [H1]; · iexact H1
      isplitl [H2]; · iexact H2
      isplitl [H3]; · iexact H3
      isplitl [H4]; · iexact H4
      iintro ⟨%g2, %g3, %g4, %hg, H0, H1, H2, H3, H4⟩
      rw [hf0, hf1] at hg
      rw [← hacc h0] at hg
      isplitl [H4 HR]
      · isplitl [H4]
        · iexists g4
          isplitr; · ipureintro; intro _; exact hg.2.1
          iexact H4
        · iexact HR
      isplitl [HO]; · iexact HO
      isplitl [H0]; · iexists f0; isplitr; (· ipureintro; exact hf0); iexact H0
      isplitl [H1]; · iexists f1; isplitr; (· ipureintro; exact hf1); iexact H1
      isplitl [H2]; · iexists g2; isplitr; (· ipureintro; exact hg.1); iexact H2
      iexists g3; isplitr; (· ipureintro; exact hg.2.2); iexact H3
    · have hi : idle2 3 (grid2.coords t) = true := by
        show (!(k2_cond3 (grid2.coords t) == 1#1)) = true
        rw [Bool.not_eq_true', beq_eq_false_iff_ne]; exact fun h => h15 ((last2 t).mp h)
      have hf : (win2 3).flush t = false := by
        rw [Bool.eq_false_iff]; exact fun h => by have := (flush2_3 t).mp h; omega
      rw [hi, hf]
      iapply run_mid c (grid2.coords t) (st2_0 t) _ (st2_1 t) _ (st2_2 t) _ (st2_3 t) _ (Memref.whole cc2_scratch0) _ f0 f1 f2 f3 f4 _ ha
        (fun h => by have := (first2 t).mp h; omega) ((later2 t).mpr h0) (fun h => h15 ((last2 t).mp h))
      isplitl [H0]; · iexact H0
      isplitl [H1]; · iexact H1
      isplitl [H2]; · iexact H2
      isplitl [H3]; · iexact H3
      isplitl [H4]; · iexact H4
      iintro ⟨%g2, %g4, %hg, H0, H1, H2, H3, H4⟩
      rw [hf0, hf1] at hg
      rw [← hacc h0] at hg
      isplitl [H4 HR]
      · isplitl [H4]
        · iexists g4
          isplitr; · ipureintro; intro _; exact hg.2
          iexact H4
        · iexact HR
      isplitl [HO]; · iexact HO
      isplitl [H0]; · iexists f0; isplitr; (· ipureintro; exact hf0); iexact H0
      isplitl [H1]; · iexists f1; isplitr; (· ipureintro; exact hf1); iexact H1
      isplitl [H2]; · iexists g2; isplitr; (· ipureintro; exact hg.1); iexact H2
      iexists d3, f3; isplitr; (· ipureintro; exact hf3); iexact H3

end Cert.Proof.Whole
-- ==== Proof.ArgReg.lean ====
/-
  The argmin region: the proof data of one entry of it from a valuation of the TensorCore's buffers, and the library's
  body obligation. Four points make one block of 1024 rows; the invariant says what the scratches hold between them.
-/
module

public import proofs.«01_k».proof.Proof.Argmin
public import proofs.«01_k».proof.Proof.FinReg
public import Idealize.ShloMosaic.Lib.ValueIdx

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b)) (O : Debt)

/-- The scoped buffers the argmin kernel neither stages nor keeps, each held at something. -/
def rest0 (c : Dev nD) : sProp 𝕄 :=
  bigSep (((((((Finset.univ.filter fun b : Ref sig .tc => b.isScoped) \ Finset.univ.image (Pipeline.stageRef spec0)).erase cc0_scratch0).erase cc0_scratch1).erase cc0_scratch2).erase cc0_scratch3).erase cc0_scratch4)
    fun b => iprop(∃ f : Buf (Elt F) ((c.tc : Thread nD τ).loc b), ((c.tc : Thread nD τ).loc b) ↦{fullShare} f)

/-- A scratch held at something. -/
abbrev some0 (c : Dev nD) {sp : Space} {S : Shape} {e : EltTy} (M : Memref sig .tc sp S e) : sProp 𝕄 := iprop(∃ f : Bf (F := F) c M, pt c M f)

theorem mem_scr0_0 : cc0_scratch0 ∈ (Finset.univ.filter fun b : Ref sig .tc => b.isScoped) \ Finset.univ.image (Pipeline.stageRef spec0) := by decide
theorem mem_scr0_1 : cc0_scratch1 ∈ ((Finset.univ.filter fun b : Ref sig .tc => b.isScoped) \ Finset.univ.image (Pipeline.stageRef spec0)).erase cc0_scratch0 := by decide
theorem mem_scr0_2 : cc0_scratch2 ∈ (((Finset.univ.filter fun b : Ref sig .tc => b.isScoped) \ Finset.univ.image (Pipeline.stageRef spec0)).erase cc0_scratch0).erase cc0_scratch1 := by decide
theorem mem_scr0_3 : cc0_scratch3 ∈ ((((Finset.univ.filter fun b : Ref sig .tc => b.isScoped) \ Finset.univ.image (Pipeline.stageRef spec0)).erase cc0_scratch0).erase cc0_scratch1).erase cc0_scratch2 := by decide
theorem mem_scr0_4 : cc0_scratch4 ∈ (((((Finset.univ.filter fun b : Ref sig .tc => b.isScoped) \ Finset.univ.image (Pipeline.stageRef spec0)).erase cc0_scratch0).erase cc0_scratch1).erase cc0_scratch2).erase cc0_scratch3 := by decide

theorem scopedRest0_split (c : Dev nD) :
    (Pipeline.scopedRest (Ix := HIx 1) (Name := ℕ) (U := UU) (Lvl := ℕ) (Val := Elt F) spec0 c : sProp 𝕄)
      = iprop(some0 c (Memref.whole cc0_scratch0) ∗ some0 c (Memref.whole cc0_scratch1) ∗ some0 c (Memref.whole cc0_scratch2)
          ∗ some0 c (Memref.whole cc0_scratch3) ∗ some0 c (Memref.whole cc0_scratch4) ∗ rest0 c) := by
  unfold Pipeline.scopedRest rest0
  rw [BI.bigSep_erase (i := cc0_scratch0) mem_scr0_0, BI.bigSep_erase (i := cc0_scratch1) mem_scr0_1,
    BI.bigSep_erase (i := cc0_scratch2) mem_scr0_2, BI.bigSep_erase (i := cc0_scratch3) mem_scr0_3,
    BI.bigSep_erase (i := cc0_scratch4) mem_scr0_4]
  rfl

/-- Point `n` of the sixty-four. -/
def pt0 (n : ℕ) : Fin grid0.N := ⟨n % 64, Nat.lt_of_lt_of_eq (Nat.mod_lt _ (by decide)) N_0.symm⟩
theorem pt0_val (t : Fin grid0.N) : pt0 t.val = t := Fin.ext (Nat.mod_eq_of_lt (Nat.lt_of_lt_of_eq t.isLt N_0))

/-- The blocks the body loads at point `t`. -/
abbrev X0_0 (c : Dev nD) (t : Fin grid0.N) : Vec F S1x1024x32 .bf16 := ((cfg0.win 0).blk t).view.read (Elt F) (V c main_v21)
abbrev X0_1 (c : Dev nD) (t : Fin grid0.N) : Vec F S2048x32 .bf16 := ((cfg0.win 1).blk t).view.read (Elt F) (V c main_v22)
abbrev X0_2 (c : Dev nD) (t : Fin grid0.N) : Vec F S1x1x1024 .f32 := ((cfg0.win 2).blk t).view.read (Elt F) (V c main_v15)
abbrev X0_3 (c : Dev nD) (t : Fin grid0.N) : Vec F S2048x1 .f32 := ((cfg0.win 3).blk t).view.read (Elt F) (V c main_v18)

/-- The distances of the 2048 codes of point `n`, and their column minima. -/
def dist (c : Dev nD) (n : ℕ) : Vec F S2048x1024 .f32 := k0_pay3 (X0_0 V c (pt0 n)) (X0_1 V c (pt0 n)) (X0_2 V c (pt0 n)) (X0_3 V c (pt0 n))
def mins (c : Dev nD) (n : ℕ) := k0_pay4 (X0_0 V c (pt0 n)) (X0_1 V c (pt0 n)) (X0_2 V c (pt0 n)) (X0_3 V c (pt0 n))

/-- Two halves of 2048 rows as one window of 4096. -/
def halves (lo hi : Vec F S2048x1024 .f32) : Vec F S4096x1024 .f32 := fun j =>
  if h : (j 0).val < 2048 then lo (ix2 ⟨(j 0).val, h⟩ (j 1)) else hi (ix2 ⟨(j 0).val - 2048, by have := (j 0).isLt; change _ < 4096 at this; omega⟩ (j 1))

theorem halves_eq (lo hi : Vec F S2048x1024 .f32) (d : Vec F S4096x1024 .f32) :
    VecWindow.put (s := S4096x1024) (VecWindow.put (s := S4096x1024) d ![0, 0] ![2048, 1024] lo) ![2048, 0] ![2048, 1024] hi = halves lo hi := by
  funext j
  have j0 : (j 0).val < 4096 := (j 0).isLt
  have j1 : (j 1).val < 1024 := (j 1).isLt
  unfold halves
  by_cases h : (j 0).val < 2048
  · rw [dif_pos h]
    unfold VecWindow.put
    rw [dif_neg (fun hh => by have := (hh 0).1; change 2048 ≤ _ at this; omega),
      dif_pos (fun a => by fin_cases a <;> [exact ⟨Nat.zero_le _, (by omega : (j 0).val < 0 + 2048)⟩; exact ⟨Nat.zero_le _, (by omega : (j 1).val < 0 + 1024)⟩])]
    congr 1
    funext a
    fin_cases a <;> exact Fin.ext (Nat.sub_zero _)
  · rw [dif_neg h]
    unfold VecWindow.put
    rw [dif_pos (fun a => by fin_cases a <;> [exact ⟨(by omega : 2048 ≤ (j 0).val), (by omega : (j 0).val < 2048 + 2048)⟩; exact ⟨Nat.zero_le _, (by omega : (j 1).val < 0 + 1024)⟩])]
    congr 1
    funext a
    fin_cases a <;> [exact Fin.ext (show (j 0).val - 2048 = (j 0).val - 2048 from rfl); exact Fin.ext (Nat.sub_zero _)]

/-- The window of the points `m` and `m + 1`, and its column minima. -/
def win2k (c : Dev nD) (m : ℕ) : Vec F S4096x1024 .f32 := halves (dist V c m) (dist V c (m + 1))
def cmin (c : Dev nD) (m : ℕ) : Vec F S1x1024 .f32 := k0_pay6 (mins V c (m + 1)) (k0_pay5 (mins V c m))
/-- The best so far after the first window of a block that starts at point `m`. -/
def best (c : Dev nD) (m : ℕ) : Vec F S1x1024 .f32 := k0_pay9 (cmin V c m)
def bestIx (c : Dev nD) (m : ℕ) : Vec F S1x1024 .i32 := k0_pay10 1#32 (cmin V c m) (win2k V c m)
/-- The indices of the block that starts at point `m`. -/
def res0 (c : Dev nD) (m : ℕ) : Vec F S1x1x1024 .i32 :=
  k0_pay1 (F := F) (k0_pay13 3#32 (cmin V c (m + 2)) (win2k V c (m + 2)) (best V c m) (bestIx V c m))

/-- What the scratches hold before position `n`. -/
def Inv0 (c : Dev nD) (n : ℕ) (dw : Vec F S4096x1024 .f32) (cm mn : Vec F S1x1024 .f32) (ix : Vec F S1x1024 .i32) : Prop :=
  (n % 4 = 1 ∨ n % 4 = 3 → (∃ d, dw = VecWindow.put (s := S4096x1024) d ![0, 0] ![2048, 1024] (dist V c (n - 1))) ∧ cm = k0_pay5 (mins V c (n - 1)))
    ∧ (n % 4 = 2 → mn = best V c (n - 2) ∧ ix = bestIx V c (n - 2))
    ∧ (n % 4 = 3 → mn = best V c (n - 3) ∧ ix = bestIx V c (n - 3))

/-- The invariant before position `n`. -/
def Phi0 (c : Dev nD) (n : ℕ) : sProp 𝕄 :=
  iprop((∃ (f5 : Bf (F := F) c (Memref.whole cc0_scratch0)) (f6 : Bf (F := F) c (Memref.whole cc0_scratch1)) (f7 : Bf (F := F) c (Memref.whole cc0_scratch2))
      (f8 : Bf (F := F) c (Memref.whole cc0_scratch3)) (f9 : Bf (F := F) c (Memref.whole cc0_scratch4)),
    ⌜Inv0 V c n f5 f6 f8 f9⌝ ∗ pt c (Memref.whole cc0_scratch0) f5 ∗ pt c (Memref.whole cc0_scratch1) f6 ∗ pt c (Memref.whole cc0_scratch2) f7
      ∗ pt c (Memref.whole cc0_scratch3) f8 ∗ pt c (Memref.whole cc0_scratch4) f9) ∗ rest0 c)

/-- The proof data of the region entered at `V`. -/
def dat0 (c : Dev nD) : Dat τ (Elt F) (HIx 1) ℕ UU ℕ cfg0 c where
  A w := V c (Pipeline.arrRef spec0 w)
  after w t := match w with
    | ⟨0, _⟩ => X0_0 V c t
    | ⟨1, _⟩ => X0_1 V c t
    | ⟨2, _⟩ => X0_2 V c t
    | ⟨3, _⟩ => X0_3 V c t
    | ⟨4, _⟩ => res0 V c (t.val - 3)
  Φ t := Phi0 V c t.val
  q _ := fullShare
  owed _ := O.owed c
  recorded _ := O.recd c

theorem before0_0 (c : Dev nD) (t : Fin grid0.N) (d) : (dat0 V O c).before 0 t d = X0_0 V c t :=
  (dat0 V O c).before_in_eq_fetched 0 rfl (fun _ => rfl) (fun _ _ _ => rfl) (fun _ => rfl) t d
theorem before0_1 (c : Dev nD) (t : Fin grid0.N) (d) : (dat0 V O c).before 1 t d = X0_1 V c t :=
  (dat0 V O c).before_in_eq_fetched 1 rfl (fun _ => rfl) (fun _ _ _ => rfl) (fun _ => rfl) t d
theorem before0_2 (c : Dev nD) (t : Fin grid0.N) (d) : (dat0 V O c).before 2 t d = X0_2 V c t :=
  (dat0 V O c).before_in_eq_fetched 2 rfl (fun _ => rfl) (fun _ _ _ => rfl) (fun _ => rfl) t d
theorem before0_3 (c : Dev nD) (t : Fin grid0.N) (d) : (dat0 V O c).before 3 t d = X0_3 V c t :=
  (dat0 V O c).before_in_eq_fetched 3 rfl (fun _ => rfl) (fun _ _ _ => rfl) (fun _ => rfl) t d

theorem coord0_1 : ∀ t : Fin grid0.N, (grid0.coords t 1).val = t.val % 4 := by decide
theorem last0 : ∀ t : Fin grid0.N, k0_cond6 (grid0.coords t) = 1#1 ↔ t.val % 4 = 3 := by decide

set_option maxHeartbeats 4000000 in
theorem body0 (c : Dev nD) : BodyObligation (dat0 V O c) (defs₀ (F := F)) 𝒱₀ none Set.univ := fun t => by
  have hlt : t.val < 64 := Nat.lt_of_lt_of_eq t.isLt N_0
  have hd : k0_pay3 (X0_0 V c t) (X0_1 V c t) (X0_2 V c t) (X0_3 V c t) = dist V c t.val := by unfold dist; rw [pt0_val]
  have hm : k0_pay4 (X0_0 V c t) (X0_1 V c t) (X0_2 V c t) (X0_3 V c t) = mins V c t.val := by unfold mins; rw [pt0_val]
  rw [bigSep_W0, bigSep_W0]
  dsimp only
  simp only [before0_0, before0_1, before0_2, before0_3]
  simp only [owns_pt c _ (stage_whole0 0 _), owns_pt c _ (stage_whole0 1 _), owns_pt c _ (stage_whole0 2 _), owns_pt c _ (stage_whole0 3 _), owns_pt c _ (stage_whole0 4 _)]
  rw [show (dat0 V O c).Φ t.castSucc = Phi0 V c t.val from rfl, show (dat0 V O c).Φ t.succ = Phi0 V c (t.val + 1) from rfl,
    show (dat0 V O c).owesAt none t.succ = (dat0 V O c).owesAt none t.castSucc from rfl]
  unfold Phi0
  show _ ⊢ wp _ _ _ (bodyAt0 t) _
  iintro ⟨⟨⟨%f5, %f6, %f7, %f8, %f9, %hI, H5, H6, H7, H8, H9⟩, HR⟩, HO, ⟨%d0, %f0, %hf0, H0⟩, ⟨%d1, %f1, %hf1, H1⟩, ⟨%d2, %f2, %hf2, H2⟩, ⟨%d3, %f3, %hf3, H3⟩, ⟨%d4, %f4, %hf4, H4⟩⟩
  obtain ⟨hA, hB, hC⟩ := hI
  have hk : (grid0.coords t 1).val = 0 ∨ (grid0.coords t 1).val = 1 ∨ (grid0.coords t 1).val = 2 ∨ (grid0.coords t 1).val = 3 := by
    rw [coord0_1]; omega
  rcases hk with hk | hk | hk | hk
  · have h4 : t.val % 4 = 0 := (coord0_1 t).symm.trans hk
    have hi : idle0 4 (grid0.coords t) = true := by
      show (!(k0_cond6 (grid0.coords t) == 1#1)) = true
      rw [Bool.not_eq_true', beq_eq_false_iff_ne]; exact fun h => by have := (last0 t).mp h; omega
    have hf : (win0 4).flush t = false := by
      rw [Bool.eq_false_iff]; exact fun h => by have := (flush0_4 t).mp h; omega
    rw [hi, hf]
    iapply run_k0 c (grid0.coords t) (st0_0 t) _ (st0_1 t) _ (st0_2 t) _ (st0_3 t) _ (st0_4 t) _ (Memref.whole cc0_scratch0) _ (Memref.whole cc0_scratch1) _
      (Memref.whole cc0_scratch2) _ (Memref.whole cc0_scratch3) _ (Memref.whole cc0_scratch4) _ f0 f1 f2 f3 f4 f5 f6 f7 f8 f9 hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨%g5, %g6, %hg, H0, H1, H2, H3, H4, H5, H6, H7, H8, H9⟩
    rw [hf0, hf1, hf2, hf3] at hg
    unfold dwOf at hg
    rw [hd, hm] at hg
    isplitl [H5 H6 H7 H8 H9 HR]
    · isplitl [H5 H6 H7 H8 H9]
      · iexists g5, g6, f7, f8, f9
        isplitr
        · ipureintro
          exact ⟨fun _ => ⟨⟨_, hg.1⟩, hg.2⟩, fun h => absurd h (by omega), fun h => absurd h (by omega)⟩
        isplitl [H5]; · iexact H5
        isplitl [H6]; · iexact H6
        isplitl [H7]; · iexact H7
        isplitl [H8]; · iexact H8
        iexact H9
      · iexact HR
    isplitl [HO]; · iexact HO
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    isplitl [H3]; · iexists f3; isplitr; (· ipureintro; exact hf3); iexact H3
    iexists d4, f4; isplitr; (· ipureintro; exact hf4); iexact H4
  · have h4 : t.val % 4 = 1 := (coord0_1 t).symm.trans hk
    have hi : idle0 4 (grid0.coords t) = true := by
      show (!(k0_cond6 (grid0.coords t) == 1#1)) = true
      rw [Bool.not_eq_true', beq_eq_false_iff_ne]; exact fun h => by have := (last0 t).mp h; omega
    have hf : (win0 4).flush t = false := by
      rw [Bool.eq_false_iff]; exact fun h => by have := (flush0_4 t).mp h; omega
    rw [hi, hf]
    iapply run_k1 c (grid0.coords t) (st0_0 t) _ (st0_1 t) _ (st0_2 t) _ (st0_3 t) _ (st0_4 t) _ (Memref.whole cc0_scratch0) _ (Memref.whole cc0_scratch1) _
      (Memref.whole cc0_scratch2) _ (Memref.whole cc0_scratch3) _ (Memref.whole cc0_scratch4) _ f0 f1 f2 f3 f4 f5 f6 f7 f8 f9 hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨%g5, %g6, %g8, %g9, %hg, H0, H1, H2, H3, H4, H5, H6, H7, H8, H9⟩
    rw [hf0, hf1, hf2, hf3] at hg
    unfold dwOf at hg
    rw [hd, hm] at hg
    obtain ⟨⟨dw0, hdw⟩, hcm⟩ := hA (by omega)
    rw [show (Memref.whole cc0_scratch0).view.read (Elt F) f5 = _ from hdw, show (Memref.whole cc0_scratch1).view.read (Elt F) f6 = _ from hcm, halves_eq] at hg
    have e1 : t.val - 1 + 1 = t.val := by omega
    have hw : halves (dist V c (t.val - 1)) (dist V c t.val) = win2k V c (t.val - 1) := by unfold win2k; rw [e1]
    have hc : k0_pay6 (mins V c t.val) (k0_pay5 (mins V c (t.val - 1))) = cmin V c (t.val - 1) := by unfold cmin; rw [e1]
    rw [hw, hc] at hg
    isplitl [H5 H6 H7 H8 H9 HR]
    · isplitl [H5 H6 H7 H8 H9]
      · iexists g5, g6, f7, g8, g9
        isplitr
        · ipureintro
          refine ⟨fun h => absurd h (by omega), fun _ => ?_, fun h => absurd h (by omega)⟩
          rw [show t.val + 1 - 2 = t.val - 1 by omega]
          exact ⟨hg.2.2.1, hg.2.2.2⟩
        isplitl [H5]; · iexact H5
        isplitl [H6]; · iexact H6
        isplitl [H7]; · iexact H7
        isplitl [H8]; · iexact H8
        iexact H9
      · iexact HR
    isplitl [HO]; · iexact HO
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    isplitl [H3]; · iexists f3; isplitr; (· ipureintro; exact hf3); iexact H3
    iexists d4, f4; isplitr; (· ipureintro; exact hf4); iexact H4
  · have h4 : t.val % 4 = 2 := (coord0_1 t).symm.trans hk
    have hi : idle0 4 (grid0.coords t) = true := by
      show (!(k0_cond6 (grid0.coords t) == 1#1)) = true
      rw [Bool.not_eq_true', beq_eq_false_iff_ne]; exact fun h => by have := (last0 t).mp h; omega
    have hf : (win0 4).flush t = false := by
      rw [Bool.eq_false_iff]; exact fun h => by have := (flush0_4 t).mp h; omega
    rw [hi, hf]
    iapply run_k2 c (grid0.coords t) (st0_0 t) _ (st0_1 t) _ (st0_2 t) _ (st0_3 t) _ (st0_4 t) _ (Memref.whole cc0_scratch0) _ (Memref.whole cc0_scratch1) _
      (Memref.whole cc0_scratch2) _ (Memref.whole cc0_scratch3) _ (Memref.whole cc0_scratch4) _ f0 f1 f2 f3 f4 f5 f6 f7 f8 f9 hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨%g5, %g6, %hg, H0, H1, H2, H3, H4, H5, H6, H7, H8, H9⟩
    rw [hf0, hf1, hf2, hf3] at hg
    unfold dwOf at hg
    rw [hd, hm] at hg
    isplitl [H5 H6 H7 H8 H9 HR]
    · isplitl [H5 H6 H7 H8 H9]
      · iexists g5, g6, f7, f8, f9
        isplitr
        · ipureintro
          refine ⟨fun _ => ⟨⟨_, hg.1⟩, hg.2⟩, fun h => absurd h (by omega), fun _ => ?_⟩
          rw [show t.val + 1 - 3 = t.val - 2 by omega]
          exact hB h4
        isplitl [H5]; · iexact H5
        isplitl [H6]; · iexact H6
        isplitl [H7]; · iexact H7
        isplitl [H8]; · iexact H8
        iexact H9
      · iexact HR
    isplitl [HO]; · iexact HO
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    isplitl [H3]; · iexists f3; isplitr; (· ipureintro; exact hf3); iexact H3
    iexists d4, f4; isplitr; (· ipureintro; exact hf4); iexact H4
  · have h4 : t.val % 4 = 3 := (coord0_1 t).symm.trans hk
    have hi : idle0 4 (grid0.coords t) = false := by
      show (!(k0_cond6 (grid0.coords t) == 1#1)) = false
      rw [Bool.not_eq_false', beq_iff_eq]; exact (last0 t).mpr h4
    rw [hi]
    iapply run_k3 c (grid0.coords t) (st0_0 t) _ (st0_1 t) _ (st0_2 t) _ (st0_3 t) _ (st0_4 t) _ (Memref.whole cc0_scratch0) _ (Memref.whole cc0_scratch1) _
      (Memref.whole cc0_scratch2) _ (Memref.whole cc0_scratch3) _ (Memref.whole cc0_scratch4) _ f0 f1 f2 f3 f4 f5 f6 f7 f8 f9 hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨%g5, %g6, %g8, %g9, %g4, %hg, H0, H1, H2, H3, H4, H5, H6, H7, H8, H9⟩
    rw [hf0, hf1, hf2, hf3] at hg
    unfold dwOf at hg
    rw [hd, hm] at hg
    obtain ⟨⟨dw0, hdw⟩, hcm⟩ := hA (by omega)
    rw [show (Memref.whole cc0_scratch0).view.read (Elt F) f5 = _ from hdw, show (Memref.whole cc0_scratch1).view.read (Elt F) f6 = _ from hcm, halves_eq] at hg
    have e1 : t.val - 1 + 1 = t.val := by omega
    have hw : halves (dist V c (t.val - 1)) (dist V c t.val) = win2k V c (t.val - 1) := by unfold win2k; rw [e1]
    have hc : k0_pay6 (mins V c t.val) (k0_pay5 (mins V c (t.val - 1))) = cmin V c (t.val - 1) := by unfold cmin; rw [e1]
    rw [hw, hc] at hg
    obtain ⟨hmn, hix⟩ := hC h4
    rw [show (Memref.whole cc0_scratch3).view.read (Elt F) f8 = _ from hmn, show (Memref.whole cc0_scratch4).view.read (Elt F) f9 = _ from hix] at hg
    have e3 : t.val - 3 + 2 = t.val - 1 := by omega
    isplitl [H5 H6 H7 H8 H9 HR]
    · isplitl [H5 H6 H7 H8 H9]
      · iexists g5, g6, f7, g8, g9
        isplitr
        · ipureintro
          exact ⟨fun h => absurd h (by omega), fun h => absurd h (by omega), fun h => absurd h (by omega)⟩
        isplitl [H5]; · iexact H5
        isplitl [H6]; · iexact H6
        isplitl [H7]; · iexact H7
        isplitl [H8]; · iexact H8
        iexact H9
      · iexact HR
    isplitl [HO]; · iexact HO
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    isplitl [H3]; · iexists f3; isplitr; (· ipureintro; exact hf3); iexact H3
    iexists g4; isplitr; (· ipureintro; refine hg.2.2.2.2.trans ?_; show _ = res0 V c (t.val - 3); unfold res0; rw [e3]); iexact H4

end Cert.Proof.Whole
-- ==== Proof.FirstMin.lean ====
/-
  The first index at which a sequence of extended reals is least.
-/
module

public import Idealize.ShloMosaic.PureOps.Ideal.Laws
public import Idealize.ShloMosaic.Lib.ValueIdx

@[expose] public section

noncomputable section

namespace Cert.Proof.FirstMin

open Idealize.ShloMosaic

/-- `k` is the first of the indices below `N` at which `d` is least. -/
structure IsFirst (d : ℕ → EReal) (N k : ℕ) : Prop where
  lt : k < N
  le : ∀ j, j < N → d k ≤ d j
  first : ∀ j, j < N → d j ≤ d k → k ≤ j

theorem IsFirst.unique {d : ℕ → EReal} {N k l : ℕ} (hk : IsFirst d N k) (hl : IsFirst d N l) : k = l :=
  le_antisymm (hk.first l hl.lt (hl.le k hk.lt)) (hl.first k hk.lt (hk.le l hl.lt))

theorem IsFirst.congr {d e : ℕ → EReal} {N k : ℕ} (h : ∀ j, j < N → d j = e j) (hk : IsFirst d N k) : IsFirst e N k :=
  ⟨hk.lt, fun j hj => by rw [← h k hk.lt, ← h j hj]; exact hk.le j hj,
    fun j hj hle => hk.first j hj (by rw [h k hk.lt, h j hj]; exact hle)⟩

/-- Two halves of a sequence searched one after the other: the second one's index counts only where its least
    value is strictly less. -/
theorem IsFirst.merge {d : ℕ → EReal} {N k l : ℕ} (hk : IsFirst d N k) (hl : IsFirst (fun j => d (N + j)) N l) :
    IsFirst d (N + N) (if d (N + l) < d k then N + l else k) := by
  have hkN := hk.lt
  have hlN := hl.lt
  by_cases h : d (N + l) < d k
  · rw [if_pos h]
    refine ⟨by omega, fun j hj => ?_, fun j hj hle => ?_⟩
    · by_cases hjN : j < N
      · exact h.le.trans (hk.le j hjN)
      · have := hl.le (j - N) (by omega)
        simpa [show N + (j - N) = j by omega] using this
    · by_cases hjN : j < N
      · exact absurd (hle.trans_lt h) (not_lt.2 (hk.le j hjN))
      · have := hl.first (j - N) (by omega) (by simpa [show N + (j - N) = j by omega] using hle)
        omega
  · rw [if_neg h]
    refine ⟨by omega, fun j hj => ?_, fun j hj hle => ?_⟩
    · by_cases hjN : j < N
      · exact hk.le j hjN
      · have := hl.le (j - N) (by omega)
        rw [show N + (j - N) = j by omega] at this
        exact (not_lt.1 h).trans this
    · by_cases hjN : j < N
      · exact hk.first j hjN hle
      · omega

/-- A fold of an operation that returns one of its two arguments, and never the greater one, returns the first
    value or one of the list's, and none of them is less. -/
theorem foldl_sel {α β : Type} (le : α → α → Prop) (hrefl : ∀ a, le a a) (htrans : ∀ a b c, le a b → le b c → le a c)
    (f : α → α → α) (hsel : ∀ a b, f a b = a ∨ f a b = b) (hl : ∀ a b, le (f a b) a) (hr : ∀ a b, le (f a b) b) (g : β → α) :
    ∀ (L : List β) (init : α),
      (L.foldl (fun r i => f r (g i)) init = init ∨ ∃ i ∈ L, L.foldl (fun r i => f r (g i)) init = g i)
        ∧ le (L.foldl (fun r i => f r (g i)) init) init ∧ ∀ i ∈ L, le (L.foldl (fun r i => f r (g i)) init) (g i)
  | [], init => ⟨Or.inl rfl, hrefl _, fun i h => absurd h List.not_mem_nil⟩
  | b :: L, init => by
    obtain ⟨h1, h2, h3⟩ := foldl_sel le hrefl htrans f hsel hl hr g L (f init (g b))
    simp only [List.foldl_cons]
    refine ⟨?_, htrans _ _ _ h2 (hl _ _), fun i hi => ?_⟩
    · rcases h1 with h1 | ⟨i, hi, h1⟩
      · rcases hsel init (g b) with h | h
        · exact Or.inl (h1.trans h)
        · exact Or.inr ⟨b, List.mem_cons_self, h1.trans h⟩
      · exact Or.inr ⟨i, List.mem_cons_of_mem _ hi, h1⟩
    · rcases List.mem_cons.1 hi with rfl | hi
      · exact htrans _ _ _ h2 (hr _ _)
      · exact h3 i hi

section Reduce

variable {s t : Shape} {axes : List (Fin s.rank)}

/-- The least value over the indices that drop to `j`, from an initial one. -/
theorem reduceFold_min (h : s.Reduces axes t) (init : EReal) (x : s.Idx → EReal) (j : t.Idx) :
    (reduceFold h min init x j = init ∨ ∃ i, h.drop i = j ∧ reduceFold h min init x j = x i)
      ∧ reduceFold h min init x j ≤ init ∧ ∀ i, h.drop i = j → reduceFold h min init x j ≤ x i := by
  rw [reduceFold_eq_foldl]
  obtain ⟨h1, h2, h3⟩ := foldl_sel (fun a b : EReal => a ≤ b) (fun _ => le_rfl) (fun _ _ _ => le_trans) min
    (fun a b => by rcases le_total a b with h | h <;> simp [h]) (fun a b => min_le_left a b) (fun a b => min_le_right a b) x
    (((List.finRange s.numel).map s.rowMajor.symm).filter fun i => h.drop i = j) init
  refine ⟨?_, h2, fun i hi => h3 i ?_⟩
  · rcases h1 with h1 | ⟨i, hi, h1⟩
    · exact Or.inl h1
    · exact Or.inr ⟨i, by simpa using (List.mem_filter.1 hi).2, h1⟩
  · refine List.mem_filter.2 ⟨List.mem_map.2 ⟨s.rowMajor i, List.mem_finRange _, s.rowMajor.symm_apply_apply i⟩, by simpa using hi⟩

/-- The least word, read signed, over the indices that drop to `j`, from an initial one. -/
theorem reduceFold_minsi (h : s.Reduces axes t) (init : BitVec 32) (x : s.Idx → BitVec 32) (j : t.Idx) :
    (reduceFold h IntOp.minsi init x j = init ∨ ∃ i, h.drop i = j ∧ reduceFold h IntOp.minsi init x j = x i)
      ∧ (reduceFold h IntOp.minsi init x j).toInt ≤ init.toInt ∧ ∀ i, h.drop i = j → (reduceFold h IntOp.minsi init x j).toInt ≤ (x i).toInt := by
  rw [reduceFold_eq_foldl]
  obtain ⟨h1, h2, h3⟩ := foldl_sel (fun a b : BitVec 32 => a.toInt ≤ b.toInt) (fun _ => le_rfl) (fun _ _ _ => le_trans) IntOp.minsi
    (fun a b => by unfold IntOp.minsi; split <;> simp)
    (fun a b => by unfold IntOp.minsi; split <;> rename_i h <;> simp only [BitVec.slt, decide_eq_true_eq] at h <;> omega)
    (fun a b => by unfold IntOp.minsi; split <;> rename_i h <;> simp only [BitVec.slt, decide_eq_true_eq] at h <;> omega) x
    (((List.finRange s.numel).map s.rowMajor.symm).filter fun i => h.drop i = j) init
  refine ⟨?_, h2, fun i hi => h3 i ?_⟩
  · rcases h1 with h1 | ⟨i, hi, h1⟩
    · exact Or.inl h1
    · exact Or.inr ⟨i, by simpa using (List.mem_filter.1 hi).2, h1⟩
  · refine List.mem_filter.2 ⟨List.mem_map.2 ⟨s.rowMajor i, List.mem_finRange _, s.rowMajor.symm_apply_apply i⟩, by simpa using hi⟩

end Reduce

/-- The order of (value, index) pairs by value and, at equal values, by index. -/
def PLe (a b : EReal × BitVec 32) : Prop := a.1 < b.1 ∨ (a.1 = b.1 ∧ a.2.toInt ≤ b.2.toInt)

theorem PLe.refl (a : EReal × BitVec 32) : PLe a a := Or.inr ⟨rfl, le_rfl⟩
theorem PLe.trans (a b c : EReal × BitVec 32) (h : PLe a b) (h' : PLe b c) : PLe a c := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

end Cert.Proof.FirstMin
-- ==== Proof.KPay.lean ====
/-
  What the argmin call's steps compute over the extended reals, element by element: the distances of one
  block of codes, their least value, and the first code of a window at which the distance is least.
-/
module

public import proofs.«01_k».proof.Proof.ArgReg
public import proofs.«01_k».proof.Proof.FirstMin
public import Idealize.ShloMosaic.Lib.ValueIdx
public import Idealize.ShloMosaic.Lib.Pipeline.ValueKit
public import Idealize.ShloMosaic.Lib.ValueLayout
public import Idealize.ShloMosaic.Lib.MatmulPlain

@[expose] public section

noncomputable section

namespace Cert.Proof.Whole

open Cert.KernelIdeal Cert.KernelIdeal.Gen

open Idealize.ShloMosaic hiding ix0 ix1 ix2 ix3 ix4 ix5
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

open Idealize.ShloMosaic.ValueIdx (ix1 ix2 ix3)
open Idealize.ShloMosaic.ValueIdx (shapeCast_1ab_ab_apply shapeCast_a_1a_apply broadcastTo_1b_ab_apply)
open Cert.Proof.FirstMin (IsFirst)

/-- `v` is the least of the first `N` terms of `d`. -/
structure IsLeast (d : ℕ → EReal) (N : ℕ) (v : EReal) : Prop where
  mem : ∃ i, i < N ∧ v = d i
  le : ∀ i, i < N → v ≤ d i

theorem IsLeast.congr {d e : ℕ → EReal} {N : ℕ} {v : EReal} (h : ∀ j, j < N → d j = e j) (hv : IsLeast d N v) : IsLeast e N v :=
  ⟨hv.mem.elim fun i hi => ⟨i, hi.1, hi.2.trans (h i hi.1)⟩, fun i hi => (hv.le i hi).trans (le_of_eq (h i hi))⟩

theorem IsLeast.append {d : ℕ → EReal} {N : ℕ} {u v : EReal} (hu : IsLeast d N u) (hv : IsLeast (fun j => d (N + j)) N v) :
    IsLeast d (N + N) (min v u) := by
  obtain ⟨i, hi, hi'⟩ := hu.mem
  obtain ⟨l, hl, hl'⟩ := hv.mem
  refine ⟨?_, fun j hj => ?_⟩
  · rcases le_total v u with h | h
    · exact ⟨N + l, by omega, by rw [min_eq_left h]; exact hl'⟩
    · exact ⟨i, by omega, by rw [min_eq_right h]; exact hi'⟩
  · by_cases hj' : j < N
    · exact (min_le_right _ _).trans (hu.le j hj')
    · have := hv.le (j - N) (by omega)
      simp only [Nat.add_sub_cancel' (not_lt.1 hj')] at this
      exact (min_le_left _ _).trans this

theorem ofBits_top : FloatOps.ofBits (F := Ideal) .f32 0x7F800000#32 = (⊤ : EReal) := by
  show Ideal.ofBits _ _ = _
  simp [Ideal.ofBits, Ideal.ieee]

theorem ofBits_zero : FloatOps.ofBits (F := Ideal) .f32 0x00000000#32 = (0 : EReal) := by
  show Ideal.ofBits _ _ = _
  simp [Ideal.ofBits, Ideal.ieee]

/-- The distance the kernel computes for code `i` and vector `n` of one point. -/
def kd (A : FVec Ideal S1x1024x32 .bf16) (B : FVec Ideal S2048x32 .bf16) (C : FVec Ideal S1x1x1024 .f32) (D : FVec Ideal S2048x1 .f32)
    (i : Fin 2048) (n : Fin 1024) : EReal :=
  ((C (ix3 0 0 n) : EReal) + (D (ix2 i 0) : EReal)) - ∑ h : Fin 32, (B (ix2 i h) : EReal) * (A (ix3 0 n h) : EReal)

section
variable (A : FVec Ideal S1x1024x32 .bf16) (B : FVec Ideal S2048x32 .bf16) (C : FVec Ideal S1x1x1024 .f32) (D : FVec Ideal S2048x1 .f32)

theorem col_apply {a b : ℕ} {α : Type} (v : (⟨2, ![a, 1]⟩ : Shape).Idx → α) (h : (⟨2, ![a, 1]⟩ : Shape).Broadcasts ⟨2, ![a, b]⟩)
    (p : Fin a) (c : Fin b) (ha : a ≠ 1) : broadcastTo ⟨2, ![a, b]⟩ v h (ix2 p c) = v (ix2 p 0) := by
  refine broadcastTo_apply v h (ix2 p c) (ix2 p (0 : Fin 1)) fun ax => ?_
  match ax with
  | ⟨0, _⟩ => simp [ha]
  | ⟨1, _⟩ => rfl

theorem pay2_apply (i : Fin 2048) (n : Fin 1024) : k0_pay2 (F := Ideal) A B C D (ix2 i n) = kd A B C D i n := by
  have hm : (matmul (F := Ideal) dot_S2048x32_S1024x32_S2048x1024_1_1_0_0_n_n none (shapeCast S2048x32 B shapeCasts_S2048x32_S2048x32)
      (shapeCast S1024x32 A shapeCasts_S1x1024x32_S1024x32) (constant S2048x1024 .f32 0x00000000#32)) (ix2 i n)
      = ∑ h : Fin 32, (B (ix2 i h) : EReal) * (A (ix3 0 n h) : EReal) := by
    refine (Ideal.matmul_transposedRhs_apply (M := 2048) (K := 32) (N := 1024) none _ _ _ i n).trans ?_
    rw [show (constant (F := Ideal) S2048x1024 .f32 0x00000000#32) (ix2 i n) = (0 : EReal) from ofBits_zero, zero_add]
    refine Finset.sum_congr rfl fun h _ => ?_
    rw [shapeCast_self]
    exact congrArg (_ * ·) (shapeCast_1ab_ab_apply A _ n h)
  show ((broadcastTo S2048x1024 (shapeCast S1x1024 C shapeCasts_S1x1x1024_S1x1024) broadcasts_S1x1024_S2048x1024 (ix2 i n) : EReal)
    + broadcastTo S2048x1024 (shapeCast S2048x1 D shapeCasts_S2048x1_S2048x1) broadcasts_S2048x1_S2048x1024 (ix2 i n)) - _ = _
  rw [kd, ← hm]
  refine congrArg₂ (· - ·) (congrArg₂ (· + ·) ?_ ?_) rfl
  · exact (broadcastTo_1b_ab_apply _ _ i n).trans (shapeCast_1ab_ab_apply C _ 0 n)
  · rw [shapeCast_self]
    exact col_apply D _ i n (by decide)

theorem pay3_apply (i : Fin 2048) (n : Fin 1024) : k0_pay3 (F := Ideal) A B C D (ix2 i n) = kd A B C D i n := by
  unfold k0_pay3
  rw [shapeCast_self]; exact pay2_apply A B C D i n
end

theorem drop0 {a b : ℕ} (h : (⟨2, ![a, b]⟩ : Shape).Reduces [0] ⟨1, ![b]⟩) (i : (⟨2, ![a, b]⟩ : Shape).Idx) (n : Fin b) :
    h.drop i = ix1 n ↔ i 1 = n := by
  have e : (h.drop i 0 : ℕ) = i 1 := h.drop_apply_val_of_eq i 0 1 (by show 0 < 1; decide) rfl
  constructor
  · intro hd
    rw [hd] at e
    exact Fin.ext e.symm
  · intro hi
    funext ax
    match ax with
    | ⟨0, _⟩ => exact Fin.ext (e.trans (congrArg Fin.val hi))

theorem ix2_01 {a b : ℕ} (i : (⟨2, ![a, b]⟩ : Shape).Idx) : i = ix2 (i 0) (i 1) := by
  funext ax
  match ax with
  | ⟨0, _⟩ => rfl
  | ⟨1, _⟩ => rfl

theorem of_drop0 {a b : ℕ} (h : (⟨2, ![a, b]⟩ : Shape).Reduces [0] ⟨1, ![b]⟩) (i : (⟨2, ![a, b]⟩ : Shape).Idx) (n : Fin b)
    (hi : h.drop i = ix1 n) : ∃ p : Fin a, i = ix2 p n :=
  ⟨i 0, (ix2_01 i).trans (congrArg (ix2 (i 0)) ((drop0 h i n).1 hi))⟩

theorem pay4_least (A : FVec Ideal S1x1024x32 .bf16) (B : FVec Ideal S2048x32 .bf16) (C : FVec Ideal S1x1x1024 .f32) (D : FVec Ideal S2048x1 .f32)
    (n : Fin 1024) (d : ℕ → EReal) (hd : ∀ i : Fin 2048, kd A B C D i n = d i) :
    IsLeast d 2048 (k0_pay4 (F := Ideal) A B C D (ix2 0 n)) := by
  have e : k0_pay4 (F := Ideal) A B C D (ix2 0 n) = reduceFold reduces_S2048x1024_S1024 min (⊤ : EReal) (k0_pay2 (F := Ideal) A B C D) (ix1 n) := by
    refine (shapeCast_a_1a_apply (multiReduction (F := Ideal) .minimumf [0] S1024 (k0_pay2 (F := Ideal) A B C D) 0x7F800000#32 reduces_S2048x1024_S1024 (.inl rfl) rfl)
      shapeCasts_S1024_S1x1024 0 n).trans ?_
    have h0 : multiReduction (F := Ideal) .minimumf [0] S1024 (k0_pay2 (F := Ideal) A B C D) 0x7F800000#32 reduces_S2048x1024_S1024 (.inl rfl) rfl
        = reduceFold reduces_S2048x1024_S1024 min (FloatOps.ofBits (F := Ideal) .f32 0x7F800000#32 : EReal) (k0_pay2 (F := Ideal) A B C D) := rfl
    rw [h0, ofBits_top]
  rw [e]
  obtain ⟨h1, -, h3⟩ := FirstMin.reduceFold_min reduces_S2048x1024_S1024 (⊤ : EReal) (k0_pay2 (F := Ideal) A B C D) (ix1 n)
  have h4 : ∀ i : Fin 2048, reduceFold reduces_S2048x1024_S1024 min (⊤ : EReal) (k0_pay2 (F := Ideal) A B C D) (ix1 n) ≤ d i := fun i => by
    rw [← hd i, ← pay2_apply]
    exact h3 (ix2 i n) ((drop0 _ _ _).2 rfl)
  refine ⟨?_, fun i hi => h4 ⟨i, hi⟩⟩
  rcases h1 with h1 | ⟨i, hi, h1⟩
  · refine ⟨0, by decide, ?_⟩
    have := h4 ⟨0, by decide⟩
    rw [h1] at this ⊢
    exact (top_le_iff.1 this).symm
  · obtain ⟨p, rfl⟩ := of_drop0 _ _ _ hi
    exact ⟨p.val, p.isLt, h1.trans ((pay2_apply A B C D p n).trans (hd p))⟩

/-- The offset the kernel adds to a window's index, from the grid coordinate. -/
def off (a : BitVec 32) : BitVec 32 :=
  Scalar.muli (Scalar.select (Scalar.andi (Scalar.cmpi .ne (Scalar.subi (Scalar.extui (Scalar.cmpi .sgt a 0#32) : BitVec 32) (Scalar.extui (Scalar.cmpi .slt a 0#32)))
    (Scalar.subi (Scalar.extui (Scalar.cmpi .sgt (2#32 : BitVec 32) 0#32) : BitVec 32) (Scalar.extui (Scalar.cmpi .slt (2#32 : BitVec 32) 0#32))))
    (Scalar.cmpi .ne (Scalar.remsi a 2#32) 0#32)) (Scalar.subi (Scalar.divsi a 2#32) 1#32) (Scalar.divsi a 2#32)) 4096#32

theorem off_1 : off 1#32 = 0#32 := by decide
theorem off_3 : off 3#32 = 4096#32 := by decide

theorem toInt_ofNat (k : ℕ) (hk : k < 4096) : (BitVec.ofNat 32 k).toInt = k := by
  rw [BitVec.toInt_ofNat']
  simp only [Int.bmod]; omega

theorem pay7_first (a : BitVec 32) (cm : FVec Ideal S1x1024 .f32) (W : FVec Ideal S4096x1024 .f32) (n : Fin 1024) (d : ℕ → EReal)
    (hd : ∀ i : Fin 4096, W (ix2 i n) = d i) (hc : IsLeast d 4096 (cm (ix2 0 n))) :
    ∃ l, IsFirst d 4096 l ∧ d l = cm (ix2 0 n) ∧ k0_pay7 (F := Ideal) a cm W (ix2 0 n) = BitVec.ofNat 32 l + off a := by
  let S : IVec S4096x1024 32 := select (cmpf (F := Ideal) .oeq W (broadcastTo S4096x1024 cm broadcasts_S1x1024_S4096x1024))
    (iota .tc S4096x1024 32 [0] iota_S4096x1024_d0_w32) (broadcast S4096x1024 2147483647#32)
  have e : k0_pay7 (F := Ideal) a cm W (ix2 0 n) = reduceFold reduces_S4096x1024_S1024 IntOp.minsi 2147483647#32 S (ix1 n) + off a := by
    show shapeCast S1x1024 _ shapeCasts_S1024_S1x1024 (ix2 0 n) + off a = _
    exact congrArg (· + off a) (shapeCast_a_1a_apply _ shapeCasts_S1024_S1x1024 0 n)
  have hS : ∀ i : Fin 4096, S (ix2 i n) = if d i = cm (ix2 0 n) then BitVec.ofNat 32 i.val else 2147483647#32 := fun i => by
    have hb : broadcastTo S4096x1024 cm broadcasts_S1x1024_S4096x1024 (ix2 i n) = cm (ix2 0 n) := broadcastTo_1b_ab_apply _ _ i n
    have hi : iota .tc S4096x1024 32 [0] iota_S4096x1024_d0_w32 (ix2 i n) = BitVec.ofNat 32 i.val := by
      show BitVec.ofNat 32 (0 * 4096 + i.val) = _
      rw [Nat.zero_mul, Nat.zero_add]
    show Scalar.select (Ideal.cmp .oeq (W (ix2 i n)) (broadcastTo S4096x1024 cm broadcasts_S1x1024_S4096x1024 (ix2 i n)))
      (iota .tc S4096x1024 32 [0] iota_S4096x1024_d0_w32 (ix2 i n)) 2147483647#32 = _
    rw [hb, hi, hd i]
    by_cases h : d i = cm (ix2 0 n)
    · rw [if_pos h]; simp [Ideal.cmp, Scalar.select, h]
    · rw [if_neg h]; simp [Ideal.cmp, Scalar.select, h]
  obtain ⟨h1, -, h3⟩ := FirstMin.reduceFold_minsi reduces_S4096x1024_S1024 2147483647#32 S (ix1 n)
  rw [e]
  generalize reduceFold reduces_S4096x1024_S1024 IntOp.minsi 2147483647#32 S (ix1 n) = r at h1 h3 ⊢
  have h4 : ∀ i : Fin 4096, d i = cm (ix2 0 n) → r.toInt ≤ i.val := fun i hi => by
    have := h3 (ix2 i n) ((drop0 _ _ _).2 rfl)
    rwa [hS i, if_pos hi, toInt_ofNat _ i.isLt] at this
  obtain ⟨i₀, hi₀, hm₀⟩ := hc.mem
  have hr := h4 ⟨i₀, hi₀⟩ hm₀.symm
  have hmax : r ≠ 2147483647#32 := fun h => by
    rw [h] at hr
    have e2 : (2147483647#32 : BitVec 32).toInt = 2147483647 := by decide
    rw [e2] at hr
    simp only at hr
    omega
  obtain ⟨l, hl, hrl⟩ : ∃ l : Fin 4096, d l = cm (ix2 0 n) ∧ r = BitVec.ofNat 32 l.val := by
    rcases h1 with h1 | ⟨i, hi, h1⟩
    · exact absurd h1 hmax
    · obtain ⟨p, rfl⟩ := of_drop0 _ _ _ hi
      have h1' := h1.trans (hS p)
      by_cases h : d p.val = cm (ix2 0 n)
      · exact ⟨p, h, h1'.trans (if_pos h)⟩
      · exact absurd (h1'.trans (if_neg h)) hmax
  refine ⟨l.val, ⟨l.isLt, fun j hj => hl ▸ hc.le j hj, fun j hj hle => ?_⟩, hl, by rw [hrl]⟩
  have hj' : d j = cm (ix2 0 n) := le_antisymm (hl ▸ hle) (hc.le j hj)
  have := h4 ⟨j, hj⟩ hj'
  rw [hrl, toInt_ofNat _ l.isLt] at this
  exact_mod_cast this

end Cert.Proof.Whole
-- ==== Proof.Regs.lean ====
/-
  The two TensorCore regions of the kernel as entered from the thread state "every unscoped buffer at a valuation": the
  argmin region changes the index array alone, the finalize region its two results.
-/
module

public import proofs.«01_k».proof.Proof.ArgReg

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V Vp : (c : Dev nD) → (b : Ref sig .tc) → Buf (Elt F) ((c : Thread nD τ).loc b)) (O : Debt)
variable (adm : (p : Fin 2) → (pcfgs (F := F) p).Adm)

/-- The proof data of both regions, entered at `V`. -/
def pdats : (p : Fin 2) → (c : Dev nD) → Dat τ (Elt F) (HIx 1) ℕ UU ℕ (Pipeline.pin (pcfgs (F := F)) adm p) c
  | ⟨0, _⟩ => fun c => dat0 V O c
  | ⟨1, _⟩ => fun c => dat2 V O c

/-- The core owes what `O` says, and has recorded within it. -/
def owesIn (c : Dev nD) : sProp 𝕄 := iprop(∃ W, ⌜∀ p ∈ W, p ∈ O.recd c⌝ ∗ owes (c : Thread nD τ) (O.owed c) W)

/-- The result arrays as the regions leave them. -/
def out0 (c : Dev nD) : Buf (Elt F) ((c : Thread nD τ).loc main_v23) := (dat0 V O c).arrAt 4 cfg0.N
def out2 (c : Dev nD) : Buf (Elt F) ((c : Thread nD τ).loc main_v28_0) := (dat2 V O c).arrAt 2 cfg2.N
def out3 (c : Dev nD) : Buf (Elt F) ((c : Thread nD τ).loc main_v28_1) := (dat2 V O c).arrAt 3 cfg2.N

set_option backward.isDefEq.respectTransparency.types false in
/-- The argmin region: the index array at its result, every other unscoped buffer kept. -/
def reg0 (R : Dev nD → sProp 𝕄) (hO : ∀ c g, O.owed c g none = 0) (hrec : ∀ c sm, (sm, none) ∈ O.recd c)
    (hVp_out : ∀ c, Vp c main_v23 = out0 V O c) (hVp_ne : ∀ c (b : Ref sig .tc), b ≠ main_v23 → Vp c b = V c b) :
    Pipeline.RegionSeg (pcfgs (F := F)) adm (pdats V O adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 V O c).loose
  hwaits c := Pipeline.cellsWaits_intro _ _ _ _ _ fun w s t => (K (F := F)).mayWait_none _ (hO c)
  pre c := iprop(unscopedBufs c (V c) ∗ R c ∗ owesIn O c)
  post c := iprop(unscopedBufs c (Vp c) ∗ R c ∗ owesIn O c)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V O adm) launch0.win launch0.arr_whole c
      ((pdats V O adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesIn
      icases HO with ⟨%W, %hW, HO⟩; iexists W; isplitr; · ipureintro; exact fun p hp => Or.inl (hW p hp)
      iexact HO
    isplitr; · iempintro
    isplitl [Hrest] <;> iassumption
  hin c := by
    rw [show (pdats V O adm 0 c).Φ 0 = Phi0 V c 0 from rfl]
    unfold Phi0
    iintro ⟨-, -, Hr⟩
    ihave H := (Entails.of_eq (scopedRest0_split (F := F) c)) $$ Hr
    icases H with ⟨⟨%f5, H5⟩, ⟨%f6, H6⟩, ⟨%f7, H7⟩, ⟨%f8, H8⟩, ⟨%f9, H9⟩, HR⟩
    isplitr [HR]
    · iexists f5, f6, f7, f8, f9
      isplitr
      · ipureintro; exact ⟨fun h => absurd h (by decide), fun h => absurd h (by decide), fun h => absurd h (by decide)⟩
      isplitl [H5]; · iexact H5
      isplitl [H6]; · iexact H6
      isplitl [H7]; · iexact H7
      isplitl [H8]; · iexact H8
      iexact H9
    iexact HR
  hout c := by
    rw [Pipeline.ownSems0_none, show (pdats V O adm 0 c).Φ (Fin.last _) = Phi0 V c cfg0.N from rfl]
    unfold Phi0
    iintro ⟨⟨%f5, %f6, %f7, %f8, %f9, -, H5, H6, H7, H8, H9⟩, HR⟩
    isplitr; · iempintro
    isplitr; · iempintro
    iapply (Entails.of_eq (scopedRest0_split (F := F) c).symm)
    isplitl [H5]; · iexists f5; iexact H5
    isplitl [H6]; · iexists f6; iexact H6
    isplitl [H7]; · iexists f7; iexact H7
    isplitl [H8]; · iexists f8; iexact H8
    isplitl [H9]; · iexists f9; iexact H9
    iexact HR
  hexit c := by
    have hjoin := Pipeline.unscopedBufs_of_arrays (p := 0) (pcfgs (F := F)) adm (Ix := HIx 1) (Name := ℕ) (U := UU) (Lvl := ℕ) launch0.win launch0.arr_whole c
      (pdats V O adm) ((pdats V O adm 0 c).share_full fun _ => rfl) (V c) (Vp c) ((pdats V O adm 0 c).arrAt · cfg0.N)
      (fun w => by
        fin_cases w
        · exact ((pdats V O adm 0 c).arrAt_in 0 rfl _).trans (hVp_ne c main_v21 (by decide)).symm
        · exact ((pdats V O adm 0 c).arrAt_in 1 rfl _).trans (hVp_ne c main_v22 (by decide)).symm
        · exact ((pdats V O adm 0 c).arrAt_in 2 rfl _).trans (hVp_ne c main_v15 (by decide)).symm
        · exact ((pdats V O adm 0 c).arrAt_in 3 rfl _).trans (hVp_ne c main_v18 (by decide)).symm
        · exact (hVp_out c).symm)
      (fun b hb => hVp_ne c b fun h => hb (h ▸ Finset.mem_image.mpr ⟨4, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin owesIn
    icases HO with ⟨%W, %hW, HO⟩; iexists W; isplitr
    · ipureintro
      intro p hp
      rcases hW hp with h | ⟨w, s, rfl⟩
      · exact h
      · exact hrec c _
    iexact HO

set_option backward.isDefEq.respectTransparency.types false in
/-- The finalize region: its two results, every other unscoped buffer kept. -/
def reg2 (R : Dev nD → sProp 𝕄) (hO : ∀ c g, O.owed c g none = 0) (hrec : ∀ c sm, (sm, none) ∈ O.recd c)
    (hVp_out2 : ∀ c, Vp c main_v28_0 = out2 V O c) (hVp_out3 : ∀ c, Vp c main_v28_1 = out3 V O c)
    (hVp_ne : ∀ c (b : Ref sig .tc), b ≠ main_v28_0 → b ≠ main_v28_1 → Vp c b = V c b) :
    Pipeline.RegionSeg (pcfgs (F := F)) adm (pdats V O adm) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 V O c).loose
  hwaits c := Pipeline.cellsWaits_intro _ _ _ _ _ fun w s t => (K (F := F)).mayWait_none _ (hO c)
  pre c := iprop(unscopedBufs c (V c) ∗ R c ∗ owesIn O c)
  post c := iprop(unscopedBufs c (Vp c) ∗ R c ∗ owesIn O c)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats V O adm) launch2.win launch2.arr_whole c
      ((pdats V O adm 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesIn
      icases HO with ⟨%W, %hW, HO⟩; iexists W; isplitr; · ipureintro; exact fun p hp => Or.inl (hW p hp)
      iexact HO
    isplitr; · iempintro
    isplitl [Hrest] <;> iassumption
  hin c := by
    rw [show (pdats V O adm 1 c).Φ 0 = Phi2 V c 0 from rfl]
    unfold Phi2
    iintro ⟨-, -, Hr⟩
    ihave H := (Entails.of_eq (scopedRest2_split (F := F) c)) $$ Hr
    icases H with ⟨⟨%f, H⟩, HR⟩
    isplitr [HR]
    · iexists f
      isplitr
      · ipureintro; exact fun h => absurd h (by decide)
      iexact H
    iexact HR
  hout c := by
    rw [Pipeline.ownSems0_none, show (pdats V O adm 1 c).Φ (Fin.last _) = Phi2 V c cfg2.N from rfl]
    unfold Phi2
    iintro ⟨⟨%f, -, H⟩, HR⟩
    isplitr; · iempintro
    isplitr; · iempintro
    iapply (Entails.of_eq (scopedRest2_split (F := F) c).symm)
    isplitl [H]; · iexists f; iexact H
    iexact HR
  hexit c := by
    have hjoin := Pipeline.unscopedBufs_of_arrays (p := 1) (pcfgs (F := F)) adm (Ix := HIx 1) (Name := ℕ) (U := UU) (Lvl := ℕ) launch2.win launch2.arr_whole c
      (pdats V O adm) ((pdats V O adm 1 c).share_full fun _ => rfl) (V c) (Vp c) ((pdats V O adm 1 c).arrAt · cfg2.N)
      (fun w => by
        fin_cases w
        · exact ((pdats V O adm 1 c).arrAt_in 0 rfl _).trans (hVp_ne c main_v27 (by decide) (by decide)).symm
        · exact ((pdats V O adm 1 c).arrAt_in 1 rfl _).trans (hVp_ne c main_v4 (by decide) (by decide)).symm
        · exact (hVp_out2 c).symm
        · exact (hVp_out3 c).symm)
      (fun b hb => hVp_ne c b (fun h => hb (h ▸ Finset.mem_image.mpr ⟨2, Finset.mem_univ _, rfl⟩)) fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin owesIn
    icases HO with ⟨%W, %hW, HO⟩; iexists W; isplitr
    · ipureintro
      intro p hp
      rcases hW hp with h | ⟨w, s, rfl⟩
      · exact h
      · exact hrec c _
    iexact HO

end Cert.Proof.Whole
-- ==== Proof.OutVal.lean ====
/-
  The arrays the two TensorCore calls leave, element by element, and the blocks they read.
-/
module

public import proofs.«01_k».proof.Proof.Regs
public import Idealize.ShloMosaic.Lib.Pipeline.ValueKit
public import Idealize.ShloMosaic.Lib.ValueIdx

@[expose] public section

noncomputable section

namespace Cert.Proof.Whole

open Cert.KernelIdeal Cert.KernelIdeal.Gen

open Idealize.ShloMosaic hiding ix0 ix1 ix2 ix3 ix4 ix5
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx (ix1 ix2 ix3)

variable (V : (c : Dev nD) → (b : Ref sig .tc) → Buf (Elt F) ((c : Thread nD τ).loc b)) (O : Debt) (c : Dev nD)

theorem ind0_0 : ∀ t : Fin cfg0.N, win0_0.index t = ![t.val / 4, 0, 0] := (by decide +kernel : ∀ t : Fin grid0.N, _)
theorem ind0_1 : ∀ t : Fin cfg0.N, win0_1.index t = ![t.val % 4, 0] := (by decide +kernel : ∀ t : Fin grid0.N, _)
theorem ind0_2 : ∀ t : Fin cfg0.N, win0_2.index t = ![t.val / 4, 0, 0] := (by decide +kernel : ∀ t : Fin grid0.N, _)
theorem ind0_3 : ∀ t : Fin cfg0.N, win0_3.index t = ![t.val % 4, 0] := (by decide +kernel : ∀ t : Fin grid0.N, _)
theorem ind0_4 : ∀ t : Fin cfg0.N, win0_4.index t = ![t.val / 4, 0, 0] := (by decide +kernel : ∀ t : Fin grid0.N, _)
theorem flu0_4 : ∀ t : Fin cfg0.N, win0_4.flush t = true → t.val % 4 = 3 := (by decide +kernel : ∀ t : Fin grid0.N, _)
theorem ind2_0 : ∀ t : Fin cfg2.N, win2_0.index t = ![t.val, 0, 0] := (by decide +kernel : ∀ t : Fin grid2.N, _)
theorem ind2_1 : ∀ t : Fin cfg2.N, win2_1.index t = ![t.val, 0, 0] := (by decide +kernel : ∀ t : Fin grid2.N, _)
theorem ind2_2 : ∀ t : Fin cfg2.N, win2_2.index t = ![t.val, 0, 0] := (by decide +kernel : ∀ t : Fin grid2.N, _)

theorem div0 (t : Fin grid0.N) : t.val / 4 < 16 := by
  have := Nat.lt_of_lt_of_eq t.isLt N_0; omega
theorem lt2 (t : Fin grid2.N) : t.val < 16 := Nat.lt_of_lt_of_eq t.isLt N_2

theorem X0_0_apply (t : Fin grid0.N) (n : Fin 1024) (h : Fin 32) :
    X0_0 V c t (ix3 0 n h) = V c main_v21 (ix3 ⟨t.val / 4, div0 t⟩ n h) := by
  have e := ind0_0 t
  show V c main_v21 ((win0_0.blk t).view.emb _) = _
  congr 1
  blk_ext [e]

theorem X0_1_apply (t : Fin grid0.N) (k : Fin 2048) (h : Fin 32) :
    X0_1 V c t (ix2 k h) = V c main_v22 (ix2 ⟨2048 * (t.val % 4) + k.val, by have := k.isLt; omega⟩ h) := by
  have e := ind0_1 t
  show V c main_v22 ((win0_1.blk t).view.emb _) = _
  congr 1
  blk_ext [e]
  show _ = _ + k.val; rw [Nat.mul_comm]

theorem X0_2_apply (t : Fin grid0.N) (n : Fin 1024) :
    X0_2 V c t (ix3 0 0 n) = V c main_v15 (ix3 ⟨t.val / 4, div0 t⟩ 0 n) := by
  have e := ind0_2 t
  show V c main_v15 ((win0_2.blk t).view.emb _) = _
  congr 1
  blk_ext [e]

theorem X0_3_apply (t : Fin grid0.N) (k : Fin 2048) :
    X0_3 V c t (ix2 k 0) = V c main_v18 (ix2 ⟨2048 * (t.val % 4) + k.val, by have := k.isLt; omega⟩ 0) := by
  have e := ind0_3 t
  show V c main_v18 ((win0_3.blk t).view.emb _) = _
  congr 1
  blk_ext [e]
  show _ = _ + k.val; rw [Nat.mul_comm]

theorem X2_0_apply (t : Fin grid2.N) (n : Fin 1024) (h : Fin 128) :
    X2_0 V c t (ix3 0 n h) = V c main_v27 (ix3 ⟨t.val, lt2 t⟩ n h) := by
  have e := ind2_0 t
  show V c main_v27 ((win2_0.blk t).view.emb _) = _
  congr 1
  blk_ext [e]

theorem X2_1_apply (t : Fin grid2.N) (n : Fin 1024) (h : Fin 32) :
    X2_1 V c t (ix3 0 n h) = V c main_v4 (ix3 ⟨t.val, lt2 t⟩ n h) := by
  have e := ind2_1 t
  show V c main_v4 ((win2_1.blk t).view.emb _) = _
  congr 1
  blk_ext [e]

/-- The indices the argmin call leaves: batch by batch what its last point writes. -/
theorem out0_apply (b : Fin 16) (n : Fin 1024) : out0 V O c (ix3 b 0 n) = res0 V c (4 * b.val) (ix3 0 0 n) := by
  have key : (dat0 V O c).arrAt 4 cfg0.N = fun i : S16x1x1024.Idx => res0 V c (4 * (i 0).val) (ix3 0 0 (i 2)) := by
    refine (dat0 V O c).arrAt_eq_of_covers 4 _ (by decide +kernel) fun t hf y => ?_
    have e := ind0_4 t
    have hm := flu0_4 t hf
    have ht : t.val < 64 := Nat.lt_of_lt_of_eq t.isLt N_0
    blk_simp
    have e0 : win0_4.index t 0 = t.val / 4 := by rw [e]; rfl
    rw [e0]
    show res0 V c (t.val - 3) y = _
    rw [show 4 * (t.val / 4) = t.val - 3 by omega]
    congr 1
    funext a
    have h0 : (y 0).val < 1 := (y 0).isLt
    have h1 : (y 1).val < 1 := (y 1).isLt
    fin_cases a
    · exact Fin.ext (by show (y 0).val = 0; omega)
    · exact Fin.ext (by show (y 1).val = 0; omega)
    · refine Fin.ext ?_
      show (y 2).val = ((win0_4.blk t).view.emb y 2).val
      blk_simp
      rw [e]; show _ = 0 * _ + _; omega
  exact congrFun key (ix3 b 0 n)

/-- The normalised rows the finalize call leaves. -/
theorem out2_apply (b : Fin 16) (n : Fin 1024) (h : Fin 32) :
    out2 V O c (ix3 b n h) = k2_pay3 (X2_0 V c (pt2 b.val)) (X2_1 V c (pt2 b.val)) (ix3 0 n h) := by
  have key : (dat2 V O c).arrAt 2 cfg2.N = fun i : S16x1024x32.Idx => k2_pay3 (X2_0 V c (pt2 (i 0).val)) (X2_1 V c (pt2 (i 0).val)) (ix3 0 (i 1) (i 2)) := by
    refine (dat2 V O c).arrAt_eq_of_covers 2 _ (by decide +kernel) fun t hf y => ?_
    have e := ind2_2 t
    blk_simp
    have e0 : win2_2.index t 0 = t.val := by rw [e]; rfl
    rw [e0, pt2_val]
    show k2_pay3 (X2_0 V c t) (X2_1 V c t) y = _
    congr 1
    funext a
    have h0 : (y 0).val < 1 := (y 0).isLt
    fin_cases a
    · exact Fin.ext (by show (y 0).val = 0; omega)
    · refine Fin.ext ?_
      show (y 1).val = ((win2_2.blk t).view.emb y 1).val
      blk_simp
      rw [e]; show _ = 0 * _ + _; omega
    · refine Fin.ext ?_
      show (y 2).val = ((win2_2.blk t).view.emb y 2).val
      blk_simp
      rw [e]; show _ = 0 * _ + _; omega
  exact congrFun key (ix3 b n h)

/-- The loss it leaves. -/
theorem out3_apply : out3 V O c (ix2 0 0) = k2_pay6 (acc2 V c 15) (ix2 0 0) := by
  have key : (dat2 V O c).arrAt 3 cfg2.N = fun i : S1x1.Idx => k2_pay6 (acc2 V c 15) i := by
    refine (dat2 V O c).arrAt_eq_of_after_last 3 (pt2 15) (by decide +kernel) _ fun j => ?_
    blk_simp
    rfl
  exact congrFun key (ix2 0 0)

end Cert.Proof.Whole
-- ==== Proof.KArg.lean ====
/-
  The indices the argmin call leaves over the extended reals: at every vector the first code at which the distance
  is least.
-/
module

public import proofs.«01_k».proof.Proof.KPay
public import proofs.«01_k».proof.Proof.OutVal

@[expose] public section

noncomputable section

namespace Cert.Proof.Whole

open Cert.KernelIdeal Cert.KernelIdeal.Gen

open Idealize.ShloMosaic hiding ix0 ix1 ix2 ix3 ix4 ix5
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

open Idealize.ShloMosaic.ValueIdx (ix1 ix2 ix3)
open Cert.Proof.FirstMin (IsFirst)
open Idealize.ShloMosaic.ValueIdx (shapeCast_ab_1ab_apply)

variable (V : (c : Dev nD) → (b : Ref sig .tc) → Buf (Elt Ideal) ((c : Thread nD τ).loc b)) (c : Dev nD)

/-- Position `k` of the table. -/
def code (k : ℕ) : Fin 8192 := ⟨k % 8192, Nat.mod_lt _ (by decide)⟩

/-- The distance of code `k` from vector `n` of batch `b`, from the four arrays the argmin call reads. -/
def dv (A : FVec Ideal S16x1024x32 .bf16) (B : FVec Ideal S8192x32 .bf16) (C : FVec Ideal S16x1x1024 .f32) (D : FVec Ideal S8192x1 .f32)
    (b : Fin 16) (n : Fin 1024) (k : ℕ) : EReal :=
  ((C (ix3 b 0 n) : EReal) + (D (ix2 (code k) 0) : EReal)) - ∑ h : Fin 32, (B (ix2 (code k) h) : EReal) * (A (ix3 b n h) : EReal)

/-- The same of the valuation's arrays. -/
def dval (b : Fin 16) (n : Fin 1024) (k : ℕ) : EReal := dv (V c main_v21) (V c main_v22) (V c main_v15) (V c main_v18) b n k

theorem pt_val (b : Fin 16) (j : ℕ) (hj : j < 4) : (pt0 (4 * b.val + j)).val = 4 * b.val + j := by
  show (4 * b.val + j) % 64 = _
  omega

theorem kd_dval (b : Fin 16) (j : ℕ) (hj : j < 4) (i : Fin 2048) (n : Fin 1024) :
    kd (X0_0 V c (pt0 (4 * b.val + j))) (X0_1 V c (pt0 (4 * b.val + j))) (X0_2 V c (pt0 (4 * b.val + j))) (X0_3 V c (pt0 (4 * b.val + j))) i n
      = dval V c b n (2048 * j + i.val) := by
  have hv := pt_val b j hj
  have hb : ∀ h, (⟨(pt0 (4 * b.val + j)).val / 4, h⟩ : Fin 16) = b := fun h => Fin.ext (by show (pt0 (4 * b.val + j)).val / 4 = _; omega)
  have hk : ∀ h, (⟨2048 * ((pt0 (4 * b.val + j)).val % 4) + i.val, h⟩ : Fin 8192) = code (2048 * j + i.val) := fun h =>
    Fin.ext (by show 2048 * ((pt0 (4 * b.val + j)).val % 4) + i.val = (2048 * j + i.val) % 8192; have := i.isLt; omega)
  unfold kd dval dv
  refine congrArg₂ (· - ·) (congrArg₂ (· + ·) ?_ ?_) (Finset.sum_congr rfl fun h _ => congrArg₂ (· * ·) ?_ ?_)
  · exact (X0_2_apply V c _ n).trans (by rw [hb])
  · exact (X0_3_apply V c _ i).trans (by rw [hk])
  · exact (X0_1_apply V c _ i h).trans (by rw [hk])
  · exact (X0_0_apply V c _ n h).trans (by rw [hb])

theorem mins_least (b : Fin 16) (j : ℕ) (hj : j < 4) (n : Fin 1024) :
    IsLeast (fun i => dval V c b n (2048 * j + i)) 2048 (mins V c (4 * b.val + j) (ix2 0 n)) :=
  pay4_least _ _ _ _ n _ fun i => kd_dval V c b j hj i n

theorem cmin_least (b : Fin 16) (q : ℕ) (hq : q < 2) (n : Fin 1024) :
    IsLeast (fun i => dval V c b n (4096 * q + i)) 4096 (cmin V c (4 * b.val + 2 * q) (ix2 0 n)) := by
  have h0 := mins_least V c b (2 * q) (by omega) n
  have h1 := mins_least V c b (2 * q + 1) (by omega) n
  have e : cmin V c (4 * b.val + 2 * q) (ix2 0 n) = min (mins V c (4 * b.val + (2 * q + 1)) (ix2 0 n) : EReal) (mins V c (4 * b.val + 2 * q) (ix2 0 n)) := by
    unfold cmin k0_pay6 k0_pay5
    rw [shapeCast_self, shapeCast_self]
    rfl
  rw [e]
  refine IsLeast.append (N := 2048) (h0.congr fun j _ => ?_) (h1.congr fun j _ => ?_)
  · exact congrArg (dval V c b n) (by omega)
  · exact congrArg (dval V c b n) (by omega)

theorem dist_apply (b : Fin 16) (j : ℕ) (hj : j < 4) (i : Fin 2048) (n : Fin 1024) :
    dist V c (4 * b.val + j) (ix2 i n) = dval V c b n (2048 * j + i.val) :=
  (pay3_apply _ _ _ _ i n).trans (kd_dval V c b j hj i n)

theorem win2k_apply (b : Fin 16) (q : ℕ) (hq : q < 2) (i : Fin 4096) (n : Fin 1024) :
    win2k V c (4 * b.val + 2 * q) (ix2 i n) = dval V c b n (4096 * q + i.val) := by
  have hi := i.isLt
  by_cases h : i.val < 2048
  · refine (show win2k V c (4 * b.val + 2 * q) (ix2 i n) = dist V c (4 * b.val + 2 * q) (ix2 ⟨i.val, h⟩ n) from dif_pos h).trans ?_
    rw [dist_apply V c b (2 * q) (by omega)]
    exact congrArg (dval V c b n) (by show 2048 * (2 * q) + i.val = _; omega)
  · refine (show win2k V c (4 * b.val + 2 * q) (ix2 i n) = dist V c (4 * b.val + (2 * q + 1)) (ix2 ⟨i.val - 2048, by omega⟩ n) from dif_neg h).trans ?_
    rw [dist_apply V c b (2 * q + 1) (by omega)]
    exact congrArg (dval V c b n) (by show 2048 * (2 * q + 1) + (i.val - 2048) = _; omega)

theorem ofNat_toNat (k : ℕ) (hk : k < 8192) : (BitVec.ofNat 32 k).toNat = k := by
  rw [BitVec.toNat_ofNat]; omega

theorem pay1_apply (x : IVec S1x1024 32) (n : Fin 1024) : k0_pay1 (F := Ideal) x (ix3 0 0 n) = x (ix2 0 n) := by
  unfold k0_pay1
  exact shapeCast_ab_1ab_apply x shapeCasts_S1x1024_S1x1x1024 0 0 n

theorem pay13_apply (c0 c1 : FVec Ideal S1x1024 .f32) (w0 w1 : FVec Ideal S4096x1024 .f32) (n : Fin 1024) :
    k0_pay1 (F := Ideal) (k0_pay13 (F := Ideal) 3#32 c1 w1 (k0_pay9 (F := Ideal) c0) (k0_pay10 (F := Ideal) 1#32 c0 w0)) (ix3 0 0 n)
      = Scalar.select (Ideal.cmp .ogt (c0 (ix2 0 n)) (c1 (ix2 0 n))) (k0_pay7 (F := Ideal) 3#32 c1 w1 (ix2 0 n)) (k0_pay7 (F := Ideal) 1#32 c0 w0 (ix2 0 n)) := by
  rw [pay1_apply]
  unfold k0_pay13 k0_pay10 k0_pay9
  rw [shapeCast_self, shapeCast_self, shapeCast_self]
  unfold k0_pay11 k0_pay8
  rfl

/-- The index left for vector `n` of batch `b` is the first code at which the distance is least. -/
theorem res0_first (b : Fin 16) (n : Fin 1024) : IsFirst (dval V c b n) 8192 (res0 V c (4 * b.val) (ix3 0 0 n)).toNat := by
  obtain ⟨l₀, f₀, m₀, e₀⟩ := pay7_first 1#32 (cmin V c (4 * b.val + 2 * 0)) (win2k V c (4 * b.val + 2 * 0)) n _ (fun i => win2k_apply V c b 0 (by decide) i n) (cmin_least V c b 0 (by decide) n)
  obtain ⟨l₁, f₁, m₁, e₁⟩ := pay7_first 3#32 (cmin V c (4 * b.val + 2 * 1)) (win2k V c (4 * b.val + 2 * 1)) n _ (fun i => win2k_apply V c b 1 (by decide) i n) (cmin_least V c b 1 (by decide) n)
  have e : res0 V c (4 * b.val) (ix3 0 0 n) = Scalar.select (Ideal.cmp .ogt (cmin V c (4 * b.val + 2 * 0) (ix2 0 n)) (cmin V c (4 * b.val + 2 * 1) (ix2 0 n)))
      (k0_pay7 (F := Ideal) 3#32 (cmin V c (4 * b.val + 2 * 1)) (win2k V c (4 * b.val + 2 * 1)) (ix2 0 n))
      (k0_pay7 (F := Ideal) 1#32 (cmin V c (4 * b.val + 2 * 0)) (win2k V c (4 * b.val + 2 * 0)) (ix2 0 n)) := by
    have m0 : 4 * b.val + 2 * 0 = 4 * b.val := by omega
    have m1 : 4 * b.val + 2 * 1 = 4 * b.val + 2 := by omega
    rw [m0, m1]
    unfold res0
    generalize cmin V c (4 * b.val + 2) = c1
    generalize win2k V c (4 * b.val + 2) = w1
    unfold best bestIx
    generalize cmin V c (4 * b.val) = c0
    generalize win2k V c (4 * b.val) = w0
    exact pay13_apply c0 c1 w0 w1 n
  rw [e, e₀, e₁, off_1, off_3, ← m₀, ← m₁]
  have g₀ : IsFirst (dval V c b n) 4096 l₀ := f₀.congr fun j _ => congrArg (dval V c b n) (by omega)
  have g₁ : IsFirst (fun j => dval V c b n (4096 + j)) 4096 l₁ := f₁.congr fun j _ => congrArg (dval V c b n) (by omega)
  have h := IsFirst.merge (N := 4096) g₀ g₁
  have hl₀ := g₀.lt
  have hl₁ := g₁.lt
  have hs : (Scalar.select (Ideal.cmp .ogt (dval V c b n (4096 * 0 + l₀)) (dval V c b n (4096 * 1 + l₁))) (BitVec.ofNat 32 l₁ + 4096#32) (BitVec.ofNat 32 l₀ + 0#32)).toNat
      = if dval V c b n (4096 + l₁) < dval V c b n l₀ then 4096 + l₁ else l₀ := by
    rw [Nat.mul_zero, Nat.zero_add, Nat.mul_one]
    by_cases hlt : dval V c b n (4096 + l₁) < dval V c b n l₀
    · rw [if_pos hlt]
      simp only [Ideal.cmp, hlt, decide_true, BitVec.ofBool_true, Scalar.select]
      show (BitVec.ofNat 32 l₁ + 4096#32).toNat = _
      rw [BitVec.toNat_add, ofNat_toNat l₁ (by omega)]
      show (l₁ + 4096) % 2 ^ 32 = _
      omega
    · rw [if_neg hlt]
      simp only [Ideal.cmp, hlt, decide_false, BitVec.ofBool_false, Scalar.select]
      show (BitVec.ofNat 32 l₀ + 0#32).toNat = _
      rw [BitVec.add_zero, ofNat_toNat l₀ (by omega)]
  rw [hs]
  exact h

end Cert.Proof.Whole
-- ==== Proof.ArgCallVal.lean ====
/-
  The argmin call alone over the extended reals: at every vector it leaves the first code at which the distance is
  least.
-/
module

public import proofs.«01_k».proof.Proof.ArgCallReg
public import proofs.«01_k».proof.Proof.KArg

@[expose] public section

noncomputable section

namespace Cert.Proof.ArgCall

open Cert.ArgminIdeal Cert.ArgminIdeal.Gen

open Idealize.ShloMosaic hiding ix0 ix1 ix2 ix3 ix4 ix5
open Idealize.ShloMosaic.TcCoe
open Idealize.ShloMosaic.Tactic
open Idealize.ShloMosaic.Pipeline (Dat Cfg Window BodyObligation cellOf)
open Idealize.ShloMosaic.ValueIdx (ix1 ix2 ix3)
open Idealize.ShloMosaic.ValueIdx (shapeCast_ab_1ab_apply)
open Cert.Proof.FirstMin (IsFirst)
open Cert.Proof.Whole (kd IsLeast IsLeast.congr IsLeast.append off off_1 off_3 code dv ofNat_toNat)

/-! ## The steps are the whole kernel's -/

theorem pay2_same (A : FVec Ideal S1x1024x32 .bf16) (B : FVec Ideal S2048x32 .bf16) (C : FVec Ideal S1x1x1024 .f32) (D : FVec Ideal S2048x1 .f32) :
    k0_pay2 (F := Ideal) A B C D = Cert.KernelIdeal.Gen.k0_pay2 (F := Ideal) A B C D := by
  unfold k0_pay2 Cert.KernelIdeal.Gen.k0_pay2
  dsimp only
  rw [shapeCast_self, shapeCast_self]
  rfl

theorem pay3_apply (A : FVec Ideal S1x1024x32 .bf16) (B : FVec Ideal S2048x32 .bf16) (C : FVec Ideal S1x1x1024 .f32) (D : FVec Ideal S2048x1 .f32)
    (i : Fin 2048) (n : Fin 1024) : k0_pay3 (F := Ideal) A B C D (ix2 i n) = kd A B C D i n := by
  unfold k0_pay3
  rw [shapeCast_self, pay2_same]
  exact Whole.pay2_apply A B C D i n

theorem pay4_least (A : FVec Ideal S1x1024x32 .bf16) (B : FVec Ideal S2048x32 .bf16) (C : FVec Ideal S1x1x1024 .f32) (D : FVec Ideal S2048x1 .f32)
    (n : Fin 1024) (d : ℕ → EReal) (hd : ∀ i : Fin 2048, kd A B C D i n = d i) :
    IsLeast d 2048 (k0_pay4 (F := Ideal) A B C D (ix2 0 n)) := by
  have e : k0_pay4 (F := Ideal) A B C D = Cert.KernelIdeal.Gen.k0_pay4 (F := Ideal) A B C D := by
    unfold k0_pay4 Cert.KernelIdeal.Gen.k0_pay4
    rw [pay2_same]
  rw [e]
  exact Whole.pay4_least A B C D n d hd

theorem pay7_first (a : BitVec 32) (cm : FVec Ideal S1x1024 .f32) (W : FVec Ideal S4096x1024 .f32) (n : Fin 1024) (d : ℕ → EReal)
    (hd : ∀ i : Fin 4096, W (ix2 i n) = d i) (hc : IsLeast d 4096 (cm (ix2 0 n))) :
    ∃ l, IsFirst d 4096 l ∧ d l = cm (ix2 0 n) ∧ k0_pay7 (F := Ideal) a cm W (ix2 0 n) = BitVec.ofNat 32 l + off a := by
  have e : k0_pay7 (F := Ideal) a cm W = Cert.KernelIdeal.Gen.k0_pay7 (F := Ideal) a cm W := rfl
  rw [e]
  exact Whole.pay7_first a cm W n d hd hc

/-! ## The blocks read, and the array left -/

section
variable {F : FTy → Type} [FloatOps F]
variable (V : (c : Dev nD) → (b : Ref sig .tc) → Buf (Elt F) ((c : Thread nD τ).loc b)) (c : Dev nD)

theorem ind0_0 : ∀ t : Fin cfg0.N, win0_0.index t = ![t.val / 4, 0, 0] := (by decide +kernel : ∀ t : Fin grid0.N, _)
theorem ind0_1 : ∀ t : Fin cfg0.N, win0_1.index t = ![t.val % 4, 0] := (by decide +kernel : ∀ t : Fin grid0.N, _)
theorem ind0_2 : ∀ t : Fin cfg0.N, win0_2.index t = ![t.val / 4, 0, 0] := (by decide +kernel : ∀ t : Fin grid0.N, _)
theorem ind0_3 : ∀ t : Fin cfg0.N, win0_3.index t = ![t.val % 4, 0] := (by decide +kernel : ∀ t : Fin grid0.N, _)
theorem ind0_4 : ∀ t : Fin cfg0.N, win0_4.index t = ![t.val / 4, 0, 0] := (by decide +kernel : ∀ t : Fin grid0.N, _)
theorem flu0_4 : ∀ t : Fin cfg0.N, win0_4.flush t = true → t.val % 4 = 3 := (by decide +kernel : ∀ t : Fin grid0.N, _)

theorem div0 (t : Fin grid0.N) : t.val / 4 < 16 := by
  have := Nat.lt_of_lt_of_eq t.isLt N_0; omega

theorem X0_0_apply (t : Fin grid0.N) (n : Fin 1024) (h : Fin 32) :
    X0_0 V c t (ix3 0 n h) = V c main_arg0 (ix3 ⟨t.val / 4, div0 t⟩ n h) := by
  have e := ind0_0 t
  show V c main_arg0 ((win0_0.blk t).view.emb _) = _
  congr 1
  blk_ext [e]

theorem X0_1_apply (t : Fin grid0.N) (k : Fin 2048) (h : Fin 32) :
    X0_1 V c t (ix2 k h) = V c main_arg1 (ix2 ⟨2048 * (t.val % 4) + k.val, by have := k.isLt; omega⟩ h) := by
  have e := ind0_1 t
  show V c main_arg1 ((win0_1.blk t).view.emb _) = _
  congr 1
  blk_ext [e]
  show _ = _ + k.val; rw [Nat.mul_comm]

theorem X0_2_apply (t : Fin grid0.N) (n : Fin 1024) :
    X0_2 V c t (ix3 0 0 n) = V c main_arg2 (ix3 ⟨t.val / 4, div0 t⟩ 0 n) := by
  have e := ind0_2 t
  show V c main_arg2 ((win0_2.blk t).view.emb _) = _
  congr 1
  blk_ext [e]

theorem X0_3_apply (t : Fin grid0.N) (k : Fin 2048) :
    X0_3 V c t (ix2 k 0) = V c main_arg3 (ix2 ⟨2048 * (t.val % 4) + k.val, by have := k.isLt; omega⟩ 0) := by
  have e := ind0_3 t
  show V c main_arg3 ((win0_3.blk t).view.emb _) = _
  congr 1
  blk_ext [e]
  show _ = _ + k.val; rw [Nat.mul_comm]

/-- The indices the argmin call leaves: batch by batch what its last point writes. -/
theorem out0_apply (b : Fin 16) (n : Fin 1024) : (dat0 V c).arrAt 4 cfg0.N (ix3 b 0 n) = res0 V c (4 * b.val) (ix3 0 0 n) := by
  have key : (dat0 V c).arrAt 4 cfg0.N = fun i : S16x1x1024.Idx => res0 V c (4 * (i 0).val) (ix3 0 0 (i 2)) := by
    refine (dat0 V c).arrAt_eq_of_covers 4 _ (by decide +kernel) fun t hf y => ?_
    have e := ind0_4 t
    have hm := flu0_4 t hf
    have ht : t.val < 64 := Nat.lt_of_lt_of_eq t.isLt N_0
    blk_simp
    have e0 : win0_4.index t 0 = t.val / 4 := by rw [e]; rfl
    rw [e0]
    show res0 V c (t.val - 3) y = _
    rw [show 4 * (t.val / 4) = t.val - 3 by omega]
    congr 1
    funext a
    have h0 : (y 0).val < 1 := (y 0).isLt
    have h1 : (y 1).val < 1 := (y 1).isLt
    fin_cases a
    · exact Fin.ext (by show (y 0).val = 0; omega)
    · exact Fin.ext (by show (y 1).val = 0; omega)
    · refine Fin.ext ?_
      show (y 2).val = ((win0_4.blk t).view.emb y 2).val
      blk_simp
      rw [e]; show _ = 0 * _ + _; omega
  exact congrFun key (ix3 b 0 n)

end

variable (V : (c : Dev nD) → (b : Ref sig .tc) → Buf (Elt Ideal) ((c : Thread nD τ).loc b)) (c : Dev nD)

/-- The distance of code `k` from vector `n` of batch `b`, of the valuation's arrays. -/
def dval (b : Fin 16) (n : Fin 1024) (k : ℕ) : EReal := dv (V c main_arg0) (V c main_arg1) (V c main_arg2) (V c main_arg3) b n k

theorem pt_val (b : Fin 16) (j : ℕ) (hj : j < 4) : (pt0 (4 * b.val + j)).val = 4 * b.val + j := by
  show (4 * b.val + j) % 64 = _
  omega

theorem kd_dval (b : Fin 16) (j : ℕ) (hj : j < 4) (i : Fin 2048) (n : Fin 1024) :
    kd (X0_0 V c (pt0 (4 * b.val + j))) (X0_1 V c (pt0 (4 * b.val + j))) (X0_2 V c (pt0 (4 * b.val + j))) (X0_3 V c (pt0 (4 * b.val + j))) i n
      = dval V c b n (2048 * j + i.val) := by
  have hv := pt_val b j hj
  have hb : ∀ h, (⟨(pt0 (4 * b.val + j)).val / 4, h⟩ : Fin 16) = b := fun h => Fin.ext (by show (pt0 (4 * b.val + j)).val / 4 = _; omega)
  have hk : ∀ h, (⟨2048 * ((pt0 (4 * b.val + j)).val % 4) + i.val, h⟩ : Fin 8192) = code (2048 * j + i.val) := fun h =>
    Fin.ext (by show 2048 * ((pt0 (4 * b.val + j)).val % 4) + i.val = (2048 * j + i.val) % 8192; have := i.isLt; omega)
  unfold kd dval dv
  refine congrArg₂ (· - ·) (congrArg₂ (· + ·) ?_ ?_) (Finset.sum_congr rfl fun h _ => congrArg₂ (· * ·) ?_ ?_)
  · exact (X0_2_apply V c _ n).trans (by rw [hb])
  · exact (X0_3_apply V c _ i).trans (by rw [hk])
  · exact (X0_1_apply V c _ i h).trans (by rw [hk])
  · exact (X0_0_apply V c _ n h).trans (by rw [hb])

theorem mins_least (b : Fin 16) (j : ℕ) (hj : j < 4) (n : Fin 1024) :
    IsLeast (fun i => dval V c b n (2048 * j + i)) 2048 (mins V c (4 * b.val + j) (ix2 0 n)) :=
  pay4_least _ _ _ _ n _ fun i => kd_dval V c b j hj i n

theorem cmin_least (b : Fin 16) (q : ℕ) (hq : q < 2) (n : Fin 1024) :
    IsLeast (fun i => dval V c b n (4096 * q + i)) 4096 (cmin V c (4 * b.val + 2 * q) (ix2 0 n)) := by
  have h0 := mins_least V c b (2 * q) (by omega) n
  have h1 := mins_least V c b (2 * q + 1) (by omega) n
  have e : cmin V c (4 * b.val + 2 * q) (ix2 0 n) = min (mins V c (4 * b.val + (2 * q + 1)) (ix2 0 n) : EReal) (mins V c (4 * b.val + 2 * q) (ix2 0 n)) := by
    unfold cmin k0_pay6 k0_pay5
    rw [shapeCast_self, shapeCast_self]
    rfl
  rw [e]
  refine IsLeast.append (N := 2048) (h0.congr fun j _ => ?_) (h1.congr fun j _ => ?_)
  · exact congrArg (dval V c b n) (by omega)
  · exact congrArg (dval V c b n) (by omega)

theorem dist_apply (b : Fin 16) (j : ℕ) (hj : j < 4) (i : Fin 2048) (n : Fin 1024) :
    dist V c (4 * b.val + j) (ix2 i n) = dval V c b n (2048 * j + i.val) :=
  (pay3_apply _ _ _ _ i n).trans (kd_dval V c b j hj i n)

theorem win2k_apply (b : Fin 16) (q : ℕ) (hq : q < 2) (i : Fin 4096) (n : Fin 1024) :
    win2k V c (4 * b.val + 2 * q) (ix2 i n) = dval V c b n (4096 * q + i.val) := by
  have hi := i.isLt
  by_cases h : i.val < 2048
  · refine (show win2k V c (4 * b.val + 2 * q) (ix2 i n) = dist V c (4 * b.val + 2 * q) (ix2 ⟨i.val, h⟩ n) from dif_pos h).trans ?_
    rw [dist_apply V c b (2 * q) (by omega)]
    exact congrArg (dval V c b n) (by show 2048 * (2 * q) + i.val = _; omega)
  · refine (show win2k V c (4 * b.val + 2 * q) (ix2 i n) = dist V c (4 * b.val + (2 * q + 1)) (ix2 ⟨i.val - 2048, by omega⟩ n) from dif_neg h).trans ?_
    rw [dist_apply V c b (2 * q + 1) (by omega)]
    exact congrArg (dval V c b n) (by show 2048 * (2 * q + 1) + (i.val - 2048) = _; omega)

theorem pay1_apply (x : IVec S1x1024 32) (n : Fin 1024) : k0_pay1 (F := Ideal) x (ix3 0 0 n) = x (ix2 0 n) := by
  unfold k0_pay1
  exact shapeCast_ab_1ab_apply x shapeCasts_S1x1024_S1x1x1024 0 0 n

theorem pay13_apply (c0 c1 : FVec Ideal S1x1024 .f32) (w0 w1 : FVec Ideal S4096x1024 .f32) (n : Fin 1024) :
    k0_pay1 (F := Ideal) (k0_pay13 (F := Ideal) 3#32 c1 w1 (k0_pay9 (F := Ideal) c0) (k0_pay10 (F := Ideal) 1#32 c0 w0)) (ix3 0 0 n)
      = Scalar.select (Ideal.cmp .ogt (c0 (ix2 0 n)) (c1 (ix2 0 n))) (k0_pay7 (F := Ideal) 3#32 c1 w1 (ix2 0 n)) (k0_pay7 (F := Ideal) 1#32 c0 w0 (ix2 0 n)) := by
  rw [pay1_apply]
  unfold k0_pay13 k0_pay10 k0_pay9
  rw [shapeCast_self, shapeCast_self, shapeCast_self]
  unfold k0_pay11 k0_pay8
  rfl

/-- The index left for vector `n` of batch `b` is the first code at which the distance is least. -/
theorem res0_first (b : Fin 16) (n : Fin 1024) : IsFirst (dval V c b n) 8192 (res0 V c (4 * b.val) (ix3 0 0 n)).toNat := by
  obtain ⟨l₀, f₀, m₀, e₀⟩ := pay7_first 1#32 (cmin V c (4 * b.val + 2 * 0)) (win2k V c (4 * b.val + 2 * 0)) n _ (fun i => win2k_apply V c b 0 (by decide) i n) (cmin_least V c b 0 (by decide) n)
  obtain ⟨l₁, f₁, m₁, e₁⟩ := pay7_first 3#32 (cmin V c (4 * b.val + 2 * 1)) (win2k V c (4 * b.val + 2 * 1)) n _ (fun i => win2k_apply V c b 1 (by decide) i n) (cmin_least V c b 1 (by decide) n)
  have e : res0 V c (4 * b.val) (ix3 0 0 n) = Scalar.select (Ideal.cmp .ogt (cmin V c (4 * b.val + 2 * 0) (ix2 0 n)) (cmin V c (4 * b.val + 2 * 1) (ix2 0 n)))
      (k0_pay7 (F := Ideal) 3#32 (cmin V c (4 * b.val + 2 * 1)) (win2k V c (4 * b.val + 2 * 1)) (ix2 0 n))
      (k0_pay7 (F := Ideal) 1#32 (cmin V c (4 * b.val + 2 * 0)) (win2k V c (4 * b.val + 2 * 0)) (ix2 0 n)) := by
    have m0 : 4 * b.val + 2 * 0 = 4 * b.val := by omega
    have m1 : 4 * b.val + 2 * 1 = 4 * b.val + 2 := by omega
    rw [m0, m1]
    unfold res0
    generalize cmin V c (4 * b.val + 2) = c1
    generalize win2k V c (4 * b.val + 2) = w1
    unfold best bestIx
    generalize cmin V c (4 * b.val) = c0
    generalize win2k V c (4 * b.val) = w0
    exact pay13_apply c0 c1 w0 w1 n
  rw [e, e₀, e₁, off_1, off_3, ← m₀, ← m₁]
  have g₀ : IsFirst (dval V c b n) 4096 l₀ := f₀.congr fun j _ => congrArg (dval V c b n) (by omega)
  have g₁ : IsFirst (fun j => dval V c b n (4096 + j)) 4096 l₁ := f₁.congr fun j _ => congrArg (dval V c b n) (by omega)
  have h := IsFirst.merge (N := 4096) g₀ g₁
  have hl₀ := g₀.lt
  have hl₁ := g₁.lt
  have hs : (Scalar.select (Ideal.cmp .ogt (dval V c b n (4096 * 0 + l₀)) (dval V c b n (4096 * 1 + l₁))) (BitVec.ofNat 32 l₁ + 4096#32) (BitVec.ofNat 32 l₀ + 0#32)).toNat
      = if dval V c b n (4096 + l₁) < dval V c b n l₀ then 4096 + l₁ else l₀ := by
    rw [Nat.mul_zero, Nat.zero_add, Nat.mul_one]
    by_cases hlt : dval V c b n (4096 + l₁) < dval V c b n l₀
    · rw [if_pos hlt]
      simp only [Ideal.cmp, hlt, decide_true, BitVec.ofBool_true, Scalar.select]
      show (BitVec.ofNat 32 l₁ + 4096#32).toNat = _
      rw [BitVec.toNat_add, ofNat_toNat l₁ (by omega)]
      show (l₁ + 4096) % 2 ^ 32 = _
      omega
    · rw [if_neg hlt]
      simp only [Ideal.cmp, hlt, decide_false, BitVec.ofBool_false, Scalar.select]
      show (BitVec.ofNat 32 l₀ + 0#32).toNat = _
      rw [BitVec.add_zero, ofNat_toNat l₀ (by omega)]
  rw [hs]
  exact h

end Cert.Proof.ArgCall
-- ==== Proof.FinCall.lean ====
/-
  The finalize kernel's body at one point of its grid, run in each of its three cases (the first point, a later
  one, the last one): what it leaves in the two output blocks and in the accumulator, as functions of the blocks
  it loads.
-/
module

public import proofs.«01_k».proof.Defs
public import Idealize.ShloMosaic.Lib.Pipeline.Frame
public import Idealize.ShloMosaic.Lib.Pipeline.FrameBody
public import Idealize.ShloMosaic.Lib.Claim
public import Idealize.ShloMosaic.Lib.Tactic
public import proofs.«01_k».proof.Proof.Gen.FinalizeIdeal.Frame
public import proofs.«01_k».proof.Proof.Gen.FinalizeIdeal.Skeleton
public import Idealize.ShloMosaic.Lib.VecWindow

@[expose] public section

noncomputable section

namespace Cert.Proof.FinCall

open Cert.FinalizeIdeal Cert.FinalizeIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ (UR sig nD τ) ℕ

/-- The body's test for the first point, and for a later one. -/
abbrev isFirst (b : ℕ) : BitVec 1 := Scalar.cmpi .ne (Scalar.extui (Scalar.cmpi .eq (BitVec.ofNat 32 b) 0#32)) 0#32
abbrev isLater (b : ℕ) : BitVec 1 := Scalar.cmpi .ne (Scalar.extui (Scalar.cmpi .sgt (BitVec.ofNat 32 b) 0#32)) 0#32

/-- Memref `M`'s buffer on core `c`: its contents' type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref owned is its buffer held at contents that read so. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f : Bf (F := F) c M, ⌜M.view.read (Elt F) f = X⌝ ∗ pt c M f) := by
  unfold owns; rw [hM.set_eq_univ]

section Run

variable (c : Dev nD) (i : grid0.Coords)
    (M0 : Memref sig .tc .vmem S1x1024x128 .f32) (w0 : M0.IsWhole) (M1 : Memref sig .tc .vmem S1x1024x32 .f32) (w1 : M1.IsWhole)
    (M2 : Memref sig .tc .vmem S1x1024x32 .f32) (w2 : M2.IsWhole) (M3 : Memref sig .tc .vmem S1x1 .f32) (w3 : M3.IsWhole)
    (M4 : Memref sig .tc .smem S1x1 .f32) (w4 : M4.IsWhole)
    (f0 : Bf (F := F) c M0) (f1 : Bf (F := F) c M1) (f2 : Bf (F := F) c M2) (f3 : Bf (F := F) c M3) (f4 : Bf (F := F) c M4)

/-- The first point: the output block written, the accumulator started. -/
theorem run_first (h1 : isFirst (i 0).val = 1#1) (h2 : ¬ isLater (i 0).val = 1#1) (h3 : ¬ k0_cond3 i = 1#1) (E : Set ℕ) (Q : PUnit → sProp 𝕄) :
    iprop(pt c M0 f0 ∗ pt c M1 f1 ∗ pt c M2 f2 ∗ pt c M3 f3 ∗ pt c M4 f4
        ∗ (iprop(∃ (g2 : Bf (F := F) c M2) (g4 : Bf (F := F) c M4), ⌜M2.view.read (Elt F) g2 = k0_pay3 (M0.view.read (Elt F) f0) (M1.view.read (Elt F) f1)
              ∧ M4.view.read (Elt F) g4 = (fun _ => k0_pay4 (M0.view.read (Elt F) f0) (M1.view.read (Elt F) f1))⌝
            ∗ pt c M0 f0 ∗ pt c M1 f1 ∗ pt c M2 g2 ∗ pt c M3 f3 ∗ pt c M4 g4) -∗ Q ⟨⟩))
      ⊢ wp frame (wpE (defs₀ (F := F)) Variants.none c none) E (cc0__finalize_body i M0 w0 M1 w1 M2 w2 M3 w3 M4 w4) Q := by
  rw [cc0__finalize_body_eq_skeleton]
  unfold cc0__finalize_body_skel
  simp only [dif_pos h1, dif_neg h2, dif_neg h3]
  iintro ⟨H0, H1, H2, H3, H4, Hk⟩
  sl_exec!
  sl_step
  iapply Hk
  iexists _, _
  isplitr
  rotate_left
  · isplitl [H0]; · iexact H0
    isplitl [H1]; · iexact H1
    isplitl [H2]; · iexact H2
    isplitl [H3]; · iexact H3
    iexact H4
  · ipureintro
    refine ⟨(View.read_writes_full M2.view _ _ _ _).trans ?_, (View.read_writes_full M4.view _ _ _ _).trans ?_⟩
    · rw [View.readAt_full, View.readAt_full]
    · rw [View.readAt_full, View.readAt_full]; rfl

/-- A later point that is not the last: the output block written, the accumulator added to. -/
theorem run_mid (a : F .f32) (ha : M4.view.read (Elt F) f4 = fun _ => a) (h1 : ¬ isFirst (i 0).val = 1#1) (h2 : isLater (i 0).val = 1#1) (h3 : ¬ k0_cond3 i = 1#1) (E : Set ℕ) (Q : PUnit → sProp 𝕄) :
    iprop(pt c M0 f0 ∗ pt c M1 f1 ∗ pt c M2 f2 ∗ pt c M3 f3 ∗ pt c M4 f4
        ∗ (iprop(∃ (g2 : Bf (F := F) c M2) (g4 : Bf (F := F) c M4), ⌜M2.view.read (Elt F) g2 = k0_pay3 (M0.view.read (Elt F) f0) (M1.view.read (Elt F) f1)
              ∧ M4.view.read (Elt F) g4 = (fun _ => k0_pay5 (M0.view.read (Elt F) f0) (M1.view.read (Elt F) f1) a)⌝
            ∗ pt c M0 f0 ∗ pt c M1 f1 ∗ pt c M2 g2 ∗ pt c M3 f3 ∗ pt c M4 g4) -∗ Q ⟨⟩))
      ⊢ wp frame (wpE (defs₀ (F := F)) Variants.none c none) E (cc0__finalize_body i M0 w0 M1 w1 M2 w2 M3 w3 M4 w4) Q := by
  rw [cc0__finalize_body_eq_skeleton]
  unfold cc0__finalize_body_skel
  simp only [dif_neg h1, dif_pos h2, dif_neg h3]
  iintro ⟨H0, H1, H2, H3, H4, Hk⟩
  sl_exec!
  sl_step
  iapply Hk
  iexists _, _
  isplitr
  rotate_left
  · isplitl [H0]; · iexact H0
    isplitl [H1]; · iexact H1
    isplitl [H2]; · iexact H2
    isplitl [H3]; · iexact H3
    iexact H4
  · ipureintro
    refine ⟨(View.read_writes_full M2.view _ _ _ _).trans ?_, (View.read_writes_full M4.view _ _ _ _).trans ?_⟩
    · rw [View.readAt_full, View.readAt_full]
    · rw [View.readAt_full, View.readAt_full]; unfold run_mid.sl.r; exact congrArg (fun b => fun _ => k0_pay5 _ _ b) (congrFun ha _)

/-- The last point: the same, and the total handed out. -/
theorem run_last (a : F .f32) (ha : M4.view.read (Elt F) f4 = fun _ => a) (h1 : ¬ isFirst (i 0).val = 1#1) (h2 : isLater (i 0).val = 1#1) (h3 : k0_cond3 i = 1#1) (E : Set ℕ) (Q : PUnit → sProp 𝕄) :
    iprop(pt c M0 f0 ∗ pt c M1 f1 ∗ pt c M2 f2 ∗ pt c M3 f3 ∗ pt c M4 f4
        ∗ (iprop(∃ (g2 : Bf (F := F) c M2) (g3 : Bf (F := F) c M3) (g4 : Bf (F := F) c M4), ⌜M2.view.read (Elt F) g2 = k0_pay3 (M0.view.read (Elt F) f0) (M1.view.read (Elt F) f1)
              ∧ M4.view.read (Elt F) g4 = (fun _ => k0_pay5 (M0.view.read (Elt F) f0) (M1.view.read (Elt F) f1) a) ∧ M3.view.read (Elt F) g3 = k0_pay6 (k0_pay5 (M0.view.read (Elt F) f0) (M1.view.read (Elt F) f1) a)⌝
            ∗ pt c M0 f0 ∗ pt c M1 f1 ∗ pt c M2 g2 ∗ pt c M3 g3 ∗ pt c M4 g4) -∗ Q ⟨⟩))
      ⊢ wp frame (wpE (defs₀ (F := F)) Variants.none c none) E (cc0__finalize_body i M0 w0 M1 w1 M2 w2 M3 w3 M4 w4) Q := by
  rw [cc0__finalize_body_eq_skeleton]
  unfold cc0__finalize_body_skel
  simp only [dif_neg h1, dif_pos h2, dif_pos h3]
  iintro ⟨H0, H1, H2, H3, H4, Hk⟩
  sl_exec!
  sl_step
  iapply Hk
  iexists _, _, _
  isplitr
  rotate_left
  · isplitl [H0]; · iexact H0
    isplitl [H1]; · iexact H1
    isplitl [H2]; · iexact H2
    isplitl [H3]; · iexact H3
    iexact H4
  · ipureintro
    refine ⟨(View.read_writes_full M2.view _ _ _ _).trans ?_, (View.read_writes_full M4.view _ _ _ _).trans ?_, (View.read_writes_full M3.view _ _ _ _).trans ?_⟩
    · rw [View.readAt_full, View.readAt_full]
    · rw [View.readAt_full, View.readAt_full]; unfold run_last.sl.r; exact congrArg (fun b => fun _ => k0_pay5 _ _ b) (congrFun ha _)
    · unfold run_last.sl.r_1 run_last.sl.r; rw [View.readAt_full, View.readAt_full]; exact congrArg (fun b => k0_pay6 (k0_pay5 _ _ b)) (congrFun ha _)

end Run

end Cert.Proof.FinCall
-- ==== Proof.FinCallReg.lean ====
/-
  The finalize region: the proof data of one entry of it from a valuation of the TensorCore's buffers, and the library's
  body obligation.
-/
module

public import proofs.«01_k».proof.Proof.FinCall

@[expose] public section

noncomputable section

namespace Cert.Proof.FinCall

open Cert.FinalizeIdeal Cert.FinalizeIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The generator's register, at some state. -/
abbrev rest0 (c : Dev nD) : sProp 𝕄 := iprop(∃ r, prngReg c r)

/-- The two blocks the body loads at point `t`. -/
abbrev X0_0 (c : Dev nD) (t : Fin grid0.N) : Vec F S1x1024x128 .f32 := ((cfg0.win 0).blk t).view.read (Elt F) (V c main_arg0)
abbrev X0_1 (c : Dev nD) (t : Fin grid0.N) : Vec F S1x1024x32 .f32 := ((cfg0.win 1).blk t).view.read (Elt F) (V c main_arg1)

/-- Point `n` of the sixteen. -/
def pt0 (n : ℕ) : Fin grid0.N := ⟨n % 16, Nat.lt_of_lt_of_eq (Nat.mod_lt _ (by decide)) N_0.symm⟩
theorem pt0_val (t : Fin grid0.N) : pt0 t.val = t := by
  exact Fin.ext (Nat.mod_eq_of_lt (Nat.lt_of_lt_of_eq t.isLt N_0))

/-- The accumulator after point `n`. -/
def acc0 (c : Dev nD) : ℕ → F .f32
  | 0 => k0_pay4 (X0_0 V c (pt0 0)) (X0_1 V c (pt0 0))
  | n + 1 => k0_pay5 (X0_0 V c (pt0 (n + 1))) (X0_1 V c (pt0 (n + 1))) (acc0 c n)

/-- The invariant before position `n`: past the first point the accumulator holds the running total. -/
def Phi0 (c : Dev nD) (n : ℕ) : sProp 𝕄 :=
  iprop((∃ f : Bf (F := F) c (Memref.whole cc0_scratch0), ⌜0 < n → f = fun _ => acc0 V c (n - 1)⌝ ∗ pt c (Memref.whole cc0_scratch0) f) ∗ rest0 c)

/-- The proof data of the region entered at `V`. -/
def dat0 (c : Dev nD) : Dat τ (Elt F) Unit ℕ (UR sig nD τ) ℕ cfg0 c where
  A w := V c (Pipeline.arrRef spec0 w)
  after w t := match w with
    | ⟨0, _⟩ => X0_0 V c t
    | ⟨1, _⟩ => X0_1 V c t
    | ⟨2, _⟩ => k0_pay3 (X0_0 V c t) (X0_1 V c t)
    | ⟨3, _⟩ => k0_pay6 (acc0 V c t.val)
  Φ t := Phi0 V c t.val
  q _ := fullShare
  owed _ := 0

theorem before0_0 (c : Dev nD) (t : Fin grid0.N) (d) : (dat0 V c).before 0 t d = X0_0 V c t := by
  unfold Dat.before; rw [if_pos (fetch0_0 t)]; rfl
theorem before0_1 (c : Dev nD) (t : Fin grid0.N) (d) : (dat0 V c).before 1 t d = X0_1 V c t := by
  unfold Dat.before; rw [if_pos (fetch0_1 t)]; rfl

theorem first0 : ∀ t : Fin grid0.N, isFirst (grid0.coords t 0).val = 1#1 ↔ t.val = 0 := by decide
theorem later0 : ∀ t : Fin grid0.N, isLater (grid0.coords t 0).val = 1#1 ↔ 0 < t.val := by decide
theorem last0 : ∀ t : Fin grid0.N, k0_cond3 (grid0.coords t) = 1#1 ↔ t.val = 15 := by decide

set_option maxHeartbeats 2000000 in
theorem body0 (c : Dev nD) : BodyObligation (dat0 V c) (defs₀ (F := F)) Variants.none () Set.univ := fun t => by
  have hlt : t.val < 16 := Nat.lt_of_lt_of_eq t.isLt N_0
  have hacc : 0 < t.val → acc0 V c t.val = k0_pay5 (X0_0 V c t) (X0_1 V c t) (acc0 V c (t.val - 1)) := fun h0 => by
    obtain ⟨n, hn⟩ : ∃ n, t.val = n + 1 := ⟨t.val - 1, by omega⟩
    rw [hn, Nat.add_sub_cancel]; show k0_pay5 _ _ _ = _; rw [← hn, pt0_val]
  have hacc0 : t.val = 0 → acc0 V c t.val = k0_pay4 (X0_0 V c t) (X0_1 V c t) := fun h0 => by
    rw [h0]; show k0_pay4 _ _ = _; rw [← h0, pt0_val]
  rw [bigSep_W0, bigSep_W0]
  dsimp only
  simp only [before0_0, before0_1]
  simp only [owns_pt c _ (stage_whole0 0 _), owns_pt c _ (stage_whole0 1 _), owns_pt c _ (stage_whole0 2 _), owns_pt c _ (stage_whole0 3 _)]
  rw [show (dat0 V c).Φ t.castSucc = Phi0 V c t.val from rfl, show (dat0 V c).Φ t.succ = Phi0 V c (t.val + 1) from rfl,
    show (dat0 V c).owesAt () t.succ = (dat0 V c).owesAt () t.castSucc from rfl]
  unfold Phi0
  rw [Nat.add_sub_cancel]
  show _ ⊢ wp _ _ _ (bodyAt0 t) _
  iintro ⟨⟨⟨%f4, %hf4, H4⟩, HR⟩, HO, ⟨%d0, %f0, %hf0, H0⟩, ⟨%d1, %f1, %hf1, H1⟩, ⟨%d2, %f2, -, H2⟩, ⟨%d3, %f3, %hf3, H3⟩⟩
  rcases Nat.eq_zero_or_pos t.val with h0 | h0
  · have hi : idle0 3 (grid0.coords t) = true := by
      show (!(k0_cond3 (grid0.coords t) == 1#1)) = true
      rw [Bool.not_eq_true', beq_eq_false_iff_ne]; exact fun h => by have := (last0 t).mp h; omega
    have hf : (win0 3).flush t = false := by
      rw [Bool.eq_false_iff]; exact fun h => by have := (flush0_3 t).mp h; omega
    rw [hi, hf]
    iapply run_first c (grid0.coords t) (st0_0 t) _ (st0_1 t) _ (st0_2 t) _ (st0_3 t) _ (Memref.whole cc0_scratch0) _ f0 f1 f2 f3 f4
      ((first0 t).mpr h0) (fun h => by have := (later0 t).mp h; omega) (fun h => by have := (last0 t).mp h; omega)
    isplitl [H0]; · iexact H0
    isplitl [H1]; · iexact H1
    isplitl [H2]; · iexact H2
    isplitl [H3]; · iexact H3
    isplitl [H4]; · iexact H4
    iintro ⟨%g2, %g4, %hg, H0, H1, H2, H3, H4⟩
    rw [hf0, hf1] at hg
    isplitl [H4 HR]
    · isplitl [H4]
      · iexists g4
        isplitr; · ipureintro; intro _; rw [hacc0 h0]; exact hg.2
        iexact H4
      · iexact HR
    isplitl [HO]; · iexact HO
    isplitl [H0]; · iexists f0; isplitr; (· ipureintro; exact hf0); iexact H0
    isplitl [H1]; · iexists f1; isplitr; (· ipureintro; exact hf1); iexact H1
    isplitl [H2]; · iexists g2; isplitr; (· ipureintro; exact hg.1); iexact H2
    iexists d3, f3; isplitr; (· ipureintro; exact hf3); iexact H3
  · have ha : (Memref.whole cc0_scratch0).view.read (Elt F) f4 = fun _ => acc0 V c (t.val - 1) := hf4 h0
    by_cases h15 : t.val = 15
    · have hi : idle0 3 (grid0.coords t) = false := by
        show (!(k0_cond3 (grid0.coords t) == 1#1)) = false
        rw [Bool.not_eq_false', beq_iff_eq]; exact (last0 t).mpr h15
      rw [hi]
      iapply run_last c (grid0.coords t) (st0_0 t) _ (st0_1 t) _ (st0_2 t) _ (st0_3 t) _ (Memref.whole cc0_scratch0) _ f0 f1 f2 f3 f4 _ ha
        (fun h => by have := (first0 t).mp h; omega) ((later0 t).mpr h0) ((last0 t).mpr h15)
      isplitl [H0]; · iexact H0
      isplitl [H1]; · iexact H1
      isplitl [H2]; · iexact H2
      isplitl [H3]; · iexact H3
      isplitl [H4]; · iexact H4
      iintro ⟨%g2, %g3, %g4, %hg, H0, H1, H2, H3, H4⟩
      rw [hf0, hf1] at hg
      rw [← hacc h0] at hg
      isplitl [H4 HR]
      · isplitl [H4]
        · iexists g4
          isplitr; · ipureintro; intro _; exact hg.2.1
          iexact H4
        · iexact HR
      isplitl [HO]; · iexact HO
      isplitl [H0]; · iexists f0; isplitr; (· ipureintro; exact hf0); iexact H0
      isplitl [H1]; · iexists f1; isplitr; (· ipureintro; exact hf1); iexact H1
      isplitl [H2]; · iexists g2; isplitr; (· ipureintro; exact hg.1); iexact H2
      iexists g3; isplitr; (· ipureintro; exact hg.2.2); iexact H3
    · have hi : idle0 3 (grid0.coords t) = true := by
        show (!(k0_cond3 (grid0.coords t) == 1#1)) = true
        rw [Bool.not_eq_true', beq_eq_false_iff_ne]; exact fun h => h15 ((last0 t).mp h)
      have hf : (win0 3).flush t = false := by
        rw [Bool.eq_false_iff]; exact fun h => by have := (flush0_3 t).mp h; omega
      rw [hi, hf]
      iapply run_mid c (grid0.coords t) (st0_0 t) _ (st0_1 t) _ (st0_2 t) _ (st0_3 t) _ (Memref.whole cc0_scratch0) _ f0 f1 f2 f3 f4 _ ha
        (fun h => by have := (first0 t).mp h; omega) ((later0 t).mpr h0) (fun h => h15 ((last0 t).mp h))
      isplitl [H0]; · iexact H0
      isplitl [H1]; · iexact H1
      isplitl [H2]; · iexact H2
      isplitl [H3]; · iexact H3
      isplitl [H4]; · iexact H4
      iintro ⟨%g2, %g4, %hg, H0, H1, H2, H3, H4⟩
      rw [hf0, hf1] at hg
      rw [← hacc h0] at hg
      isplitl [H4 HR]
      · isplitl [H4]
        · iexists g4
          isplitr; · ipureintro; intro _; exact hg.2
          iexact H4
        · iexact HR
      isplitl [HO]; · iexact HO
      isplitl [H0]; · iexists f0; isplitr; (· ipureintro; exact hf0); iexact H0
      isplitl [H1]; · iexists f1; isplitr; (· ipureintro; exact hf1); iexact H1
      isplitl [H2]; · iexists g2; isplitr; (· ipureintro; exact hg.1); iexact H2
      iexists d3, f3; isplitr; (· ipureintro; exact hf3); iexact H3

/-! ## The launch -/

variable (m : (ℓ : Loc nD τ sig) → Buf (Elt F) ℓ) (ρ : Dev nD → PrngReg)

/-- The proof data of the one pipeline, its arrays as launched. -/
def dats (_ : Fin 1) (c : Dev nD) : Dat τ (Elt F) Unit ℕ (UR sig nD τ) ℕ cfg0 c := dat0 (Gen.V m) c

/-- Before the first point the scratches hold anything. -/
theorem hin (c : Dev nD) : Pipeline.ΦA spec0 c ⊢ (dats m 0 c).Φ 0 := by
  show _ ⊢ Phi0 (Gen.V m) c 0
  unfold Pipeline.ΦA Phi0
  rw [scopedRest0_eq]
  iintro ⟨⟨%f4, H4⟩, HR⟩
  isplitl [H4]
  · iexists f4
    isplitr; · ipureintro; intro h; exact absurd h (by decide)
    iexact H4
  iexact HR

/-- After the last point what they hold is forgotten. -/
theorem hout (c : Dev nD) : (dats m 0 c).Φ (Fin.last cfg0.N) ⊢ Pipeline.ΦA spec0 c := by
  show Phi0 (Gen.V m) c cfg0.N ⊢ _
  unfold Pipeline.ΦA Phi0
  rw [scopedRest0_eq]
  iintro ⟨⟨%f4, -, H4⟩, HR⟩
  isplitl [H4]; · iexists f4; iexact H4
  iexact HR

set_option backward.isDefEq.respectTransparency.types false in
/-- The run: every array of the call as the proof data compute it, every counter at zero. -/
theorem run_main_quiescent : θ_run defs (onTc (τ := τ) (main (F := F))) (s₀ m ρ) (fun r => Pipeline.FramePost cfgs (dats m) 0 (Gen.V m) r ∧ r.2.sem = fun _ => 0) :=
  Pipeline.θ_run_frame_track (Q' := _) cfgs (dats m) (0 : Fin 1) launch0 defs₀ Variants.none m ρ main
    (hbody := fun c => (body0 (Gen.V m) c).loose) (hshare := fun c => (dats m 0 c).share_full fun _ => rfl)
    (howed := fun _ _ => rfl) (V := Gen.V m) (hmain := hmain m Variants.none) (hA := fun _ _ => rfl) (hin := hin m) (hout := hout m)

end Cert.Proof.FinCall
-- ==== Proof.Spec.lean ====
/-
  The arrays both programs build in the same words: the normalised rows, the normalised table, the squared
  row lengths.
-/
module

public import proofs.«01_k».proof.Proof.Gen.KernelIdeal

@[expose] public section

noncomputable section

namespace Cert.Proof.Whole

open Cert.KernelIdeal Cert.KernelIdeal.Gen
open Idealize.ShloMosaic

variable {F : FTy → Type} [FloatOps F]

/-- Every vector along the middle axis divided by its length, the length bounded below. -/
def normT (Z : FVec F S16x1024x32 .f32) : FVec F S16x1024x32 .f32 :=
  Host.divf Z (broadcastInDim S16x1024x32 ![0, 1, 2] bcast_S16x1x32_S16x1024x32_0_1_2
    (maximumf (Host.sqrt (broadcastInDim S16x1x32 ![0, 2] bcast_S16x32_S16x1x32_0_2
        (Host.reduceAdd (mulf Z Z) (constant S_ .f32 0x00000000#32) reducesTo_S16x1024x32_S16x32_d1 h_S_)))
      (broadcastInDim S16x1x32 ![] bcast_S_S16x1x32 (constant S_ .f32 0x2B8CBCCC#32))))

/-- Every row of the table divided by its length, the length bounded below. -/
def enT (W : FVec F S8192x32 .f32) : FVec F S8192x32 .f32 :=
  Host.divf W (broadcastInDim S8192x32 ![0, 1] bcast_S8192x1_S8192x32_0_1
    (maximumf (Host.sqrt (broadcastInDim S8192x1 ![0] bcast_S8192_S8192x1_0
        (Host.reduceAdd (mulf W W) (constant S_ .f32 0x00000000#32) reducesTo_S8192x32_S8192_d1 h_S_)))
      (broadcastInDim S8192x1 ![] bcast_S_S8192x1 (constant S_ .f32 0x2B8CBCCC#32))))

/-- The rows of all batches, one under the other. -/
def flatT (z : FVec F S16x1024x32 .f32) : FVec F S16384x32 .f32 := shapeCast S16384x32 z shapeCasts_S16x1024x32_S16384x32

/-- The squared length of every row. -/
def sqT (z : FVec F S16x1024x32 .f32) : FVec F S16384 .f32 :=
  Host.reduceAdd (mulf (flatT z) (flatT z)) (constant S_ .f32 0x00000000#32) reducesTo_S16384x32_S16384_d1 h_S_

/-- The squared length of every table row. -/
def c2T (W : FVec F S8192x32 .f32) : FVec F S8192 .f32 :=
  Host.reduceAdd (mulf W W) (constant S_ .f32 0x00000000#32) reducesTo_S8192x32_S8192_d1 h_S_

end Cert.Proof.Whole
-- ==== Proof.Ref.lean ====
/-
  The reference: its operations in three stretches, its run, and what each stretch leaves in the buffers the
  next one reads.
-/
module

public import proofs.«01_k».proof.Proof.Gen.ReferenceIdeal
public import proofs.«01_k».proof.Proof.Spec
public import Idealize.ShloMosaic.Lib.StableHlo.Run
public import Idealize.ShloMosaic.Lib.Quiescent

@[expose] public section

noncomputable section

namespace Cert.Proof.Ref

open Cert.ReferenceIdeal Cert.ReferenceIdeal.Gen
open Idealize.ShloMosaic Idealize.ShloMosaic.TcCoe Idealize.SL.Sem Idealize.ShloMosaic.StableHlo
open Cert.Proof.Whole (normT enT flatT sqT c2T)

variable {F : FTy → Type} [FloatOps F]

/-- Up to the index of the nearest table row. -/
abbrev ops1 : List (HloOp τ sig (Elt F)) :=
  [ TRef.binary (TRef.of (T := ⟨S16x1024x32, .f32⟩) main_arg0) (TRef.of (T := ⟨S16x1024x32, .f32⟩) main_arg0) (TRef.of (T := ⟨S16x1024x32, .f32⟩) main_call0_v0) mulf,
    TRef.nullary (TRef.of (T := ⟨S_, .f32⟩) main_call0_cst) (constant S_ .f32 0x00000000#32),
    TRef.binary (TRef.of (T := ⟨S16x1024x32, .f32⟩) main_call0_v0) (TRef.of (T := ⟨S_, .f32⟩) main_call0_cst) (TRef.of (T := ⟨S16x32, .f32⟩) main_call0_v1) (fun x v => Host.reduceAdd x v reducesTo_S16x1024x32_S16x32_d1 h_S_),
    TRef.unary (TRef.of (T := ⟨S16x32, .f32⟩) main_call0_v1) (TRef.of (T := ⟨S16x1x32, .f32⟩) main_call0_v2) (broadcastInDim S16x1x32 ![0, 2] bcast_S16x32_S16x1x32_0_2),
    TRef.unary (TRef.of (T := ⟨S16x1x32, .f32⟩) main_call0_v2) (TRef.of (T := ⟨S16x1x32, .f32⟩) main_v0) Host.sqrt,
    nullary main_cst (constant S_ .f32 0x2B8CBCCC#32),
    unary main_cst main_v1 (broadcastInDim S16x1x32 ![] bcast_S_S16x1x32 : (⟨S_, .f32⟩ : BufTy).Contents (Elt F) → (⟨S16x1x32, .f32⟩ : BufTy).Contents (Elt F)),
    binary main_v0 main_v1 main_v2 (maximumf : (⟨S16x1x32, .f32⟩ : BufTy).Contents (Elt F) → (⟨S16x1x32, .f32⟩ : BufTy).Contents (Elt F) → (⟨S16x1x32, .f32⟩ : BufTy).Contents (Elt F)),
    unary main_v2 main_v3 (broadcastInDim S16x1024x32 ![0, 1, 2] bcast_S16x1x32_S16x1024x32_0_1_2 : (⟨S16x1x32, .f32⟩ : BufTy).Contents (Elt F) → (⟨S16x1024x32, .f32⟩ : BufTy).Contents (Elt F)),
    binary main_arg0 main_v3 main_v4 (Host.divf : (⟨S16x1024x32, .f32⟩ : BufTy).Contents (Elt F) → (⟨S16x1024x32, .f32⟩ : BufTy).Contents (Elt F) → (⟨S16x1024x32, .f32⟩ : BufTy).Contents (Elt F)),
    reshape main_v4 main_v5 (rfl : (.f32 : EltTy) = .f32) shapeCasts_S16x1024x32_S16384x32,
    TRef.binary (TRef.of (T := ⟨S8192x32, .f32⟩) main_arg1) (TRef.of (T := ⟨S8192x32, .f32⟩) main_arg1) (TRef.of (T := ⟨S8192x32, .f32⟩) main_call1_v0) mulf,
    TRef.nullary (TRef.of (T := ⟨S_, .f32⟩) main_call1_cst) (constant S_ .f32 0x00000000#32),
    TRef.binary (TRef.of (T := ⟨S8192x32, .f32⟩) main_call1_v0) (TRef.of (T := ⟨S_, .f32⟩) main_call1_cst) (TRef.of (T := ⟨S8192, .f32⟩) main_call1_v1) (fun x v => Host.reduceAdd x v reducesTo_S8192x32_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v6) Host.sqrt,
    nullary main_cst_0 (constant S_ .f32 0x2B8CBCCC#32),
    unary main_cst_0 main_v7 (broadcastInDim S8192x1 ![] bcast_S_S8192x1 : (⟨S_, .f32⟩ : BufTy).Contents (Elt F) → (⟨S8192x1, .f32⟩ : BufTy).Contents (Elt F)),
    binary main_v6 main_v7 main_v8 (maximumf : (⟨S8192x1, .f32⟩ : BufTy).Contents (Elt F) → (⟨S8192x1, .f32⟩ : BufTy).Contents (Elt F) → (⟨S8192x1, .f32⟩ : BufTy).Contents (Elt F)),
    unary main_v8 main_v9 (broadcastInDim S8192x32 ![0, 1] bcast_S8192x1_S8192x32_0_1 : (⟨S8192x1, .f32⟩ : BufTy).Contents (Elt F) → (⟨S8192x32, .f32⟩ : BufTy).Contents (Elt F)),
    binary main_arg1 main_v9 main_v10 (Host.divf : (⟨S8192x32, .f32⟩ : BufTy).Contents (Elt F) → (⟨S8192x32, .f32⟩ : BufTy).Contents (Elt F) → (⟨S8192x32, .f32⟩ : BufTy).Contents (Elt F)),
    binary main_v5 main_v5 main_v11 (mulf : (⟨S16384x32, .f32⟩ : BufTy).Contents (Elt F) → (⟨S16384x32, .f32⟩ : BufTy).Contents (Elt F) → (⟨S16384x32, .f32⟩ : BufTy).Contents (Elt F)),
    nullary main_cst_1 (constant S_ .f32 0x00000000#32),
    binary main_v11 main_cst_1 main_v12 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v12 main_v13 (broadcastInDim S16384x1 ![0] bcast_S16384_S16384x1_0 : (⟨S16384, .f32⟩ : BufTy).Contents (Elt F) → (⟨S16384x1, .f32⟩ : BufTy).Contents (Elt F)),
    binary main_arg1 main_arg1 main_v14 (mulf : (⟨S8192x32, .f32⟩ : BufTy).Contents (Elt F) → (⟨S8192x32, .f32⟩ : BufTy).Contents (Elt F) → (⟨S8192x32, .f32⟩ : BufTy).Contents (Elt F)),
    nullary main_cst_2 (constant S_ .f32 0x00000000#32),
    binary main_v14 main_cst_2 main_v15 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v15 main_v16 (broadcastInDim S1x8192 ![1] bcast_S8192_S1x8192_1 : (⟨S8192, .f32⟩ : BufTy).Contents (Elt F) → (⟨S1x8192, .f32⟩ : BufTy).Contents (Elt F)),
    unary main_v13 main_v17 (broadcastInDim S16384x8192 ![0, 1] bcast_S16384x1_S16384x8192_0_1 : (⟨S16384x1, .f32⟩ : BufTy).Contents (Elt F) → (⟨S16384x8192, .f32⟩ : BufTy).Contents (Elt F)),
    unary main_v16 main_v18 (broadcastInDim S16384x8192 ![0, 1] bcast_S1x8192_S16384x8192_0_1 : (⟨S1x8192, .f32⟩ : BufTy).Contents (Elt F) → (⟨S16384x8192, .f32⟩ : BufTy).Contents (Elt F)),
    binary main_v17 main_v18 main_v19 (addf : (⟨S16384x8192, .f32⟩ : BufTy).Contents (Elt F) → (⟨S16384x8192, .f32⟩ : BufTy).Contents (Elt F) → (⟨S16384x8192, .f32⟩ : BufTy).Contents (Elt F)),
    unary main_v10 main_v20 ((transpose S32x8192 [1, 0] · transposes_S8192x32_S32x8192_1_0) : (⟨S8192x32, .f32⟩ : BufTy).Contents (Elt F) → (⟨S32x8192, .f32⟩ : BufTy).Contents (Elt F)),
    binary main_v5 main_v20 main_v21 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
    nullary main_cst_3 (constant S_ .f32 0x40000000#32),
    unary main_cst_3 main_v22 (broadcastInDim S16384x8192 ![] bcast_S_S16384x8192 : (⟨S_, .f32⟩ : BufTy).Contents (Elt F) → (⟨S16384x8192, .f32⟩ : BufTy).Contents (Elt F)),
    binary main_v22 main_v21 main_v23 (mulf : (⟨S16384x8192, .f32⟩ : BufTy).Contents (Elt F) → (⟨S16384x8192, .f32⟩ : BufTy).Contents (Elt F) → (⟨S16384x8192, .f32⟩ : BufTy).Contents (Elt F)),
    binary main_v19 main_v23 main_v24 (subf : (⟨S16384x8192, .f32⟩ : BufTy).Contents (Elt F) → (⟨S16384x8192, .f32⟩ : BufTy).Contents (Elt F) → (⟨S16384x8192, .f32⟩ : BufTy).Contents (Elt F)),
    TRef.nullary (TRef.of (T := ⟨S16384x8192, .i32⟩) main_call2_v0) (iotaInDim S16384x8192 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S16384x8192, .f32⟩) main_v24) (TRef.of (T := ⟨S16384x8192, .i32⟩) main_call2_v0) (TRef.of (T := ⟨S_, .f32⟩) main_call2_cst) (TRef.of (T := ⟨S_, .i32⟩) main_call2_c) (TRef.of (T := ⟨S16384, .f32⟩) main_call2_v1_0) (fun x y u v j => (Host.argReduce reducer_argmin_f32_i32 x y u v reducesTo_S16384x8192_S16384_d1 h_S_ j).1),
    TRef.quaternary (TRef.of (T := ⟨S16384x8192, .f32⟩) main_v24) (TRef.of (T := ⟨S16384x8192, .i32⟩) main_call2_v0) (TRef.of (T := ⟨S_, .f32⟩) main_call2_cst) (TRef.of (T := ⟨S_, .i32⟩) main_call2_c) (TRef.of (T := ⟨S16384, .i32⟩) main_v25) (fun x y u v j => (Host.argReduce reducer_argmin_f32_i32 x y u v reducesTo_S16384x8192_S16384_d1 h_S_ j).2) ]

theorem ops1_sub : (ops1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub ..⟩

/-- The rows taken at the indices. -/
abbrev ops2 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S16384, .i32⟩) main_call3_v0) (broadcastInDim S16384 ![] bcast_S_S16384),
    TRef.binary (TRef.of (T := ⟨S16384, .i32⟩) main_v25) (TRef.of (T := ⟨S16384, .i32⟩) main_call3_v0) (TRef.of (T := ⟨S16384, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S16384, .i32⟩) main_call3_v2) (broadcastInDim S16384 ![] bcast_S_S16384),
    TRef.binary (TRef.of (T := ⟨S16384, .i32⟩) main_v25) (TRef.of (T := ⟨S16384, .i32⟩) main_call3_v2) (TRef.of (T := ⟨S16384, .i32⟩) main_call3_v3) addi,
    TRef.ternary (TRef.of (T := ⟨S16384, .i1⟩) main_call3_v1) (TRef.of (T := ⟨S16384, .i32⟩) main_call3_v3) (TRef.of (T := ⟨S16384, .i32⟩) main_v25) (TRef.of (T := ⟨S16384, .i32⟩) main_call3_v4) select,
    TRef.unary (TRef.of (T := ⟨S16384, .i32⟩) main_call3_v4) (TRef.of (T := ⟨S16384x1, .i32⟩) main_call3_v5) (broadcastInDim S16384x1 ![0] bcast_S16384_S16384x1_0),
    TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S16384x1, .i32⟩) main_call3_v6) (broadcastInDim S16384x1 ![] bcast_S_S16384x1),
    TRef.binary (TRef.of (T := ⟨S16384x1, .i32⟩) main_call3_v5) (TRef.of (T := ⟨S16384x1, .i32⟩) main_call3_v6) (TRef.of (T := ⟨S16384x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S16384x1, .i32⟩) main_call3_v9) (broadcastInDim S16384x1 ![0, 1] bcast_S1x1_S16384x1_0_1),
    TRef.binary (TRef.of (T := ⟨S16384x1, .i32⟩) main_call3_v5) (TRef.of (T := ⟨S16384x1, .i32⟩) main_call3_v9) (TRef.of (T := ⟨S16384x1, .i1⟩) main_call3_v10) (cmpi .sle),
    TRef.binary (TRef.of (T := ⟨S16384x1, .i1⟩) main_call3_v7) (TRef.of (T := ⟨S16384x1, .i1⟩) main_call3_v10) (TRef.of (T := ⟨S16384x1, .i1⟩) main_call3_v11) andi,
    TRef.nullary (TRef.of (T := ⟨S_, .i1⟩) main_call3_c_3) (constantI S_ 1 1#1),
    TRef.binary (TRef.of (T := ⟨S16384x1, .i1⟩) main_call3_v11) (TRef.of (T := ⟨S_, .i1⟩) main_call3_c_3) (TRef.of (T := ⟨S16384, .i1⟩) main_call3_v12) (fun x v => Host.reduce IntOp.andi x v reducesTo_S16384x1_S16384_d1 h_S_),
    TRef.binary (TRef.of (T := ⟨S8192x32, .f32⟩) main_arg1) (TRef.of (T := ⟨S16384x1, .i32⟩) main_call3_v5) (TRef.of (T := ⟨S16384x32, .f32⟩) main_call3_v13) (fun x i => Host.gather gather_S8192x32_S16384x1_S16384x32_1_0_n_n_0_1_132 x i),
    TRef.unary (TRef.of (T := ⟨S16384, .i1⟩) main_call3_v12) (TRef.of (T := ⟨S16384x32, .i1⟩) main_call3_v14) (broadcastInDim S16384x32 ![0] bcast_S16384_S16384x32_0),
    TRef.nullary (TRef.of (T := ⟨S_, .f32⟩) main_call3_cst) (constant S_ .f32 0x7FC00000#32),
    TRef.unary (TRef.of (T := ⟨S_, .f32⟩) main_call3_cst) (TRef.of (T := ⟨S16384x32, .f32⟩) main_call3_v15) (broadcastInDim S16384x32 ![] bcast_S_S16384x32),
    TRef.ternary (TRef.of (T := ⟨S16384x32, .i1⟩) main_call3_v14) (TRef.of (T := ⟨S16384x32, .f32⟩) main_call3_v13) (TRef.of (T := ⟨S16384x32, .f32⟩) main_call3_v15) (TRef.of (T := ⟨S16384x32, .f32⟩) main_v26) select ]

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The results. -/
abbrev ops3 : List (HloOp τ sig (Elt F)) :=
  [ reshape main_v26 main_v27 (rfl : (.f32 : EltTy) = .f32) shapeCasts_S16384x32_S16x1024x32,
    TRef.binary (TRef.of (T := ⟨S16x1024x32, .f32⟩) main_v27) (TRef.of (T := ⟨S16x1024x32, .f32⟩) main_v27) (TRef.of (T := ⟨S16x1024x32, .f32⟩) main_call4_v0) mulf,
    TRef.nullary (TRef.of (T := ⟨S_, .f32⟩) main_call4_cst) (constant S_ .f32 0x00000000#32),
    TRef.binary (TRef.of (T := ⟨S16x1024x32, .f32⟩) main_call4_v0) (TRef.of (T := ⟨S_, .f32⟩) main_call4_cst) (TRef.of (T := ⟨S16x32, .f32⟩) main_call4_v1) (fun x v => Host.reduceAdd x v reducesTo_S16x1024x32_S16x32_d1 h_S_),
    TRef.unary (TRef.of (T := ⟨S16x32, .f32⟩) main_call4_v1) (TRef.of (T := ⟨S16x1x32, .f32⟩) main_call4_v2) (broadcastInDim S16x1x32 ![0, 2] bcast_S16x32_S16x1x32_0_2),
    TRef.unary (TRef.of (T := ⟨S16x1x32, .f32⟩) main_call4_v2) (TRef.of (T := ⟨S16x1x32, .f32⟩) main_v28) Host.sqrt,
    nullary main_cst_4 (constant S_ .f32 0x2B8CBCCC#32),
    unary main_cst_4 main_v29 (broadcastInDim S16x1x32 ![] bcast_S_S16x1x32 : (⟨S_, .f32⟩ : BufTy).Contents (Elt F) → (⟨S16x1x32, .f32⟩ : BufTy).Contents (Elt F)),
    binary main_v28 main_v29 main_v30 (maximumf : (⟨S16x1x32, .f32⟩ : BufTy).Contents (Elt F) → (⟨S16x1x32, .f32⟩ : BufTy).Contents (Elt F) → (⟨S16x1x32, .f32⟩ : BufTy).Contents (Elt F)),
    unary main_v30 main_v31 (broadcastInDim S16x1024x32 ![0, 1, 2] bcast_S16x1x32_S16x1024x32_0_1_2 : (⟨S16x1x32, .f32⟩ : BufTy).Contents (Elt F) → (⟨S16x1024x32, .f32⟩ : BufTy).Contents (Elt F)),
    binary main_v27 main_v31 main_v32 (Host.divf : (⟨S16x1024x32, .f32⟩ : BufTy).Contents (Elt F) → (⟨S16x1024x32, .f32⟩ : BufTy).Contents (Elt F) → (⟨S16x1024x32, .f32⟩ : BufTy).Contents (Elt F)),
    binary main_v32 main_v4 main_v33 (subf : (⟨S16x1024x32, .f32⟩ : BufTy).Contents (Elt F) → (⟨S16x1024x32, .f32⟩ : BufTy).Contents (Elt F) → (⟨S16x1024x32, .f32⟩ : BufTy).Contents (Elt F)),
    binary main_v33 main_v33 main_v34 (mulf : (⟨S16x1024x32, .f32⟩ : BufTy).Contents (Elt F) → (⟨S16x1024x32, .f32⟩ : BufTy).Contents (Elt F) → (⟨S16x1024x32, .f32⟩ : BufTy).Contents (Elt F)),
    nullary main_cst_5 (constant S_ .f32 0x00000000#32),
    binary main_v34 main_cst_5 main_v35 ((fun x v => Host.reduceAdd x v reducesTo_S16x1024x32_S_d0_1_2 h_S_) : (⟨S16x1024x32, .f32⟩ : BufTy).Contents (Elt F) → (⟨S_, .f32⟩ : BufTy).Contents (Elt F) → (⟨S_, .f32⟩ : BufTy).Contents (Elt F)),
    nullary main_cst_6 (constant S_ .f32 0x49000000#32),
    binary main_v35 main_cst_6 main_v36 (Host.divf : (⟨S_, .f32⟩ : BufTy).Contents (Elt F) → (⟨S_, .f32⟩ : BufTy).Contents (Elt F) → (⟨S_, .f32⟩ : BufTy).Contents (Elt F)),
    binary main_v32 main_v4 main_v37 (subf : (⟨S16x1024x32, .f32⟩ : BufTy).Contents (Elt F) → (⟨S16x1024x32, .f32⟩ : BufTy).Contents (Elt F) → (⟨S16x1024x32, .f32⟩ : BufTy).Contents (Elt F)),
    binary main_v37 main_v37 main_v38 (mulf : (⟨S16x1024x32, .f32⟩ : BufTy).Contents (Elt F) → (⟨S16x1024x32, .f32⟩ : BufTy).Contents (Elt F) → (⟨S16x1024x32, .f32⟩ : BufTy).Contents (Elt F)),
    nullary main_cst_7 (constant S_ .f32 0x00000000#32),
    binary main_v38 main_cst_7 main_v39 ((fun x v => Host.reduceAdd x v reducesTo_S16x1024x32_S_d0_1_2 h_S_) : (⟨S16x1024x32, .f32⟩ : BufTy).Contents (Elt F) → (⟨S_, .f32⟩ : BufTy).Contents (Elt F) → (⟨S_, .f32⟩ : BufTy).Contents (Elt F)),
    nullary main_cst_8 (constant S_ .f32 0x49000000#32),
    binary main_v39 main_cst_8 main_v40 (Host.divf : (⟨S_, .f32⟩ : BufTy).Contents (Elt F) → (⟨S_, .f32⟩ : BufTy).Contents (Elt F) → (⟨S_, .f32⟩ : BufTy).Contents (Elt F)),
    nullary main_cst_9 (constant S_ .f32 0x3E800000#32),
    binary main_cst_9 main_v40 main_v41 (mulf : (⟨S_, .f32⟩ : BufTy).Contents (Elt F) → (⟨S_, .f32⟩ : BufTy).Contents (Elt F) → (⟨S_, .f32⟩ : BufTy).Contents (Elt F)),
    binary main_v36 main_v41 main_v42 (addf : (⟨S_, .f32⟩ : BufTy).Contents (Elt F) → (⟨S_, .f32⟩ : BufTy).Contents (Elt F) → (⟨S_, .f32⟩ : BufTy).Contents (Elt F)),
    binary main_v32 main_v4 main_v43 (subf : (⟨S16x1024x32, .f32⟩ : BufTy).Contents (Elt F) → (⟨S16x1024x32, .f32⟩ : BufTy).Contents (Elt F) → (⟨S16x1024x32, .f32⟩ : BufTy).Contents (Elt F)),
    binary main_v4 main_v43 main_v44 (addf : (⟨S16x1024x32, .f32⟩ : BufTy).Contents (Elt F) → (⟨S16x1024x32, .f32⟩ : BufTy).Contents (Elt F) → (⟨S16x1024x32, .f32⟩ : BufTy).Contents (Elt F)) ]

theorem ops3_sub : (ops3 : List (HloOp τ sig (Elt F))).Forall fun op => op.bufs ⊆ tcRefs τ sig :=
  ⟨reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

/-- All of them. -/
abbrev ops : List (HloOp τ sig (Elt F)) := ops1 ++ (ops2 ++ ops3)

theorem ops_sub : (ops : List (HloOp τ sig (Elt F))).Forall fun op => op.bufs ⊆ tcRefs τ sig :=
  List.forall_append.2 ⟨ops1_sub, List.forall_append.2 ⟨ops2_sub, ops3_sub⟩⟩

set_option maxRecDepth 8192 in
set_option maxHeartbeats 4000000 in
theorem main_eq (c : Dev nD) : main (F := F) c = seq ops := by
  rfl
theorem scopedRefs_eq : (Finset.univ.filter fun b : Ref sig .tc => b.isScoped) = ∅ := by decide
theorem scopedSems_eq : (Finset.univ.filter fun sm : SemLoc sig => sm.isScoped .tc) = ∅ := by decide

/-- Two stretches in turn. -/
theorem after_append (l₁ l₂ : List (HloOp τ sig (Elt F))) (V : Valuation τ sig (Elt F)) :
    after (l₁ ++ l₂) V = after l₂ (after l₁ V) := by
  induction l₁ generalizing V with
  | nil => rfl
  | cons a l ih => simp only [List.cons_append, after_cons, ih]

/-- The distance of every row to every table row. -/
def distT (z : FVec F S16x1024x32 .f32) (W : FVec F S8192x32 .f32) : FVec F S16384x8192 .f32 :=
  subf (addf (broadcastInDim S16384x8192 ![0, 1] bcast_S16384x1_S16384x8192_0_1 (broadcastInDim S16384x1 ![0] bcast_S16384_S16384x1_0 (sqT z)))
      (broadcastInDim S16384x8192 ![0, 1] bcast_S1x8192_S16384x8192_0_1 (broadcastInDim S1x8192 ![1] bcast_S8192_S1x8192_1 (c2T W))))
    (mulf (broadcastInDim S16384x8192 ![] bcast_S_S16384x8192 (constant S_ .f32 0x40000000#32))
      (Host.dotGeneral dot_S16384x32_S32x8192_S16384x8192_1_0_0_1_n_n none (flatT z)
        (transpose S32x8192 [1, 0] (enT W) transposes_S8192x32_S32x8192_1_0)))

/-- The index of the least entry of every row. -/
def argT (D : FVec F S16384x8192 .f32) : IVec S16384 32 := fun j =>
  (Host.argReduce reducer_argmin_f32_i32 D (iotaInDim S16384x8192 32 1) (constant S_ .f32 0x7F800000#32) (constantI S_ 32 0#32)
    reducesTo_S16384x8192_S16384_d1 h_S_ j).2

/-- An index below zero counted from the end. -/
def wrapT (I : IVec S16384 32) : IVec S16384x1 32 :=
  broadcastInDim S16384x1 ![0] bcast_S16384_S16384x1_0 (select (cmpi .slt I (broadcastInDim S16384 ![] bcast_S_S16384 (constantI S_ 32 0#32)))
    (addi I (broadcastInDim S16384 ![] bcast_S_S16384 (constantI S_ 32 8192#32))) I)

/-- The table rows at the indices. -/
def takeT (W : FVec F S8192x32 .f32) (I : IVec S16384 32) : FVec F S16384x32 .f32 :=
  select (broadcastInDim S16384x32 ![0] bcast_S16384_S16384x32_0
      (Host.reduce IntOp.andi (andi (cmpi .sge (wrapT I) (broadcastInDim S16384x1 ![] bcast_S_S16384x1 (constantI S_ 32 0#32)))
        (cmpi .sle (wrapT I) (broadcastInDim S16384x1 ![0, 1] bcast_S1x1_S16384x1_0_1 (broadcastInDim S1x1 ![1] bcast_S1_S1x1_1 (constantI S1 32 8191#32)))))
        (constantI S_ 1 1#1) reducesTo_S16384x1_S16384_d1 h_S_))
    (Host.gather gather_S8192x32_S16384x1_S16384x32_1_0_n_n_0_1_132 W (wrapT I))
    (broadcastInDim S16384x32 ![] bcast_S_S16384x32 (constant S_ .f32 0x7FC00000#32))

/-- The rows of all batches, batch by batch. -/
def batchT (z : FVec F S16384x32 .f32) : FVec F S16x1024x32 .f32 := shapeCast S16x1024x32 z shapeCasts_S16384x32_S16x1024x32

/-- The mean squared distance of two arrays. -/
def meanT (p z : FVec F S16x1024x32 .f32) : FVec F S_ .f32 :=
  Host.divf (Host.reduceAdd (mulf (subf p z) (subf p z)) (constant S_ .f32 0x00000000#32) reducesTo_S16x1024x32_S_d0_1_2 h_S_)
    (constant S_ .f32 0x49000000#32)

/-- The loss of the chosen rows. -/
def lossT (p z : FVec F S16x1024x32 .f32) : FVec F S_ .f32 :=
  addf (meanT p z) (mulf (constant S_ .f32 0x3E800000#32) (meanT p z))

section Values
variable (V : Valuation τ sig (Elt F))

set_option maxHeartbeats 2000000 in
theorem after1_v25 : after ops1 V main_v25 = argT (distT (normT (V main_arg0)) (V main_arg1)) := by
  simp only [ops1, TRef.quaternary, TRef.binary, TRef.nullary, TRef.ternary, TRef.unary, TRef.toBuf, TRef.ofBuf, cast_eq]; after_results <;> rfl

section
attribute [local irreducible] Host.argReduce

theorem argT_fun (D : FVec F S16384x8192 .f32) : argT D = fun j => Prod.snd (Host.argReduce reducer_argmin_f32_i32 D (iotaInDim S16384x8192 32 1)
    (constant S_ .f32 0x7F800000#32) (constantI S_ 32 0#32) reducesTo_S16384x8192_S16384_d1 h_S_ j) := rfl

theorem argT_apply (D : FVec F S16384x8192 .f32) (j : S16384.Idx) : argT D j = Prod.snd (Host.argReduce reducer_argmin_f32_i32 D (iotaInDim S16384x8192 32 1)
    (constant S_ .f32 0x7F800000#32) (constantI S_ 32 0#32) reducesTo_S16384x8192_S16384_d1 h_S_ j) := congrFun (argT_fun D) j

end

set_option maxHeartbeats 2000000 in
theorem after1_v4 : after ops1 V main_v4 = normT (V main_arg0) := by
  simp only [ops1, TRef.quaternary, TRef.binary, TRef.nullary, TRef.ternary, TRef.unary, TRef.toBuf, TRef.ofBuf, cast_eq]; after_results <;> rfl

set_option maxHeartbeats 2000000 in
theorem after1_arg0 : after ops1 V main_arg0 = V main_arg0 := by
  simp only [ops1, TRef.quaternary, TRef.binary, TRef.nullary, TRef.ternary, TRef.unary, TRef.toBuf, TRef.ofBuf, cast_eq]; after_results <;> rfl

set_option maxHeartbeats 2000000 in
theorem after1_arg1 : after ops1 V main_arg1 = V main_arg1 := by
  simp only [ops1, TRef.quaternary, TRef.binary, TRef.nullary, TRef.ternary, TRef.unary, TRef.toBuf, TRef.ofBuf, cast_eq]; after_results <;> rfl

set_option maxHeartbeats 2000000 in
theorem after2_v26 : after ops2 V main_v26 = takeT (V main_arg1) (V main_v25) := by
  simp only [ops2, TRef.quaternary, TRef.binary, TRef.nullary, TRef.ternary, TRef.unary, TRef.toBuf, TRef.ofBuf, cast_eq]; after_results <;> rfl

set_option maxHeartbeats 2000000 in
theorem after2_v25 : after ops2 V main_v25 = V main_v25 := by
  simp only [ops2, TRef.quaternary, TRef.binary, TRef.nullary, TRef.ternary, TRef.unary, TRef.toBuf, TRef.ofBuf, cast_eq]; after_results <;> rfl

set_option maxHeartbeats 2000000 in
theorem after2_v4 : after ops2 V main_v4 = V main_v4 := by
  simp only [ops2, TRef.quaternary, TRef.binary, TRef.nullary, TRef.ternary, TRef.unary, TRef.toBuf, TRef.ofBuf, cast_eq]; after_results <;> rfl

set_option maxHeartbeats 2000000 in
theorem after2_arg0 : after ops2 V main_arg0 = V main_arg0 := by
  simp only [ops2, TRef.quaternary, TRef.binary, TRef.nullary, TRef.ternary, TRef.unary, TRef.toBuf, TRef.ofBuf, cast_eq]; after_results <;> rfl

set_option maxHeartbeats 2000000 in
theorem after2_arg1 : after ops2 V main_arg1 = V main_arg1 := by
  simp only [ops2, TRef.quaternary, TRef.binary, TRef.nullary, TRef.ternary, TRef.unary, TRef.toBuf, TRef.ofBuf, cast_eq]; after_results <;> rfl

set_option maxHeartbeats 2000000 in
theorem after3_v44 : after ops3 V main_v44 = addf (V main_v4) (subf (normT (batchT (V main_v26))) (V main_v4)) := by
  simp only [ops3, TRef.quaternary, TRef.binary, TRef.nullary, TRef.ternary, TRef.unary, TRef.toBuf, TRef.ofBuf, cast_eq]; after_results <;> rfl

set_option maxHeartbeats 2000000 in
theorem after3_v42 : after ops3 V main_v42 = lossT (normT (batchT (V main_v26))) (V main_v4) := by
  simp only [ops3, TRef.quaternary, TRef.binary, TRef.nullary, TRef.ternary, TRef.unary, TRef.toBuf, TRef.ofBuf, cast_eq]; after_results <;> rfl

set_option maxHeartbeats 2000000 in
theorem after3_v25 : after ops3 V main_v25 = V main_v25 := by
  simp only [ops3, TRef.quaternary, TRef.binary, TRef.nullary, TRef.ternary, TRef.unary, TRef.toBuf, TRef.ofBuf, cast_eq]; after_results <;> rfl

set_option maxHeartbeats 2000000 in
theorem after3_arg0 : after ops3 V main_arg0 = V main_arg0 := by
  simp only [ops3, TRef.quaternary, TRef.binary, TRef.nullary, TRef.ternary, TRef.unary, TRef.toBuf, TRef.ofBuf, cast_eq]; after_results <;> rfl

set_option maxHeartbeats 2000000 in
theorem after3_arg1 : after ops3 V main_arg1 = V main_arg1 := by
  simp only [ops3, TRef.quaternary, TRef.binary, TRef.nullary, TRef.ternary, TRef.unary, TRef.toBuf, TRef.ofBuf, cast_eq]; after_results <;> rfl

end Values

/-- What a memory holds on a device, at its own buffers. -/
def W0 (m : (ℓ : Loc nD τ sig) → Buf (Elt F) ℓ) (c : Dev nD) : Valuation τ sig (Elt F) := fun b => m (c, b)

/-- The indices the reference finds. -/
def idx (Z : FVec F S16x1024x32 .f32) (W : FVec F S8192x32 .f32) : IVec S16384 32 := argT (distT (normT Z) W)

/-- The chosen rows, normalised. -/
def near (Z : FVec F S16x1024x32 .f32) (W : FVec F S8192x32 .f32) : FVec F S16x1024x32 .f32 := normT (batchT (takeT W (idx Z W)))

/-- From any memory with zero counters the reference ends with its three results at these terms of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v44) = addf (normT (m ((c.tc : Thread nD τ).loc main_arg0)))
            (subf (near (m ((c.tc : Thread nD τ).loc main_arg0)) (m ((c.tc : Thread nD τ).loc main_arg1))) (normT (m ((c.tc : Thread nD τ).loc main_arg0))))
        ∧ r.2.mem ((c.tc : Thread nD τ).loc main_v25) = idx (m ((c.tc : Thread nD τ).loc main_arg0)) (m ((c.tc : Thread nD τ).loc main_arg1))
        ∧ r.2.mem ((c.tc : Thread nD τ).loc main_v42) = lossT (near (m ((c.tc : Thread nD τ).loc main_arg0)) (m ((c.tc : Thread nD τ).loc main_arg1))) (normT (m ((c.tc : Thread nD τ).loc main_arg0)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c =>
      ⟨(h c main_v44).trans (by rw [after_append, after_append, after3_v44, after2_v4, after2_v26, after1_v4, after1_v25, after1_arg1]; rfl),
       (h c main_v25).trans (by rw [after_append, after_append, after3_v25, after2_v25, after1_v25]; rfl),
       (h c main_v42).trans (by rw [after_append, after_append, after3_v42, after2_v4, after2_v26, after1_v4, after1_v25, after1_arg1]; rfl),
       (h c main_arg0).trans (by rw [after_append, after_append, after3_arg0, after2_arg0, after1_arg0]),
       (h c main_arg1).trans (by rw [after_append, after_append, after3_arg1, after2_arg1, after1_arg1])⟩,
      Idealize.ShloMosaic.sem_eq_zero_of_no_sems (by decide) r.2⟩)
    (run_seq scopedRefs_eq scopedSems_eq defs main (fun _ => ops) main_eq (fun _ => ops_sub) m ρ)

end Cert.Proof.Ref
-- ==== Proof.RefArg.lean ====
/-
  The reference's index of a row is the first at which the row is least.
-/
module

public import proofs.«01_k».proof.Proof.Ref
public import proofs.«01_k».proof.Proof.FirstMin

@[expose] public section

noncomputable section

namespace Cert.Proof.Ref

open Cert.ReferenceIdeal Cert.ReferenceIdeal.Gen
open Idealize.ShloMosaic Idealize.ShloMosaic.StableHlo
open Idealize.ShloMosaic.ValueIdx (ix1 ix2 ix3)
open Cert.Proof.FirstMin

/-- The pair the reduction keeps of two: the one less by value, the one less by index at equal values. -/
theorem reducer_eq (a b : EReal × BitVec 32) :
    reducer_argmin_f32_i32 (F := Ideal) a b = if a.1 < b.1 then a else if a.1 = b.1 ∧ a.2.toInt < b.2.toInt then a else b := by
  obtain ⟨a1, a2⟩ := a
  obtain ⟨b1, b2⟩ := b
  unfold reducer_argmin_f32_i32
  simp only [Ideal.cmpf_def, Ideal.cmp, IntOp.cmpi, IntOp.ori, IntOp.andi, Scalar.select]
  by_cases h : a1 < b1
  · have hb : ∀ x : BitVec 1, 1#1 ||| x = 1#1 := by decide
    simp [h, hb]
  · by_cases he : a1 = b1
    · subst he
      by_cases hi : a2.slt b2
      · have : a2.toInt < b2.toInt := by simpa [BitVec.slt] using hi
        simp [hi, this]
      · have : ¬ a2.toInt < b2.toInt := by simpa [BitVec.slt] using hi
        simp [hi, this]
    · simp [h, he]

theorem reducer_sel (a b : EReal × BitVec 32) :
    reducer_argmin_f32_i32 (F := Ideal) a b = a ∨ reducer_argmin_f32_i32 (F := Ideal) a b = b := by
  rw [reducer_eq]; split
  · exact Or.inl rfl
  · split
    · exact Or.inl rfl
    · exact Or.inr rfl

theorem reducer_left (a b : EReal × BitVec 32) : PLe (reducer_argmin_f32_i32 (F := Ideal) a b) a := by
  rw [reducer_eq]; split
  · exact PLe.refl _
  · rename_i h
    split
    · exact PLe.refl _
    · rename_i h'
      rcases lt_or_eq_of_le (not_lt.1 h) with h1 | h1
      · exact Or.inl h1
      · exact Or.inr ⟨h1, not_lt.1 fun h2 => h' ⟨h1.symm, h2⟩⟩

theorem reducer_right (a b : EReal × BitVec 32) : PLe (reducer_argmin_f32_i32 (F := Ideal) a b) b := by
  rw [reducer_eq]; split
  · rename_i h; exact Or.inl h
  · split
    · rename_i h; exact Or.inr ⟨h.1, h.2.le⟩
    · exact PLe.refl _

theorem drop_row (i : S16384x8192.Idx) (r : Fin 16384) :
    reducesTo_S16384x8192_S16384_d1.drop i = ix1 r ↔ i 0 = r := by
  constructor
  · intro h
    have h0 := congrArg Fin.val (congrFun h 0)
    exact Fin.ext ((reducesTo_S16384x8192_S16384_d1.drop_apply_val_of_eq i 0 0).symm.trans h0)
  · intro h
    funext b
    fin_cases b
    exact Fin.ext ((reducesTo_S16384x8192_S16384_d1.drop_apply_val_of_eq i 0 0).trans (congrArg Fin.val h))

theorem word_toNat (k : ℕ) (hk : k < 8192) : (BitVec.ofNat 32 k).toNat = k := by
  rw [BitVec.toNat_ofNat]; omega
theorem word_toInt (k : ℕ) (hk : k < 8192) : (BitVec.ofNat 32 k).toInt = (k : ℤ) := by
  rw [BitVec.toInt_eq_toNat_cond, word_toNat k hk, if_pos (by omega)]

/-- The pairs of row `r` that the reduction runs over: every entry with its column. -/
theorem mem_fiber (D : FVec Ideal S16384x8192 .f32) (r : Fin 16384) (p : EReal × BitVec 32) :
    p ∈ Host.argReduceFiber (α := Ideal .f32) D (iotaInDim S16384x8192 32 1) reducesTo_S16384x8192_S16384_d1 (ix1 r)
      ↔ ∃ k : Fin 8192, p = (D (ix2 r k), BitVec.ofNat 32 k.val) := by
  unfold Host.argReduceFiber
  rw [List.mem_map]
  constructor
  · rintro ⟨n, hn, rfl⟩
    have hr := (drop_row _ r).1 (by simpa using (List.mem_filter.1 hn).2)
    refine ⟨S16384x8192.rowMajor.symm n 1, ?_⟩
    generalize S16384x8192.rowMajor.symm n = i at hr ⊢
    subst hr
    rw [ValueIdx.eq_ix2 i]
    rfl
  · rintro ⟨k, rfl⟩
    refine ⟨S16384x8192.rowMajor (ix2 r k), List.mem_filter.2 ⟨List.mem_finRange _, ?_⟩, ?_⟩
    · simp only [Equiv.symm_apply_apply, decide_eq_true_eq]
      exact (drop_row _ r).2 rfl
    · simp only [Equiv.symm_apply_apply]
      rfl

theorem ofBits_inf : FloatOps.ofBits (F := Ideal) .f32 0x7F800000#32 = (⊤ : EReal) := by
  show Ideal.ofBits .f32 0x7F800000#32 = ⊤
  simp [Ideal.ofBits, Ideal.ieee]

theorem pos8192 : 0 < 8192 := by decide

/-- Over a list of the pairs of a sequence's entries with their places, the reduction ends at the first place at
    which the sequence is least. -/
theorem fold_first (d : Fin 8192 → EReal) (L : List (EReal × BitVec 32))
    (hfib : ∀ p, p ∈ L ↔ ∃ k : Fin 8192, p = (d k, BitVec.ofNat 32 k.val)) :
    IsFirst (fun k => d ⟨k % 8192, Nat.mod_lt _ pos8192⟩) 8192 (L.foldl (reducer_argmin_f32_i32 (F := Ideal)) ((⊤ : EReal), 0#32)).2.toNat := by
  obtain ⟨h1, h2, h3⟩ := foldl_sel PLe PLe.refl PLe.trans (reducer_argmin_f32_i32 (F := Ideal)) reducer_sel reducer_left reducer_right id L ((⊤ : EReal), 0#32)
  simp only [id] at h1 h2 h3
  change (L.foldl (reducer_argmin_f32_i32 (F := Ideal)) ((⊤ : EReal), 0#32) = _ ∨ ∃ i ∈ L, L.foldl (reducer_argmin_f32_i32 (F := Ideal)) ((⊤ : EReal), 0#32) = i) at h1
  change ∀ i ∈ L, PLe (L.foldl (reducer_argmin_f32_i32 (F := Ideal)) ((⊤ : EReal), 0#32)) i at h3
  generalize L.foldl (reducer_argmin_f32_i32 (F := Ideal)) ((⊤ : EReal), 0#32) = p at h1 h3 ⊢
  clear h2
  have hle : ∀ j (hj : j < 8192), PLe p (d ⟨j % 8192, Nat.mod_lt _ pos8192⟩, BitVec.ofNat 32 j) := fun j hj =>
    h3 _ ((hfib _).2 ⟨⟨j % 8192, Nat.mod_lt _ pos8192⟩, by simp only [Nat.mod_eq_of_lt hj]⟩)
  have hp : ∃ k : Fin 8192, p = (d k, BitVec.ofNat 32 k.val) := by
    rcases h1 with h1 | ⟨i, hi, h1⟩
    · refine ⟨⟨0 % 8192, Nat.mod_lt _ pos8192⟩, ?_⟩
      have := hle 0 pos8192
      rw [h1] at this ⊢
      rcases this with h | ⟨h, _⟩
      · exact absurd h (not_lt.2 le_top)
      · exact Prod.ext h (by simp only [Nat.zero_mod])
    · rw [h1]; exact (hfib i).1 hi
  obtain ⟨k, rfl⟩ := hp
  rw [word_toNat k.val k.isLt]
  have hk : (⟨k.val % 8192, Nat.mod_lt _ pos8192⟩ : Fin 8192) = k := Fin.ext (Nat.mod_eq_of_lt k.isLt)
  refine ⟨k.isLt, fun j hj => ?_, fun j hj hle' => ?_⟩
  · simp only [hk]
    rcases hle j hj with h | ⟨h, _⟩
    · exact le_of_lt h
    · exact le_of_eq h
  · simp only [hk] at hle'
    rcases hle j hj with h | ⟨_, h⟩
    · exact absurd h (not_lt.2 hle')
    · simp only [word_toInt _ k.isLt, word_toInt _ hj] at h
      exact_mod_cast h

theorem start_eq : ((constant (F := Ideal) S_ .f32 0x7F800000#32) (Shape.Idx.first h_S_), (constantI S_ 32 0#32) (Shape.Idx.first h_S_)) = ((⊤ : EReal), 0#32) :=
  Prod.ext ofBits_inf rfl

section
attribute [local irreducible] Host.argReduce Host.reduce2 Host.argReduceFiber

theorem argT_eq₂ (D : FVec Ideal S16384x8192 .f32) (r : Fin 16384) :
    argT D (ix1 r) = Prod.snd (Host.reduce2 (reducer_argmin_f32_i32 (F := Ideal)) D (iotaInDim S16384x8192 32 1) (constant (F := Ideal) S_ .f32 0x7F800000#32)
      (constantI S_ 32 0#32) reducesTo_S16384x8192_S16384_d1 h_S_ (ix1 r)) :=
  (argT_apply D (ix1 r)).trans (congrArg Prod.snd (congrFun (Ideal.argReduce_eq_reduce2 (φ := .f32) _ _ _ _ _ _ _) (ix1 r)))

theorem argT_eq₃ (D : FVec Ideal S16384x8192 .f32) (j : S16384.Idx) :
    (Host.reduce2 (reducer_argmin_f32_i32 (F := Ideal)) D (iotaInDim S16384x8192 32 1) (constant (F := Ideal) S_ .f32 0x7F800000#32) (constantI S_ 32 0#32)
      reducesTo_S16384x8192_S16384_d1 h_S_) j = (Host.argReduceFiber (α := Ideal .f32) D (iotaInDim S16384x8192 32 1) reducesTo_S16384x8192_S16384_d1 j).foldl
      (reducer_argmin_f32_i32 (F := Ideal)) ((constant (F := Ideal) S_ .f32 0x7F800000#32) (Shape.Idx.first h_S_), (constantI S_ 32 0#32) (Shape.Idx.first h_S_)) :=
  Host.reduce2_eq_foldl_fiber _ _ _ _ _ _ _ _

/-- The index found in row `r` is the first at which the row is least. -/
theorem argT_first (D : FVec Ideal S16384x8192 .f32) (r : Fin 16384) :
    IsFirst (fun k => D (ix2 r ⟨k % 8192, Nat.mod_lt _ pos8192⟩)) 8192 (argT D (ix1 r)).toNat := by
  have h := fold_first (fun k => D (ix2 r k)) _ (mem_fiber D r)
  rw [← start_eq, ← argT_eq₃, ← argT_eq₂] at h
  exact h

end

end Cert.Proof.Ref
-- ==== Proof.DvEq.lean ====
/-
  The distances the argmin call compares are the reference's distances: the factor two that the kernel puts on the
  vectors, the reference puts on the product.
-/
module

public import proofs.«01_k».proof.Proof.KArg
public import proofs.«01_k».proof.Proof.RefArg
public import Idealize.ShloMosaic.Lib.KernelVsHost
public import Idealize.ShloMosaic.Lib.ValueLayoutCasts

@[expose] public section

noncomputable section

namespace Cert.Proof.Whole

open Cert.KernelIdeal Cert.KernelIdeal.Gen

open Idealize.ShloMosaic hiding ix0 ix1 ix2 ix3 ix4 ix5
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

open Idealize.ShloMosaic.ValueIdx (ix1 ix2 ix3 transpose_ix2_apply shapeCast_a_a1_apply)
open Cert.Proof.FirstMin (IsFirst)

/-- The row of vector `n` of batch `b` when the batches lie one under the other. -/
def row (b : Fin 16) (n : Fin 1024) : Fin 16384 := ⟨1024 * b.val + n.val, by omega⟩

/-- The word of the factor two, read as an extended real. -/
def two : EReal := FloatOps.ofBits (F := Ideal) .f32 0x40000000#32

theorem two_eq : two = ((2 : ℝ) : EReal) := by
  show Ideal.ofBits .f32 0x40000000#32 = _
  simp [Ideal.ofBits, Ideal.ieee]
  rw [← EReal.coe_mul]
  norm_num

theorem two_nonneg : 0 ≤ two := by rw [two_eq]; exact_mod_cast (by norm_num : (0 : ℝ) ≤ 2)
theorem two_ne_top : two ≠ ⊤ := by rw [two_eq]; exact EReal.coe_ne_top 2

/-- A factor that is neither negative nor infinite goes into a sum. -/
theorem mul_sum_of_nonneg {ι : Type} (s : Finset ι) (f : ι → EReal) (a : EReal) (h : 0 ≤ a) (h' : a ≠ ⊤) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h h', ih]

theorem flatT_apply (z : FVec Ideal S16x1024x32 .f32) (b : Fin 16) (n : Fin 1024) (h : Fin 32) : flatT z (ix2 (row b n) h) = z (ix3 b n h) := by
  refine shapeCast_apply z _ _ _ ?_
  rw [Shape.rowMajor_val_three, Shape.rowMajor_val_two]
  show (b.val * 1024 + n.val) * 32 + h.val = (1024 * b.val + n.val) * 32 + h.val
  omega

/-- The reference's distance of vector row `r` from code `k`. -/
theorem distT_apply (z : FVec Ideal S16x1024x32 .f32) (W : FVec Ideal S8192x32 .f32) (r : Fin 16384) (k : Fin 8192) :
    Ref.distT z W (ix2 r k) = ((sqT z (ix1 r) : EReal) + (c2T W (ix1 k) : EReal)) - two * ∑ h : Fin 32, (flatT z (ix2 r h) : EReal) * (enT W (ix2 k h) : EReal) := by
  have hd : Host.dotGeneral (F := Ideal) (φ₁ := .f32) (φ₂ := .f32) Cert.ReferenceIdeal.dot_S16384x32_S32x8192_S16384x8192_1_0_0_1_n_n none (flatT z)
        (transpose Cert.ReferenceIdeal.S32x8192 [1, 0] (enT W) Cert.ReferenceIdeal.Gen.transposes_S8192x32_S32x8192_1_0) (ix2 r k)
      = ∑ h : Fin 32, (flatT z (ix2 r h) : EReal) * (enT W (ix2 k h) : EReal) := by
    rw [← matmul_zero_eq_dotGeneral]
    refine (Ideal.matmul_plain_apply (M := 16384) (K := 32) (N := 8192) none _ _ _ r k).trans ?_
    rw [show (constant (F := Ideal) Cert.ReferenceIdeal.S16384x8192 .f32 0x00000000#32) (ix2 r k) = (0 : EReal) from ofBits_zero, zero_add]
    exact Finset.sum_congr rfl fun h _ => congrArg (_ * ·) (transpose_ix2_apply (enT W) _ h k)
  unfold Ref.distT
  show ((broadcastInDim _ _ _ _ _ : EReal) + (broadcastInDim _ _ _ _ _ : EReal)) - two * _ = _
  rw [hd]
  refine congrArg₂ (· - ·) (congrArg₂ (· + ·) ?_ ?_) rfl
  · refine (broadcastInDim_apply _ _ _ (ix2 r k) (ix2 r 0) fun a => ?_).trans (broadcastInDim_apply _ _ _ (ix2 r 0) (ix1 r) fun a => ?_)
    · match a with
      | ⟨0, _⟩ => rfl
      | ⟨1, _⟩ => rfl
    · match a with
      | ⟨0, _⟩ => rfl
  · refine (broadcastInDim_apply _ _ _ (ix2 r k) (ix2 0 k) fun a => ?_).trans (broadcastInDim_apply _ _ _ (ix2 0 k) (ix1 k) fun a => ?_)
    · match a with
      | ⟨0, _⟩ => rfl
      | ⟨1, _⟩ => rfl
    · match a with
      | ⟨0, _⟩ => rfl

/-- What the argmin call reads, from the normalised vectors and the table. -/
def rd21 (z : FVec Ideal S16x1024x32 .f32) : FVec Ideal S16x1024x32 .bf16 :=
  truncf .bf16 (mulf z (broadcastInDim S16x1024x32 ![] bcast_S_S16x1024x32 (constant S_ .f32 0x40000000#32))) bitsLt_bf16_f32
def rd22 (W : FVec Ideal S8192x32 .f32) : FVec Ideal S8192x32 .bf16 := truncf .bf16 (enT W) bitsLt_bf16_f32
def rd15 (z : FVec Ideal S16x1024x32 .f32) : FVec Ideal S16x1x1024 .f32 :=
  broadcastInDim S16x1x1024 ![0, 2] bcast_S16x1024_S16x1x1024_0_2 (shapeCast S16x1024 (broadcastInDim S16384x1 ![0] bcast_S16384_S16384x1_0 (sqT z)) shapeCasts_S16384x1_S16x1024)
def rd18 (W : FVec Ideal S8192x32 .f32) : FVec Ideal S8192x1 .f32 := shapeCast S8192x1 (c2T W) shapeCasts_S8192_S8192x1

theorem rd15_apply (z : FVec Ideal S16x1024x32 .f32) (b : Fin 16) (n : Fin 1024) : rd15 z (ix3 b 0 n) = sqT z (ix1 (row b n)) := by
  unfold rd15
  refine (broadcastInDim_apply _ _ _ (ix3 b 0 n) (ix2 b n) fun a => ?_).trans
    ((shapeCast_apply _ _ (ix2 b n) (ix2 (row b n) 0) ?_).trans (broadcastInDim_apply _ _ _ (ix2 (row b n) 0) (ix1 (row b n)) fun a => ?_))
  · match a with
    | ⟨0, _⟩ => rfl
    | ⟨1, _⟩ => rfl
  · rw [Shape.rowMajor_val_two, Shape.rowMajor_val_two]
    show (1024 * b.val + n.val) * 1 + 0 = b.val * 1024 + n.val
    omega
  · match a with
    | ⟨0, _⟩ => rfl

theorem rd21_apply (z : FVec Ideal S16x1024x32 .f32) (j : S16x1024x32.Idx) : rd21 z j = ((z j : EReal) * two : EReal) := by
  unfold rd21
  rw [broadcastInDim_constant]
  rfl

theorem rd22_apply (W : FVec Ideal S8192x32 .f32) (j : S8192x32.Idx) : rd22 W j = (enT W j : EReal) := by
  unfold rd22
  generalize enT W = e
  rfl

theorem dv_eq (z : FVec Ideal S16x1024x32 .f32) (W : FVec Ideal S8192x32 .f32) (b : Fin 16) (n : Fin 1024) (k : ℕ) :
    dv (rd21 z) (rd22 W) (rd15 z) (rd18 W) b n k = Ref.distT z W (ix2 (row b n) (code k)) := by
  rw [distT_apply]
  unfold dv
  refine congrArg₂ (· - ·) (congrArg₂ (· + ·) (rd15_apply z b n) (shapeCast_a_a1_apply (c2T W) _ (code k) 0)) ?_
  rw [mul_sum_of_nonneg _ _ _ two_nonneg two_ne_top]
  refine Finset.sum_congr rfl fun h _ => ?_
  rw [flatT_apply]
  refine (congrArg₂ (· * ·) (rd22_apply W _) (rd21_apply z _)).trans ?_
  rw [mul_comm (enT W (ix2 (code k) h) : EReal), mul_comm (z (ix3 b n h) : EReal) two, mul_assoc]

/-- An index that is first for the kernel's distances is the reference's index. -/
theorem idx_eq (z : FVec Ideal S16x1024x32 .f32) (W : FVec Ideal S8192x32 .f32) (b : Fin 16) (n : Fin 1024) (v : BitVec 32)
    (hv : IsFirst (dv (rd21 z) (rd22 W) (rd15 z) (rd18 W) b n) 8192 v.toNat) : v = Ref.argT (Ref.distT z W) (ix1 (row b n)) := by
  have h1 := hv.congr (e := fun k => Ref.distT z W (ix2 (row b n) (code k))) fun k _ => dv_eq z W b n k
  have h2 := Ref.argT_first (Ref.distT z W) (row b n)
  generalize Ref.argT (Ref.distT z W) (ix1 (row b n)) = w at h2 ⊢
  exact BitVec.eq_of_toNat_eq (h1.unique h2)

end Cert.Proof.Whole
-- ==== Proof.FPay.lean ====
/-
  What the finalize call computes over the extended reals, element by element: the chosen rows divided by their
  length, and the sum of the squared differences.
-/
module

public import proofs.«01_k».proof.Proof.DvEq
public import Idealize.ShloMosaic.Lib.IdealHost
public import Idealize.ShloMosaic.Lib.Pointwise.Index

@[expose] public section

noncomputable section

namespace Cert.Proof.Whole

open Cert.KernelIdeal Cert.KernelIdeal.Gen

open Idealize.ShloMosaic hiding ix0 ix1 ix2 ix3 ix4 ix5
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

open Idealize.ShloMosaic.ValueIdx (ix1 ix2 ix3 shapeCast_1ab_ab_apply shapeCast_ab_1ab_apply shapeCast_a_1a_apply broadcastTo_1b_ab_apply slice2_axis1_apply)

/-- The bound below on a length. -/
def eps : EReal := FloatOps.ofBits (F := Ideal) .f32 0x2B8CBCCC#32

/-- A vector entry divided by the vector's length, the length bounded below. -/
def unit1 (f : Fin 1024 → EReal) (n : Fin 1024) : EReal := Ideal.div (f n) (max (Ideal.sqrt (∑ k : Fin 1024, f k * f k)) eps)

theorem red16 : S16x1024x32.Reduces [1] S16x32 := by decide

theorem lift16 (b : Fin 16) (h : Fin 32) (k : Fin 1024) : red16.lift (ix2 b h) k = ix3 b k h := by
  funext a
  match a with
  | ⟨0, _⟩ => rfl
  | ⟨1, _⟩ => rfl
  | ⟨2, _⟩ => rfl

theorem normT_apply (p : FVec Ideal S16x1024x32 .f32) (b : Fin 16) (n : Fin 1024) (h : Fin 32) :
    normT p (ix3 b n h) = unit1 (fun k => p (ix3 b k h)) n := by
  unfold normT unit1
  show Ideal.div (p (ix3 b n h)) _ = _
  refine congrArg (Ideal.div (p (ix3 b n h))) ?_
  refine (broadcastInDim_apply _ _ _ (ix3 b n h) (ix3 b 0 h) fun a => ?_).trans ?_
  · match a with
    | ⟨0, _⟩ => rfl
    | ⟨1, _⟩ => rfl
    | ⟨2, _⟩ => rfl
  rw [broadcastInDim_constant]
  show max (Ideal.sqrt (broadcastInDim _ _ _ _ (ix3 b 0 h))) eps = _
  refine congrArg (fun x => max (Ideal.sqrt x) eps) ?_
  refine (broadcastInDim_apply _ _ _ (ix3 b 0 h) (ix2 b h) fun a => ?_).trans ?_
  · match a with
    | ⟨0, _⟩ => rfl
    | ⟨1, _⟩ => rfl
  show Ideal.hostReduceAdd _ _ _ _ = _
  rw [Ideal.hostReduceAdd_single _ red16]
  rw [show (constant (F := Ideal) S_ .f32 0x00000000#32) (Shape.Idx.first h_S_) = (0 : EReal) from ofBits_zero, zero_add]
  exact Finset.sum_congr rfl fun k _ => congrArg (mulf p p) (lift16 b h k)

/-- A lane of the table's own width, among the padded lanes. -/
def lane (h : Fin 32) : Fin 128 := ⟨h.val, by omega⟩

theorem lift32 (h : Fin 32) (k : Fin 1024) : reduces_S1024x32_S32.lift (ix1 h) k = ix2 k h := by
  funext a
  match a with
  | ⟨0, _⟩ => rfl
  | ⟨1, _⟩ => rfl

theorem fin2_apply (x : FVec Ideal S1x1024x128 .f32) (n : Fin 1024) (h : Fin 32) :
    k2_pay2 (F := Ideal) x (ix2 n h) = unit1 (fun k => x (ix3 0 k (lane h))) n := by
  have hv : ∀ k : Fin 1024, extractStridedSlice S1024x32 ![0, 0] (shapeCast S1024x128 x shapeCasts_S1x1024x128_S1024x128) slices_S1024x128_o0_0_S1024x32 (ix2 k h)
      = x (ix3 0 k (lane h)) := fun k =>
    (slice2_axis1_apply 0 _ _ k h (lane h) (by show h.val = 0 + h.val; omega)).trans (shapeCast_1ab_ab_apply x _ k (lane h))
  unfold k2_pay2 unit1
  show Ideal.div (extractStridedSlice _ _ _ _ (ix2 n h)) (broadcastTo _ _ _ (ix2 n h)) = _
  rw [hv n]
  refine congrArg (Ideal.div (x (ix3 0 n (lane h)))) ?_
  refine (broadcastTo_1b_ab_apply _ _ n h).trans ?_
  show max (Ideal.sqrt (shapeCast S1x32 _ _ (ix2 0 h))) eps = _
  refine congrArg (fun x => max (Ideal.sqrt x) eps) ?_
  refine (shapeCast_a_1a_apply _ _ 0 h).trans ?_
  refine (Ideal.multiReduction_add_single _ _ _ _ _ (ix1 h)).trans ?_
  refine Finset.sum_congr rfl fun k _ => ?_
  refine (congrArg (mulf _ _) (lift32 h k)).trans ?_
  exact congrArg₂ (· * ·) (hv k) (hv k)

theorem fin1_apply (z : FVec Ideal S1x1024x32 .f32) (n : Fin 1024) (h : Fin 32) : k2_pay1 (F := Ideal) z (ix2 n h) = z (ix3 0 n h) :=
  shapeCast_1ab_ab_apply z _ n h

theorem fin3_apply (x : FVec Ideal S1x1024x128 .f32) (z : FVec Ideal S1x1024x32 .f32) (n : Fin 1024) (h : Fin 32) :
    k2_pay3 (F := Ideal) x z (ix3 0 n h) = (z (ix3 0 n h) : EReal) + ((k2_pay2 (F := Ideal) x (ix2 n h) : EReal) - z (ix3 0 n h)) := by
  unfold k2_pay3
  refine (shapeCast_ab_1ab_apply _ _ 0 n h).trans ?_
  rw [← fin1_apply z n h]
  rfl

theorem sum_shapeCast (v : FVec Ideal S1024x32 .f32) :
    ∑ i : S1x1024x32.Idx, (shapeCast S1x1024x32 v shapeCasts_S1024x32_S1x1024x32 i : EReal) = ∑ i : S1024x32.Idx, (v i : EReal) :=
  Equiv.sum_comp (Shape.reshapeEquiv shapeCasts_S1024x32_S1x1024x32) fun i => (v i : EReal)

/-- The sum of the squared differences of one batch. -/
theorem fin4_apply (x : FVec Ideal S1x1024x128 .f32) (z : FVec Ideal S1x1024x32 .f32) :
    k2_pay4 (F := Ideal) x z = ∑ n : Fin 1024, ∑ h : Fin 32,
      ((k2_pay2 (F := Ideal) x (ix2 n h) : EReal) - z (ix3 0 n h)) * ((k2_pay2 (F := Ideal) x (ix2 n h) : EReal) - z (ix3 0 n h)) := by
  unfold k2_pay4
  refine (Ideal.multiReduction_add_total _ 0x00000000#32 reduces_S1x1024x32_S1 (fun b => ?_) (.inl rfl) rfl _).trans ?_
  · match b with
    | ⟨0, _⟩ => rfl
  refine (sum_shapeCast _).trans ?_
  rw [ValueIdx.sum_idx2]
  refine Finset.sum_congr rfl fun n _ => Finset.sum_congr rfl fun h _ => ?_
  rw [← fin1_apply z n h]
  rfl

end Cert.Proof.Whole
-- ==== Proof.FinVal.lean ====
/-
  The arrays the finalize call leaves over the extended reals are the reference's: the chosen rows carried by the
  vectors, and the loss.
-/
module

public import proofs.«01_k».proof.Proof.FPay

@[expose] public section

noncomputable section

namespace Cert.Proof.Whole

open Cert.KernelIdeal Cert.KernelIdeal.Gen

open Idealize.ShloMosaic hiding ix0 ix1 ix2 ix3 ix4 ix5
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

open Idealize.ShloMosaic.ValueIdx (ix0 ix1 ix2 ix3)

variable (V : (c : Dev nD) → (b : Ref sig .tc) → Buf (Elt Ideal) ((c : Thread nD τ).loc b)) (O : Debt) (c : Dev nD)
variable (p z : FVec Ideal S16x1024x32 .f32)

/-- The array of the gathered rows, as the finalize call reads it. -/
def rd27 : FVec Ideal S16x1024x128 .f32 := V c main_v27
/-- The array of the vectors, as the finalize call reads it. -/
def rd4 : FVec Ideal S16x1024x32 .f32 := V c main_v4

section
variable (hp : ∀ (b : Fin 16) (n : Fin 1024) (h : Fin 32), rd27 V c (ix3 b n (lane h)) = p (ix3 b n h)) (hz : rd4 V c = z)
include hp hz

theorem blk_p (b : Fin 16) (n : Fin 1024) (h : Fin 32) : X2_0 V c (pt2 b.val) (ix3 0 n (lane h)) = p (ix3 b n h) := by
  have hb : ∀ hh, (⟨(pt2 b.val).val, hh⟩ : Fin 16) = b := fun hh => Fin.ext (by show b.val % 16 = _; omega)
  refine (X2_0_apply V c (pt2 b.val) n (lane h)).trans ?_
  rw [hb]
  exact hp b n h

theorem blk_z (b : Fin 16) (n : Fin 1024) (h : Fin 32) : X2_1 V c (pt2 b.val) (ix3 0 n h) = z (ix3 b n h) := by
  have hb : ∀ hh, (⟨(pt2 b.val).val, hh⟩ : Fin 16) = b := fun hh => Fin.ext (by show b.val % 16 = _; omega)
  refine (X2_1_apply V c (pt2 b.val) n h).trans ?_
  rw [hb]
  exact congrFun hz (ix3 b n h)

theorem blk_unit (b : Fin 16) (n : Fin 1024) (h : Fin 32) :
    k2_pay2 (F := Ideal) (X2_0 V c (pt2 b.val)) (ix2 n h) = normT p (ix3 b n h) := by
  rw [fin2_apply, normT_apply]
  exact congrArg (fun f => unit1 f n) (funext fun k => blk_p V c p z hp hz b k h)

theorem out2_eq : out2 V O c = addf z (subf (normT p) z) := by
  funext j
  obtain ⟨b, n, h, rfl⟩ : ∃ (b : Fin 16) (n : Fin 1024) (h : Fin 32), j = ix3 b n h := ⟨j 0, j 1, j 2, funext fun a => by
    match a with
    | ⟨0, _⟩ => rfl
    | ⟨1, _⟩ => rfl
    | ⟨2, _⟩ => rfl⟩
  refine (out2_apply V O c b n h).trans ?_
  rw [fin3_apply, blk_unit V c p z hp hz, blk_z V c p z hp hz]
  rfl

theorem acc_sum (n : ℕ) : acc2 V c n = ∑ i ∈ Finset.range (n + 1), (k2_pay4 (F := Ideal) (X2_0 V c (pt2 i)) (X2_1 V c (pt2 i)) : EReal) := by
  clear hp hz
  induction n with
  | zero => rw [Finset.sum_range_one]; rfl
  | succ n ih =>
    rw [Finset.sum_range_succ, ← ih]
    rfl

theorem acc_eq : acc2 V c 15 = ∑ i : S16x1024x32.Idx, (mulf (subf (normT p) z) (subf (normT p) z) i : EReal) := by
  rw [acc_sum V c p z hp hz, Finset.sum_range]
  refine Eq.trans ?_ (sum_idx3 (n0 := 16) (n1 := 1024) (n2 := 32) fun i => (mulf (subf (normT p) z) (subf (normT p) z) i : EReal)).symm
  refine Finset.sum_congr rfl fun b _ => ?_
  rw [fin4_apply]
  refine Finset.sum_congr rfl fun n _ => Finset.sum_congr rfl fun h _ => ?_
  rw [blk_unit V c p z hp hz, blk_z V c p z hp hz]
  rfl

theorem out3_eq : out3 V O c (ix2 0 0) = Ref.lossT (normT p) z ix0 := by
  refine (out3_apply V O c).trans ?_
  have hm : Ref.meanT (normT p) z ix0 = Ideal.div (acc2 V c 15) (FloatOps.ofBits (F := Ideal) .f32 0x49000000#32) := by
    unfold Ref.meanT
    show Ideal.div (Ideal.hostReduceAdd _ _ _ _) _ = _
    rw [Ideal.hostReduceAdd_total _ (fun b => b.elim0), acc_eq V c p z hp hz]
    rw [show (constant (F := Ideal) S_ .f32 0x00000000#32) (Shape.Idx.first h_S_) = (0 : EReal) from ofBits_zero, zero_add]
    rfl
  unfold Ref.lossT k2_pay6
  show _ = (Ref.meanT (normT p) z ix0 : EReal) + (_ : EReal) * (Ref.meanT (normT p) z ix0 : EReal)
  rw [hm]
  rfl

end

end Cert.Proof.Whole
-- ==== Proof.FinCallVal.lean ====
/-
  The finalize call alone over the extended reals: the chosen rows divided by their length and carried by the
  vectors, and the loss.
-/
module

public import proofs.«01_k».proof.Proof.FinCallReg
public import proofs.«01_k».proof.Proof.FinVal

@[expose] public section

noncomputable section

namespace Cert.Proof.FinCall

open Cert.FinalizeIdeal Cert.FinalizeIdeal.Gen

open Idealize.ShloMosaic hiding ix0 ix1 ix2 ix3 ix4 ix5
open Idealize.ShloMosaic.TcCoe
open Idealize.ShloMosaic.Tactic
open Idealize.ShloMosaic.Pipeline (Dat Cfg Window BodyObligation cellOf)
open Idealize.ShloMosaic.ValueIdx (ix0 ix1 ix2 ix3)
open Cert.Proof.Whole (normT unit1 lane normT_apply ofBits_zero)

/-! ## The steps are the whole kernel's -/

theorem fin2_apply (x : FVec Ideal S1x1024x128 .f32) (n : Fin 1024) (h : Fin 32) :
    k0_pay2 (F := Ideal) x (ix2 n h) = unit1 (fun k => x (ix3 0 k (lane h))) n := by
  have e : k0_pay2 (F := Ideal) x = Cert.KernelIdeal.Gen.k2_pay2 (F := Ideal) x := rfl
  rw [e]
  exact Whole.fin2_apply x n h

theorem fin3_apply (x : FVec Ideal S1x1024x128 .f32) (z : FVec Ideal S1x1024x32 .f32) (n : Fin 1024) (h : Fin 32) :
    k0_pay3 (F := Ideal) x z (ix3 0 n h) = (z (ix3 0 n h) : EReal) + ((k0_pay2 (F := Ideal) x (ix2 n h) : EReal) - z (ix3 0 n h)) := by
  have e : k0_pay2 (F := Ideal) x = Cert.KernelIdeal.Gen.k2_pay2 (F := Ideal) x := rfl
  have e' : k0_pay3 (F := Ideal) x z = Cert.KernelIdeal.Gen.k2_pay3 (F := Ideal) x z := rfl
  rw [e, e']
  exact Whole.fin3_apply x z n h

theorem fin4_apply (x : FVec Ideal S1x1024x128 .f32) (z : FVec Ideal S1x1024x32 .f32) :
    k0_pay4 (F := Ideal) x z = ∑ n : Fin 1024, ∑ h : Fin 32,
      ((k0_pay2 (F := Ideal) x (ix2 n h) : EReal) - z (ix3 0 n h)) * ((k0_pay2 (F := Ideal) x (ix2 n h) : EReal) - z (ix3 0 n h)) := by
  have e : k0_pay2 (F := Ideal) x = Cert.KernelIdeal.Gen.k2_pay2 (F := Ideal) x := rfl
  have e' : k0_pay4 (F := Ideal) x z = Cert.KernelIdeal.Gen.k2_pay4 (F := Ideal) x z := rfl
  rw [e, e']
  exact Whole.fin4_apply x z

/-! ## The blocks read, and the arrays left -/

section
variable {F : FTy → Type} [FloatOps F]
variable (V : (c : Dev nD) → (b : Ref sig .tc) → Buf (Elt F) ((c : Thread nD τ).loc b)) (c : Dev nD)

theorem ind0_0 : ∀ t : Fin cfg0.N, win0_0.index t = ![t.val, 0, 0] := (by decide +kernel : ∀ t : Fin grid0.N, _)
theorem ind0_1 : ∀ t : Fin cfg0.N, win0_1.index t = ![t.val, 0, 0] := (by decide +kernel : ∀ t : Fin grid0.N, _)
theorem ind0_2 : ∀ t : Fin cfg0.N, win0_2.index t = ![t.val, 0, 0] := (by decide +kernel : ∀ t : Fin grid0.N, _)

theorem lt0 (t : Fin grid0.N) : t.val < 16 := Nat.lt_of_lt_of_eq t.isLt N_0

theorem X0_0_apply (t : Fin grid0.N) (n : Fin 1024) (h : Fin 128) :
    X0_0 V c t (ix3 0 n h) = V c main_arg0 (ix3 ⟨t.val, lt0 t⟩ n h) := by
  have e := ind0_0 t
  show V c main_arg0 ((win0_0.blk t).view.emb _) = _
  congr 1
  blk_ext [e]

theorem X0_1_apply (t : Fin grid0.N) (n : Fin 1024) (h : Fin 32) :
    X0_1 V c t (ix3 0 n h) = V c main_arg1 (ix3 ⟨t.val, lt0 t⟩ n h) := by
  have e := ind0_1 t
  show V c main_arg1 ((win0_1.blk t).view.emb _) = _
  congr 1
  blk_ext [e]

/-- The normalised rows the finalize call leaves. -/
theorem out2_apply (b : Fin 16) (n : Fin 1024) (h : Fin 32) :
    (dat0 V c).arrAt 2 cfg0.N (ix3 b n h) = k0_pay3 (X0_0 V c (pt0 b.val)) (X0_1 V c (pt0 b.val)) (ix3 0 n h) := by
  have key : (dat0 V c).arrAt 2 cfg0.N = fun i : S16x1024x32.Idx => k0_pay3 (X0_0 V c (pt0 (i 0).val)) (X0_1 V c (pt0 (i 0).val)) (ix3 0 (i 1) (i 2)) := by
    refine (dat0 V c).arrAt_eq_of_covers 2 _ (by decide +kernel) fun t hf y => ?_
    have e := ind0_2 t
    blk_simp
    have e0 : win0_2.index t 0 = t.val := by rw [e]; rfl
    rw [e0, pt0_val]
    show k0_pay3 (X0_0 V c t) (X0_1 V c t) y = _
    congr 1
    funext a
    have h0 : (y 0).val < 1 := (y 0).isLt
    fin_cases a
    · exact Fin.ext (by show (y 0).val = 0; omega)
    · refine Fin.ext ?_
      show (y 1).val = ((win0_2.blk t).view.emb y 1).val
      blk_simp
      rw [e]; show _ = 0 * _ + _; omega
    · refine Fin.ext ?_
      show (y 2).val = ((win0_2.blk t).view.emb y 2).val
      blk_simp
      rw [e]; show _ = 0 * _ + _; omega
  exact congrFun key (ix3 b n h)

/-- The loss it leaves. -/
theorem out3_apply : (dat0 V c).arrAt 3 cfg0.N (ix2 0 0) = k0_pay6 (acc0 V c 15) (ix2 0 0) := by
  have key : (dat0 V c).arrAt 3 cfg0.N = fun i : S1x1.Idx => k0_pay6 (acc0 V c 15) i := by
    refine (dat0 V c).arrAt_eq_of_after_last 3 (pt0 15) (by decide +kernel) _ fun j => ?_
    blk_simp
    rfl
  exact congrFun key (ix2 0 0)

end

variable (V : (c : Dev nD) → (b : Ref sig .tc) → Buf (Elt Ideal) ((c : Thread nD τ).loc b)) (c : Dev nD)
variable (p z : FVec Ideal S16x1024x32 .f32)

/-- The array of the gathered rows, as the finalize call reads it. -/
def rows : FVec Ideal S16x1024x128 .f32 := V c main_arg0
/-- The array of the vectors, as the finalize call reads it. -/
def vecs : FVec Ideal S16x1024x32 .f32 := V c main_arg1

section
variable (hp : ∀ (b : Fin 16) (n : Fin 1024) (h : Fin 32), rows V c (ix3 b n (lane h)) = p (ix3 b n h)) (hz : vecs V c = z)
include hp hz

theorem blk_p (b : Fin 16) (n : Fin 1024) (h : Fin 32) : X0_0 V c (pt0 b.val) (ix3 0 n (lane h)) = p (ix3 b n h) := by
  have hb : ∀ hh, (⟨(pt0 b.val).val, hh⟩ : Fin 16) = b := fun hh => Fin.ext (by show b.val % 16 = _; omega)
  refine (X0_0_apply V c (pt0 b.val) n (lane h)).trans ?_
  rw [hb]
  exact hp b n h

theorem blk_z (b : Fin 16) (n : Fin 1024) (h : Fin 32) : X0_1 V c (pt0 b.val) (ix3 0 n h) = z (ix3 b n h) := by
  have hb : ∀ hh, (⟨(pt0 b.val).val, hh⟩ : Fin 16) = b := fun hh => Fin.ext (by show b.val % 16 = _; omega)
  refine (X0_1_apply V c (pt0 b.val) n h).trans ?_
  rw [hb]
  exact congrFun hz (ix3 b n h)

theorem blk_unit (b : Fin 16) (n : Fin 1024) (h : Fin 32) :
    k0_pay2 (F := Ideal) (X0_0 V c (pt0 b.val)) (ix2 n h) = normT p (ix3 b n h) := by
  rw [fin2_apply, normT_apply]
  exact congrArg (fun f => unit1 f n) (funext fun k => blk_p V c p z hp hz b k h)

theorem out2_eq : (dat0 V c).arrAt 2 cfg0.N = addf z (subf (normT p) z) := by
  funext j
  obtain ⟨b, n, h, rfl⟩ : ∃ (b : Fin 16) (n : Fin 1024) (h : Fin 32), j = ix3 b n h := ⟨j 0, j 1, j 2, funext fun a => by
    match a with
    | ⟨0, _⟩ => rfl
    | ⟨1, _⟩ => rfl
    | ⟨2, _⟩ => rfl⟩
  refine (out2_apply V c b n h).trans ?_
  rw [fin3_apply, blk_unit V c p z hp hz, blk_z V c p z hp hz]
  rfl

theorem acc_sum (n : ℕ) : acc0 V c n = ∑ i ∈ Finset.range (n + 1), (k0_pay4 (F := Ideal) (X0_0 V c (pt0 i)) (X0_1 V c (pt0 i)) : EReal) := by
  clear hp hz
  induction n with
  | zero => rw [Finset.sum_range_one]; rfl
  | succ n ih =>
    rw [Finset.sum_range_succ, ← ih]
    rfl

theorem acc_eq : acc0 V c 15 = ∑ i : S16x1024x32.Idx, (mulf (subf (normT p) z) (subf (normT p) z) i : EReal) := by
  rw [acc_sum V c p z hp hz, Finset.sum_range]
  refine Eq.trans ?_ (sum_idx3 (n0 := 16) (n1 := 1024) (n2 := 32) fun i => (mulf (subf (normT p) z) (subf (normT p) z) i : EReal)).symm
  refine Finset.sum_congr rfl fun b _ => ?_
  rw [fin4_apply]
  refine Finset.sum_congr rfl fun n _ => Finset.sum_congr rfl fun h _ => ?_
  rw [blk_unit V c p z hp hz, blk_z V c p z hp hz]
  rfl

theorem out3_eq : (dat0 V c).arrAt 3 cfg0.N (ix2 0 0) = Ref.lossT (normT p) z ix0 := by
  refine (out3_apply V c).trans ?_
  have hm : Ref.meanT (normT p) z ix0 = Ideal.div (acc0 V c 15) (FloatOps.ofBits (F := Ideal) .f32 0x49000000#32) := by
    unfold Ref.meanT
    show Ideal.div (Ideal.hostReduceAdd _ _ _ _) _ = _
    rw [Ideal.hostReduceAdd_total _ (fun b => b.elim0), acc_eq V c p z hp hz]
    rw [show (constant (F := Ideal) Cert.KernelIdeal.S_ .f32 0x00000000#32) (Shape.Idx.first Cert.KernelIdeal.Gen.h_S_) = (0 : EReal) from ofBits_zero, zero_add]
    rfl
  unfold Ref.lossT k0_pay6
  show _ = (Ref.meanT (normT p) z ix0 : EReal) + (_ : EReal) * (Ref.meanT (normT p) z ix0 : EReal)
  rw [hm]
  rfl

end

end Cert.Proof.FinCall
-- ==== Proof.Nearest.lean ====
/-
  The plain computation the argmin call alone is compared with: its operations, its run, and the index it finds for
  every vector.
-/
module

public import proofs.«01_k».proof.Proof.Gen.NearestIdeal
public import proofs.«01_k».proof.Proof.DvEq

@[expose] public section

noncomputable section

namespace Cert.Proof.Near

open Cert.NearestIdeal Cert.NearestIdeal.Gen
open Idealize.ShloMosaic hiding ix0 ix1 ix2 ix3 ix4 ix5
open Idealize.ShloMosaic.TcCoe Idealize.SL.Sem Idealize.ShloMosaic.StableHlo
open Idealize.ShloMosaic.ValueIdx (ix1 ix2 ix3 transpose_ix2_apply)
open Cert.Proof.FirstMin (IsFirst)
open Cert.Proof.Whole (row code dv ofBits_zero)

section
variable {F : FTy → Type} [FloatOps F]

/-- Up to the index of the nearest code. -/
abbrev ops1 : List (HloOp τ sig (Elt F)) :=
  [ reshape main_arg0 main_v0 (rfl : (.bf16 : EltTy) = .bf16) shapeCasts_S16x1024x32_S16384x32,
    unary main_arg1 main_v1 ((transpose S32x8192 [1, 0] · transposes_S8192x32_S32x8192_1_0) : (⟨S8192x32, .bf16⟩ : BufTy).Contents (Elt F) → (⟨S32x8192, .bf16⟩ : BufTy).Contents (Elt F)),
    binary main_v0 main_v1 main_v2 ((fun l r => Host.dotGeneral dot_S16384x32_S32x8192_S16384x8192_1_0_0_1_n_n none l r) : (⟨S16384x32, .bf16⟩ : BufTy).Contents (Elt F) → (⟨S32x8192, .bf16⟩ : BufTy).Contents (Elt F) → (⟨S16384x8192, .f32⟩ : BufTy).Contents (Elt F)),
    reshape main_arg2 main_v3 (rfl : (.f32 : EltTy) = .f32) shapeCasts_S16x1x1024_S16384x1,
    reshape main_arg3 main_v4 (rfl : (.f32 : EltTy) = .f32) shapeCasts_S8192x1_S1x8192,
    unary main_v3 main_v5 (broadcastInDim S16384x8192 ![0, 1] bcast_S16384x1_S16384x8192_0_1 : (⟨S16384x1, .f32⟩ : BufTy).Contents (Elt F) → (⟨S16384x8192, .f32⟩ : BufTy).Contents (Elt F)),
    unary main_v4 main_v6 (broadcastInDim S16384x8192 ![0, 1] bcast_S1x8192_S16384x8192_0_1 : (⟨S1x8192, .f32⟩ : BufTy).Contents (Elt F) → (⟨S16384x8192, .f32⟩ : BufTy).Contents (Elt F)),
    binary main_v5 main_v6 main_v7 (addf : (⟨S16384x8192, .f32⟩ : BufTy).Contents (Elt F) → (⟨S16384x8192, .f32⟩ : BufTy).Contents (Elt F) → (⟨S16384x8192, .f32⟩ : BufTy).Contents (Elt F)),
    binary main_v7 main_v2 main_v8 (subf : (⟨S16384x8192, .f32⟩ : BufTy).Contents (Elt F) → (⟨S16384x8192, .f32⟩ : BufTy).Contents (Elt F) → (⟨S16384x8192, .f32⟩ : BufTy).Contents (Elt F)),
    TRef.nullary (TRef.of (T := ⟨S16384x8192, .i32⟩) main_call0_v0) (iotaInDim S16384x8192 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x8192, .f32⟩) main_v8) (TRef.of (T := ⟨S16384x8192, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x8192_S16384_d1 h_S_ j).1),
    TRef.quaternary (TRef.of (T := ⟨S16384x8192, .f32⟩) main_v8) (TRef.of (T := ⟨S16384x8192, .i32⟩) main_call0_v0) (TRef.of (T := ⟨S_, .f32⟩) main_call0_cst) (TRef.of (T := ⟨S_, .i32⟩) main_call0_c) (TRef.of (T := ⟨S16384, .i32⟩) main_v9) (fun x y u v j => (Host.argReduce reducer_argmin_f32_i32 x y u v reducesTo_S16384x8192_S16384_d1 h_S_ j).2) ]

/-- The indices, batch by batch. -/
abbrev ops2 : List (HloOp τ sig (Elt F)) :=
  [ reshape main_v9 main_v10 (rfl : (.i32 : EltTy) = .i32) shapeCasts_S16384_S16x1x1024 ]

/-- All of them. -/
abbrev ops : List (HloOp τ sig (Elt F)) := ops1 ++ ops2

theorem ops1_sub : (ops1 : List (HloOp τ sig (Elt F))).Forall fun op => op.bufs ⊆ tcRefs τ sig :=
  ⟨reshape_bufs_sub .., unary_bufs_sub .., binary_bufs_sub .., reshape_bufs_sub .., reshape_bufs_sub .., unary_bufs_sub .., unary_bufs_sub .., binary_bufs_sub .., binary_bufs_sub .., nullary_bufs_sub .., nullary_bufs_sub .., nullary_bufs_sub .., quaternary_bufs_sub .., quaternary_bufs_sub ..⟩

theorem ops_sub : (ops : List (HloOp τ sig (Elt F))).Forall fun op => op.bufs ⊆ tcRefs τ sig :=
  List.forall_append.2 ⟨ops1_sub, reshape_bufs_sub ..⟩

set_option maxRecDepth 8192 in
set_option maxHeartbeats 4000000 in
theorem main_eq (c : Dev nD) : main (F := F) c = seq ops := by
  rfl
theorem scopedRefs_eq : (Finset.univ.filter fun b : Ref sig .tc => b.isScoped) = ∅ := by decide
theorem scopedSems_eq : (Finset.univ.filter fun sm : SemLoc sig => sm.isScoped .tc) = ∅ := by decide

/-- The distance of every vector to every code. -/
def distN (A : FVec F S16x1024x32 .bf16) (B : FVec F S8192x32 .bf16) (C : FVec F S16x1x1024 .f32) (E : FVec F S8192x1 .f32) : FVec F S16384x8192 .f32 :=
  subf (addf (broadcastInDim S16384x8192 ![0, 1] bcast_S16384x1_S16384x8192_0_1 (shapeCast S16384x1 C shapeCasts_S16x1x1024_S16384x1))
      (broadcastInDim S16384x8192 ![0, 1] bcast_S1x8192_S16384x8192_0_1 (shapeCast S1x8192 E shapeCasts_S8192x1_S1x8192)))
    (Host.dotGeneral dot_S16384x32_S32x8192_S16384x8192_1_0_0_1_n_n none (shapeCast S16384x32 A shapeCasts_S16x1024x32_S16384x32)
      (transpose S32x8192 [1, 0] B transposes_S8192x32_S32x8192_1_0))

/-- The index of the least entry of every row. -/
def argN (D : FVec F S16384x8192 .f32) : IVec S16384 32 := fun j =>
  (Host.argReduce reducer_argmin_f32_i32 D (iotaInDim S16384x8192 32 1) (constant S_ .f32 0x7F800000#32) (constantI S_ 32 0#32)
    reducesTo_S16384x8192_S16384_d1 h_S_ j).2

/-- The indices, batch by batch. -/
def batchN (I : IVec S16384 32) : IVec S16x1x1024 32 := shapeCast S16x1x1024 I shapeCasts_S16384_S16x1x1024

/-- Two stretches in turn. -/
theorem after_append (l₁ l₂ : List (HloOp τ sig (Elt F))) (V : Valuation τ sig (Elt F)) :
    after (l₁ ++ l₂) V = after l₂ (after l₁ V) := by
  induction l₁ generalizing V with
  | nil => rfl
  | cons a l ih => simp only [List.cons_append, after_cons, ih]

section Values
variable (V : Valuation τ sig (Elt F))

set_option maxHeartbeats 2000000 in
theorem after1_v9 : after ops1 V main_v9 = argN (distN (V main_arg0) (V main_arg1) (V main_arg2) (V main_arg3)) := by
  simp only [ops1, TRef.quaternary, TRef.binary, TRef.nullary, TRef.ternary, TRef.unary, TRef.toBuf, TRef.ofBuf, cast_eq]; after_results <;> rfl

theorem after2_v10 : after ops2 V main_v10 = batchN (V main_v9) := by
  simp only [ops2]; after_results <;> rfl

set_option maxHeartbeats 2000000 in
theorem after1_arg0 : after ops1 V main_arg0 = V main_arg0 := by
  simp only [ops1, TRef.quaternary, TRef.binary, TRef.nullary, TRef.ternary, TRef.unary, TRef.toBuf, TRef.ofBuf, cast_eq]; after_results <;> rfl

set_option maxHeartbeats 2000000 in
theorem after2_arg0 : after ops2 V main_arg0 = V main_arg0 := by
  simp only [ops2]; after_results <;> rfl

set_option maxHeartbeats 2000000 in
theorem after1_arg1 : after ops1 V main_arg1 = V main_arg1 := by
  simp only [ops1, TRef.quaternary, TRef.binary, TRef.nullary, TRef.ternary, TRef.unary, TRef.toBuf, TRef.ofBuf, cast_eq]; after_results <;> rfl

set_option maxHeartbeats 2000000 in
theorem after2_arg1 : after ops2 V main_arg1 = V main_arg1 := by
  simp only [ops2]; after_results <;> rfl

set_option maxHeartbeats 2000000 in
theorem after1_arg2 : after ops1 V main_arg2 = V main_arg2 := by
  simp only [ops1, TRef.quaternary, TRef.binary, TRef.nullary, TRef.ternary, TRef.unary, TRef.toBuf, TRef.ofBuf, cast_eq]; after_results <;> rfl

set_option maxHeartbeats 2000000 in
theorem after2_arg2 : after ops2 V main_arg2 = V main_arg2 := by
  simp only [ops2]; after_results <;> rfl

set_option maxHeartbeats 2000000 in
theorem after1_arg3 : after ops1 V main_arg3 = V main_arg3 := by
  simp only [ops1, TRef.quaternary, TRef.binary, TRef.nullary, TRef.ternary, TRef.unary, TRef.toBuf, TRef.ofBuf, cast_eq]; after_results <;> rfl

set_option maxHeartbeats 2000000 in
theorem after2_arg3 : after ops2 V main_arg3 = V main_arg3 := by
  simp only [ops2]; after_results <;> rfl

end Values

/-- From any memory with zero counters the computation ends with the indices at this term of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v10) = batchN (argN (distN (m ((c.tc : Thread nD τ).loc main_arg0)) (m ((c.tc : Thread nD τ).loc main_arg1))
            (m ((c.tc : Thread nD τ).loc main_arg2)) (m ((c.tc : Thread nD τ).loc main_arg3))))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c =>
      ⟨(h c main_v10).trans (by rw [after_append, after2_v10, after1_v9]), (h c main_arg0).trans (by rw [after_append, after2_arg0, after1_arg0]), (h c main_arg1).trans (by rw [after_append, after2_arg1, after1_arg1]),
       (h c main_arg2).trans (by rw [after_append, after2_arg2, after1_arg2]), (h c main_arg3).trans (by rw [after_append, after2_arg3, after1_arg3])⟩,
      Idealize.ShloMosaic.sem_eq_zero_of_no_sems (by decide) r.2⟩)
    (run_seq scopedRefs_eq scopedSems_eq defs main (fun _ => ops) main_eq (fun _ => ops_sub) m ρ)

section
attribute [local irreducible] Host.argReduce

/-- The index of the least entry is the one the whole kernel's reference takes. -/
theorem arg_same (D : FVec F S16384x8192 .f32) : argN D = Ref.argT D := by
  have e : reducer_argmin_f32_i32 (F := F) = Cert.ReferenceIdeal.reducer_argmin_f32_i32 (F := F) := rfl
  rw [Ref.argT_fun]
  unfold argN
  rw [e]

end

theorem batchN_apply (I : IVec S16384 32) (b : Fin 16) (n : Fin 1024) : batchN I (ix3 b 0 n) = I (ix1 (row b n)) := by
  refine shapeCast_apply I _ _ _ ?_
  rw [Shape.rowMajor_val_one, Shape.rowMajor_val_three]
  show 1024 * b.val + n.val = (b.val * 1 + 0) * 1024 + n.val
  omega

end

theorem distN_apply (A : FVec Ideal S16x1024x32 .bf16) (B : FVec Ideal S8192x32 .bf16) (C : FVec Ideal S16x1x1024 .f32) (E : FVec Ideal S8192x1 .f32)
    (b : Fin 16) (n : Fin 1024) (k : Fin 8192) :
    distN A B C E (ix2 (row b n) k) = ((C (ix3 b 0 n) : EReal) + (E (ix2 k 0) : EReal)) - ∑ h : Fin 32, (A (ix3 b n h) : EReal) * (B (ix2 k h) : EReal) := by
  have hA : ∀ h : Fin 32, shapeCast S16384x32 A shapeCasts_S16x1024x32_S16384x32 (ix2 (row b n) h) = A (ix3 b n h) := fun h => by
    refine shapeCast_apply A _ _ _ ?_
    rw [Shape.rowMajor_val_three, Shape.rowMajor_val_two]
    show (b.val * 1024 + n.val) * 32 + h.val = (1024 * b.val + n.val) * 32 + h.val
    omega
  have hd : Host.dotGeneral (F := Ideal) (φ₁ := .bf16) (φ₂ := .bf16) dot_S16384x32_S32x8192_S16384x8192_1_0_0_1_n_n none
        (shapeCast S16384x32 A shapeCasts_S16x1024x32_S16384x32) (transpose S32x8192 [1, 0] B transposes_S8192x32_S32x8192_1_0) (ix2 (row b n) k)
      = ∑ h : Fin 32, (A (ix3 b n h) : EReal) * (B (ix2 k h) : EReal) := by
    rw [← matmul_zero_eq_dotGeneral]
    refine (Ideal.matmul_plain_apply (M := 16384) (K := 32) (N := 8192) none _ _ _ (row b n) k).trans ?_
    rw [show (constant (F := Ideal) S16384x8192 .f32 0x00000000#32) (ix2 (row b n) k) = (0 : EReal) from ofBits_zero, zero_add]
    exact Finset.sum_congr rfl fun h _ => congrArg₂ (· * ·) (hA h) (transpose_ix2_apply B _ h k)
  unfold distN
  show ((broadcastInDim _ _ _ _ _ : EReal) + (broadcastInDim _ _ _ _ _ : EReal)) - _ = _
  rw [hd]
  refine congrArg₂ (· - ·) (congrArg₂ (· + ·) ?_ ?_) rfl
  · refine (broadcastInDim_apply _ _ _ (ix2 (row b n) k) (ix2 (row b n) 0) fun a => ?_).trans (shapeCast_apply C _ _ _ ?_)
    · match a with
      | ⟨0, _⟩ => rfl
      | ⟨1, _⟩ => rfl
    · rw [Shape.rowMajor_val_three, Shape.rowMajor_val_two]
      show (b.val * 1 + 0) * 1024 + n.val = (1024 * b.val + n.val) * 1 + 0
      omega
  · refine (broadcastInDim_apply _ _ _ (ix2 (row b n) k) (ix2 0 k) fun a => ?_).trans (shapeCast_apply E _ _ _ ?_)
    · match a with
      | ⟨0, _⟩ => rfl
      | ⟨1, _⟩ => rfl
    · rw [Shape.rowMajor_val_two, Shape.rowMajor_val_two]
      show k.val * 1 + 0 = 0 * 8192 + k.val
      omega

theorem dv_eq (A : FVec Ideal S16x1024x32 .bf16) (B : FVec Ideal S8192x32 .bf16) (C : FVec Ideal S16x1x1024 .f32) (E : FVec Ideal S8192x1 .f32)
    (b : Fin 16) (n : Fin 1024) (k : ℕ) : dv A B C E b n k = distN A B C E (ix2 (row b n) (code k)) := by
  rw [distN_apply]
  unfold dv
  exact congrArg (_ - ·) (Finset.sum_congr rfl fun h _ => mul_comm _ _)

/-- An index that is first for the kernel's distances is the index found here. -/
theorem idx_eq (A : FVec Ideal S16x1024x32 .bf16) (B : FVec Ideal S8192x32 .bf16) (C : FVec Ideal S16x1x1024 .f32) (E : FVec Ideal S8192x1 .f32)
    (b : Fin 16) (n : Fin 1024) (v : BitVec 32) (hv : IsFirst (dv A B C E b n) 8192 v.toNat) :
    v = batchN (argN (distN A B C E)) (ix3 b 0 n) := by
  have h1 := hv.congr (e := fun k => distN A B C E (ix2 (row b n) (code k))) fun k _ => dv_eq A B C E b n k
  have h2 := Ref.argT_first (distN A B C E) (row b n)
  rw [batchN_apply, arg_same]
  generalize Ref.argT (distN A B C E) (ix1 (row b n)) = w at h2 ⊢
  exact BitVec.eq_of_toNat_eq (h1.unique h2)

end Cert.Proof.Near

end
-- ==== Proof.Gather.lean ====
/-
  The SparseCore gather alone: thirty-two vector subcores, each fetching four lists of 128 row numbers, gathering the
  named rows of the table and writing them out. The run is stated once, over any float values, with the contents that
  the result array ends at.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The user algebra: the handshakes' rounds and the local transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, and the result array in 128 blocks of 128 rows -/

abbrev tLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

local notation "tV" => (Memref.whole Cert.GatherIdeal.main_arg0_scv : Memref Cert.GatherIdeal.sig Kind.scVector Space.hbm Cert.GatherIdeal.S8192x128 EltTy.f32)
local notation "iV" => (Memref.whole Cert.GatherIdeal.main_arg1_scv : Memref Cert.GatherIdeal.sig Kind.scVector Space.hbm Cert.GatherIdeal.S16384 EltTy.i32)
local notation "oV" => (Memref.whole Cert.GatherIdeal.main_v0_scv : Memref Cert.GatherIdeal.sig Kind.scVector Space.hbm Cert.GatherIdeal.S16384x128 EltTy.f32)
local notation "sV" => (Memref.whole Cert.GatherIdeal.cc0_scratch0 : Memref Cert.GatherIdeal.sig Kind.scVector Space.vmem Cert.GatherIdeal.S128 EltTy.i32)
local notation "rV" => (Memref.whole Cert.GatherIdeal.cc0_scratch1 : Memref Cert.GatherIdeal.sig Kind.scVector Space.vmem Cert.GatherIdeal.S128x128 EltTy.f32)

/-- Block `j` of tile `(c, s)`: the tile's number is `2 s + c`, and it has four blocks. -/
def blk (p : Fin 2 × Fin 16 × Fin 4) : Fin 128 := ⟨8 * p.2.1.val + 4 * p.1.val + p.2.2.val, by omega⟩

theorem blk_inj : Function.Injective blk := by
  rintro ⟨c, s, j⟩ ⟨c', s', j'⟩ h
  have := congrArg Fin.val h
  simp only [blk] at this
  refine Prod.ext (Fin.ext ?_) (Prod.ext (Fin.ext ?_) (Fin.ext ?_)) <;> dsimp only <;> omega

theorem blk_surj : Function.Surjective blk := fun k =>
  ⟨(⟨k.val / 4 % 2, by omega⟩, ⟨k.val / 8, by omega⟩, ⟨k.val % 4, by omega⟩), Fin.ext (by simp only [blk]; omega)⟩

theorem odiv : 128 ∣ S16384x128.size 0 := ⟨128, rfl⟩
abbrev oRect (k : Fin 128) : Rect S16384x128 := Rect.part (s := S16384x128) (a₀ := 0) odiv k
abbrev oSet (p : Fin 2 × Fin 16 × Fin 4) : Finset S16384x128.Idx := ((oV).view.slice (oRect (blk p))).set

theorem oSet_eq (p : Fin 2 × Fin 16 × Fin 4) : oSet p = (oRect (blk p)).set := by
  show ((View.whole (main_v0_scv : Ref sig .scVector)).slice (oRect (blk p))).set = _
  rw [View.set_slice]; exact Finset.map_refl

theorem oSet_disjoint : ∀ p ∈ (Finset.univ : Finset (Fin 2 × Fin 16 × Fin 4)), ∀ p' ∈ (Finset.univ : Finset (Fin 2 × Fin 16 × Fin 4)),
    p ≠ p' → Disjoint (oSet p) (oSet p') := fun p _ p' _ h => by
  rw [oSet_eq, oSet_eq]; exact Rect.part_disjoint odiv fun e => h (blk_inj e)

theorem oSet_cover : (Finset.univ : Finset (Fin 2 × Fin 16 × Fin 4)).biUnion oSet = Finset.univ := by
  refine Finset.eq_univ_iff_forall.mpr fun x => ?_
  have hx : x ∈ (Finset.univ : Finset (Fin 128)).biUnion fun k => (oRect k).set := by rw [Rect.biUnion_part odiv]; exact Finset.mem_univ x
  obtain ⟨k, -, hk⟩ := Finset.mem_biUnion.mp hx
  obtain ⟨p, rfl⟩ := blk_surj k
  exact Finset.mem_biUnion.mpr ⟨p, Finset.mem_univ p, (oSet_eq p).symm ▸ hk⟩

/-! ## Shares of the two arrays that are only read -/

abbrev cq (c : Fin 2) : PosShare TreeShare := Transfers.dealOf fullShare (Finset.univ : Finset (Fin 2)) c
abbrev tq (c : Fin 2) (s : Fin 16) : PosShare TreeShare := Transfers.dealOf (cq c) (Finset.univ : Finset (Fin 16)) s

theorem pts_cores {ℓ : Loc nD τ sig} (f : Buf (Elt F) ℓ) : (ℓ ↦{fullShare} f : sProp 𝕄) = bigSep Finset.univ fun c : Fin 2 => ℓ ↦{cq c} f :=
  Transfers.pointsTo_deal _ ⟨0, Finset.mem_univ _⟩ fullShare
theorem pts_tiles {ℓ : Loc nD τ sig} (c : Fin 2) (f : Buf (Elt F) ℓ) : (ℓ ↦{cq c} f : sProp 𝕄) = bigSep Finset.univ fun s : Fin 16 => ℓ ↦{tq c s} f :=
  Transfers.pointsTo_deal _ ⟨0, Finset.mem_univ _⟩ (cq c)

/-! ## The result's contents -/

/-- The row of the table that a word names. -/
def rowOf (v : BitVec 32) : Fin 8192 := ⟨min v.toNat 8191, by omega⟩

/-- The table's row at the word of each row of the result. -/
def rowsAt {α : Type} (t : S8192x128.Idx → α) (ix : S16384.Idx → BitVec 32) : S16384x128.Idx → α :=
  fun x => t (Fin.cons (rowOf (ix (Fin.cons (x 0) (fun a => a.elim0)))) (Fin.cons (x 1) (fun a => a.elim0)))

variable (FT : (d : Dev nD) → Buf (Elt F) (tLoc d)) (FI : (d : Dev nD) → Buf (Elt F) (iLoc d)) (FO : (d : Dev nD) → Buf (Elt F) (oLoc d))

/-- What the result array ends at. -/
abbrev GO (d : Dev nD) : Buf (Elt F) (oLoc d) := rowsAt (FT d) (FI d)

variable [FloatOps F]

/-- An index of a list of 128 words. -/
abbrev one (k : Fin 128) : S128.Idx := Fin.cons k (fun a => a.elim0)

/-! ## What the handshakes carry -/

abbrev oPt (d : Dev nD) (p : Fin 2 × Fin 16 × Fin 4) (f : Buf (Elt F) (oLoc d)) : sProp 𝕄 := oLoc d ↦[oSet p]{fullShare} f
abbrev oTile (d : Dev nD) (c : Fin 2) (s : Fin 16) (f : Buf (Elt F) (oLoc d)) : sProp 𝕄 := bigSep Finset.univ fun j : Fin 4 => oPt d (c, s, j) f

abbrev tileAt (d : Dev nD) (c : Fin 2) (s : Fin 16) (f : Buf (Elt F) (oLoc d)) : sProp 𝕄 :=
  iprop((iLoc d ↦{tq c s} FI d) ∗ (tLoc d ↦{tq c s} FT d) ∗ oTile d c s f)
abbrev coreAt (d : Dev nD) (c : Fin 2) (f : Buf (Elt F) (oLoc d)) : sProp 𝕄 :=
  iprop((iLoc d ↦{cq c} FI d) ∗ (tLoc d ↦{cq c} FT d) ∗ bigSep Finset.univ fun s : Fin 16 => oTile d c s f)

/-- Each SparseCore takes its share of the table and of the indices and its tiles' blocks of the result; each tile its
    share and its four blocks; both bring them back with the blocks at the gathered rows. -/
def P : (K (F := F)).Pay (nD := nD) (Val := Elt F) (Name := ℕ) (U := UU) where
  st := fun q d c => match q with | 0 => coreAt FT FI d (Fin.cast nCore_zero c) (FO d)
  dn := fun q d c => match q with | 0 => coreAt FT FI d (Fin.cast nCore_zero c) (GO FT FI d)
  go := fun q d c i => match q with | 0 => tileAt FT FI d (Fin.cast nCore_zero c) (Fin.cast nSub_zero i) (FO d)
  td := fun q d c i => match q with | 0 => tileAt FT FI d (Fin.cast nCore_zero c) (Fin.cast nSub_zero i) (GO FT FI d)
  x := fun _ _ => iprop(emp)

instance P_storable : (P (F := F) FT FI FO).IsStorable where
  st q d c := match q with
    | 0 => (inferInstance : BI.Storable (upEmb : UEmb _ 𝕄) (coreAt FT FI d (Fin.cast nCore_zero c) (FO d)))
  dn q d c := match q with
    | 0 => (inferInstance : BI.Storable (upEmb : UEmb _ 𝕄) (coreAt FT FI d (Fin.cast nCore_zero c) (GO FT FI d)))
  go q d c i := match q with
    | 0 => (inferInstance : BI.Storable (upEmb : UEmb _ 𝕄) (tileAt FT FI d (Fin.cast nCore_zero c) (Fin.cast nSub_zero i) (FO d)))
  td q d c i := match q with
    | 0 => (inferInstance : BI.Storable (upEmb : UEmb _ 𝕄) (tileAt FT FI d (Fin.cast nCore_zero c) (Fin.cast nSub_zero i) (GO FT FI d)))

/-- Every index names a row of the table. -/
def InRange : Prop := ∀ (d : Dev nD) (j : S16384.Idx), (FI d j).toNat < 8192

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- List `j` of the tile's row numbers, and its block `j` of the result, as the task addresses them. -/
abbrev iRectK (L : grid0.Coords) (j : Fin 4) : Rect S16384 := Rect.unit (s := S16384) (k0_off1 L (BitVec.ofNat 32 (128 * j.val))) S128.size (k0_off1_inb L j)
abbrev oRectK (L : grid0.Coords) (j : Fin 4) : Rect S16384x128 := Rect.unit (s := S16384x128) (k0_off2 L (BitVec.ofNat 32 (128 * j.val))) S128x128.size (k0_off2_inb L j)
abbrev iChK (L : grid0.Coords) (j : Fin 4) : Memref sig .scVector .hbm S128 .i32 := (iV).slice (iRectK L j) (fun _ => rfl)
abbrev oChK (L : grid0.Coords) (j : Fin 4) : Memref sig .scVector .hbm S128x128 .f32 := (oV).slice (oRectK L j) (fun _ => rfl)
abbrev tAllK : Memref sig .scVector .hbm S8192x128 .f32 := (tV).slice (Rect.unit (s := S8192x128) ![0, 0] S8192x128.size inb_S8192x128_S8192x128_0_0) (fun _ => rfl)

omit [FloatOps F] in
theorem oRectK_eq (j : Fin 4) : oRectK L j = oRect (blk (cL L, jL L, j)) := by
  unfold oRectK oRect Rect.part Rect.block
  congr 1 <;> funext a
  · rw [k0_off2_eq]
    match a with
    | 0 => simp [Shape.partIx, Shape.partSize, blk]; omega
    | 1 => simp [Shape.partIx, Shape.partSize]
  · match a with
    | 0 => simp [Shape.partSize]
    | 1 => simp [Shape.partSize]

omit [FloatOps F] in
theorem set_oChK (j : Fin 4) : (oChK L j).view.set = oSet (cL L, jL L, j) := by
  show ((oV).view.slice (oRectK L j)).set = ((oV).view.slice (oRect (blk (cL L, jL L, j)))).set
  rw [oRectK_eq L j]

omit [FloatOps F] in
theorem pts_oChK (j : Fin 4) (f : Buf (Elt F) (oLoc d)) :
    ((oChK L j).view.loc (V d (cV L) (jV L)) ↦[(oChK L j).view.set]{fullShare} f : sProp 𝕄) = oPt d (cL L, jL L, j) f := by
  rw [set_oChK]

/-- The scoped DMA semaphores of the task, the gather's first. -/
abbrev tCell (d : Dev nD) (c : Fin τ.nSC) (i : Fin τ.nSub) (n : Fin 9) : GSem nD τ sig := (V d c i, .dma n)

omit [FloatOps F] in
theorem tCell_inj (c : Fin τ.nSC) (i : Fin τ.nSub) : Function.Injective (tCell d c i) := fun n n' h => by
  have := congrArg Prod.snd h
  exact SemLoc.dma.inj this

omit [FloatOps F] in
/-- The nine semaphores are among the subcore's own: they are them, at zero, and the rest. -/
theorem ownSems0_V :
    (ownSems0 (V d (cV L) (jV L)) : sProp 𝕄)
      = iprop((semVal (tCell d (cV L) (jV L) 0) 0 ∗ semVal (tCell d (cV L) (jV L) 1) 0 ∗ semVal (tCell d (cV L) (jV L) 2) 0
          ∗ semVal (tCell d (cV L) (jV L) 3) 0 ∗ semVal (tCell d (cV L) (jV L) 4) 0 ∗ semVal (tCell d (cV L) (jV L) 5) 0
          ∗ semVal (tCell d (cV L) (jV L) 6) 0 ∗ semVal (tCell d (cV L) (jV L) 7) 0 ∗ semVal (tCell d (cV L) (jV L) 8) 0)
        ∗ bigSep (ownCells (V d (cV L) (jV L)) \ Finset.univ.image (tCell d (cV L) (jV L))) fun g => semVal g 0) := by
  unfold SparseCore.Cfg.ownSems0
  have hsub : Finset.univ.image (tCell d (cV L) (jV L)) ⊆ ownCells (V d (cV L) (jV L)) := fun g hg => by
    obtain ⟨n, -, rfl⟩ := Finset.mem_image.mp hg
    exact mem_ownCells.mpr ⟨rfl, (show ∀ n : Fin 9, (SemLoc.dma n : SemLoc sig).isScoped .scVector = true by decide) n⟩
  rw [SparseCore.bigSep_sdiff_split' hsub, SparseCore.bigSep_image_of_injOn ((tCell_inj d (cV L) (jV L)).injOn),
    bigSep_univ_eq_bigSepL [0, 1, 2, 3, 4, 5, 6, 7, 8] (by decide) (by decide)]
  rfl

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The words that the index fetch lands are in range. -/
theorem list_inb (fi : Buf (Elt F) (iLoc d)) (hin : ∀ j, (fi j).toNat < 8192) (g : Buf (Elt F) ((V d (cV L) (jV L)).loc cc0_scratch0)) (off : Fin 1 → Nat)
    (h : ∀ a, off a + S128.size a ≤ S16384.size a) (x : S128.Idx) :
    ((sV).view.read (Elt F) (View.write (Elt F) (sV).view g (((iV).slice (Rect.unit (s := S16384) off S128.size h) (fun _ => rfl)).view.read (Elt F) fi) Finset.univ) x).toNat
      < S8192x128.size gathers_S8192x128_S128x128.axis := by
  rw [View.write_whole_univ]
  simp only [Memref.view_whole, View.read_whole]
  rw [show ∀ j, ((iV).slice (Rect.unit (s := S16384) off S128.size h) (fun _ => rfl)).view.read (Elt F) fi j
      = fi (((iV).slice (Rect.unit (s := S16384) off S128.size h) (fun _ => rfl)).view.emb j) from fun j => (View.read_apply _ _).trans (cast_eq _ _)]
  exact hin _

omit [FloatOps F] in
/-- A row gathered through the fetched list is the row of the result that it lands on. -/
theorem gathered_eq (j : Fin 4) (hin : InRange FI) (lc : S128.Idx → BitVec 32) (hl : ∀ x, lc x = FI d ((iRectK L j).emb x))
    (hn : S128.numel = S128x128.size gathers_S8192x128_S128x128.axis') (h : ∀ x, (lc x).toNat < S8192x128.size gathers_S8192x128_S128x128.axis)
    (y : S128x128.Idx) :
    SparseCore.gatherPayload (F := F) (e := .f32) gathers_S8192x128_S128x128 ((tAllK).view.read (Elt F) (FT d)) (SparseCore.rows (F := F) lc hn h) y
      = GO FT FI d ((oRectK L j).emb y) := by
  have hix : ∀ k : Fin 128, S128.rowMajor.symm (Fin.cast hn.symm k) = one k := fun k => by
    rw [Equiv.symm_apply_eq]
    exact Fin.ext (Shape.rowMajor_val_one (one k)).symm
  unfold SparseCore.gatherPayload GO rowsAt
  rw [show ∀ x, (tAllK).view.read (Elt F) (FT d) x = FT d ((tAllK).view.emb x) from fun x => (View.read_apply _ _).trans (cast_eq _ _)]
  have hy1 : (k0_off2 L (BitVec.ofNat 32 (128 * j.val))) 1 = 0 := by rw [k0_off2_eq]; rfl
  have hy0 : (k0_off2 L (BitVec.ofNat 32 (128 * j.val))) 0 = (k0_off1 L (BitVec.ofNat 32 (128 * j.val))) 0 := by rw [k0_off2_eq, k0_off1_eq]; rfl
  refine congrArg (FT d) (funext fun a => Fin.ext ?_)
  match a with
  | 0 =>
    show 0 + 1 * (gathers_S8192x128_S128x128.idx (SparseCore.rows (F := F) lc hn h) y 0).val = min (FI d _).toNat 8191
    have e := congrArg Fin.val (Shape.Gathers.idx_axis gathers_S8192x128_S128x128 (SparseCore.rows (F := F) lc hn h) y)
    have e' : (gathers_S8192x128_S128x128.idx (SparseCore.rows (F := F) lc hn h) y 0).val = (lc (one (y 0))).toNat := by
      refine e.trans ?_
      exact congrArg (fun z => (lc z).toNat) (hix (y 0))
    rw [e', hl]
    have e2 : (iRectK L j).emb (one (y 0)) = (Fin.cons ((oRectK L j).emb y 0) (fun a => a.elim0) : S16384.Idx) := by
      funext a
      match a with
      | 0 =>
        refine Fin.ext ?_
        show (k0_off1 L _) 0 + 1 * (y 0).val = (k0_off2 L _) 0 + 1 * (y 0).val
        rw [hy0]
    rw [e2]
    have := hin d (Fin.cons ((oRectK L j).emb y 0) (fun a => a.elim0) : S16384.Idx)
    omega
  | 1 =>
    show 0 + 1 * (gathers_S8192x128_S128x128.idx (SparseCore.rows (F := F) lc hn h) y 1).val = (k0_off2 L (BitVec.ofNat 32 (128 * j.val))) 1 + 1 * (y 1).val
    rw [hy1]
    have e := Shape.Gathers.idx_of_ne gathers_S8192x128_S128x128 (SparseCore.rows (F := F) lc hn h) y 1 (by decide)
    exact congrArg (fun n => 0 + 1 * n) e

omit [FloatOps F] in
/-- A block written with rows that are the result's is the block at the result. -/
theorem pts_landed (j : Fin 4) (w : S128x128.Idx → Elt F .f32) (hw : ∀ y, w y = GO FT FI d ((oRectK L j).emb y)) :
    ((oChK L j).view.loc (V d (cV L) (jV L)) ↦[(oChK L j).view.set]{fullShare}
        (oChK L j).view.writes (Elt F) (FO d) [⟨Rect.whole S128x128, w⟩] : sProp 𝕄) = oPt d (cL L, jL L, j) (GO FT FI d) := by
  rw [← pts_oChK (F := F) d L j]
  refine pointsTo_congr fun i hi => ?_
  obtain ⟨y, -, rfl⟩ := Finset.mem_map.mp hi
  have e := View.write_univ_eq_writes_whole (oChK L j).view (FO d) [] w
  rw [View.writes_nil] at e
  rw [← e, View.write_emb_of_mem _ _ (Finset.mem_univ _), cast_eq]
  exact hw y

omit [FloatOps F] in
/-- What the row buffer reads after the last of its whole writes. -/
theorem read_last (g : Buf (Elt F) ((V d (cV L) (jV L)).loc cc0_scratch1)) (w : S128x128.Idx → Elt F .f32)
    (Ls : List (View.Piece (Elt F) S128x128 .f32)) :
    (rV).view.read (Elt F) ((rV).view.writes (Elt F) g (⟨Rect.whole S128x128, w⟩ :: Ls)) = w := by
  have e := View.write_univ_eq_writes_whole (rV).view g Ls w
  exact (congrArg ((rV).view.read (Elt F)) e.symm).trans (View.read_write_univ _ _)

omit [FloatOps F] in
/-- What the list's buffer reads after a fetch: the words fetched. -/
theorem read_list (g : Buf (Elt F) ((V d (cV L) (jV L)).loc cc0_scratch0)) (w : S128.Idx → Elt F .i32) :
    (sV).view.read (Elt F) (View.write (Elt F) (sV).view g w Finset.univ) = w := View.read_write_univ _ _

set_option maxHeartbeats 4000000 in
theorem tile_body (hF : (K (F := F)).Facts) (hin : InRange FI) (O : CellTallies nD τ sig (HIx 1)) (W : Waits sig (HIx 1)) (hO : ∀ g, O g none = 0) :
    iprop(levAts (K (F := F)).L (K (F := F)).lev ∗ emp
        ∗ tileAt FT FI d (cL L) (jL L) (FO d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3
            cc0_scoped4 cc0_scoped5 cc0_scoped6 cc0_scoped7)
          fun _ => iprop(tileAt FT FI d (cL L) (jL L) (GO FT FI d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold tileAt oTile
  simp only [bigSep_four]
  iintro ⟨#Hlv, -, ⟨Hi, Ht, Ho0, Ho1, Ho2, Ho3⟩, ⟨⟨%fs, Hs⟩, ⟨%fr, Hr⟩, Hbufs⟩, ⟨⟨H0, H1, H2, H3, H4, H5, H6, H7, H8⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho0' := (Entails.of_eq (pts_oChK (F := F) d L 0 _).symm) $$ Ho0
  ihave Ho1' := (Entails.of_eq (pts_oChK (F := F) d L 1 _).symm) $$ Ho1
  ihave Ho2' := (Entails.of_eq (pts_oChK (F := F) d L 2 _).symm) $$ Ho2
  ihave Ho3' := (Entails.of_eq (pts_oChK (F := F) d L 3 _).symm) $$ Ho3
  ihave Hi' := (Entails.of_eq (show ((iV).view.loc (V d (cV L) (jV L)) ↦{tq (cL L) (jL L)} FI d : sProp 𝕄) = iLoc d ↦{tq (cL L) (jL L)} FI d from rfl).symm) $$ Hi
  ihave Ht' := (Entails.of_eq (show ((tV).view.loc (V d (cV L) (jV L)) ↦{tq (cL L) (jL L)} FT d : sProp 𝕄) = tLoc d ↦{tq (cL L) (jL L)} FT d from rfl).symm) $$ Ht
  ihave Hs' := (Entails.of_eq (show ((sV).view.loc (V d (cV L) (jV L)) ↦{fullShare} fs : sProp 𝕄) = _ from rfl)) $$ Hs
  ihave Hr' := (Entails.of_eq (show ((rV).view.loc (V d (cV L) (jV L)) ↦{fullShare} fr : sProp 𝕄) = _ from rfl)) $$ Hr
  have hlist := fun g off h x => list_inb (F := F) d L (FI d) (hin d) g off h x
  sl_exec
  ihave Ho0 := (Entails.of_eq (pts_landed (F := F) FT FI FO d L 0 (tile_body.sl.dma0_1 FT FI d L fs fr hlist) fun y =>
    (congrFun (read_last (F := F) d L fr _ _) y).trans (gathered_eq FT FI d L 0 hin _ (fun x => congrFun (read_list (F := F) d L _ _) x) _ _ y))) $$ Ho0'
  ihave Ho1 := (Entails.of_eq (pts_landed (F := F) FT FI FO d L 1 (tile_body.sl.dma0_3 FT FI d L fs fr hlist) fun y =>
    (congrFun (read_last (F := F) d L fr _ _) y).trans (gathered_eq FT FI d L 1 hin _ (fun x => congrFun (read_list (F := F) d L _ _) x) _ _ y))) $$ Ho1'
  ihave Ho2 := (Entails.of_eq (pts_landed (F := F) FT FI FO d L 2 (tile_body.sl.dma0_5 FT FI d L fs fr hlist) fun y =>
    (congrFun (read_last (F := F) d L fr _ _) y).trans (gathered_eq FT FI d L 2 hin _ (fun x => congrFun (read_list (F := F) d L _ _) x) _ _ y))) $$ Ho2'
  ihave Ho3 := (Entails.of_eq (pts_landed (F := F) FT FI FO d L 3 (tile_body.sl.dma0_7 FT FI d L fs fr hlist) fun y =>
    (congrFun (read_last (F := F) d L fr _ _) y).trans (gathered_eq FT FI d L 3 hin _ (fun x => congrFun (read_list (F := F) d L _ _) x) _ _ y))) $$ Ho3'
  rw [wp_ret]; imodintro
  isplitl [Hi' Ht' Ho0 Ho1 Ho2 Ho3]
  · isplitl [Hi']; · iexact Hi'
    isplitl [Ht']; · iexact Ht'
    isplitl [Ho0]; · iexact Ho0
    isplitl [Ho1]; · iexact Ho1
    isplitl [Ho2]; · iexact Ho2
    iexact Ho3
  isplitl [Hs' Hr' Hbufs]
  · isplitl [Hs']; · iexists _; iexact Hs'
    isplitl [Hr']; · iexists _; iexact Hr'
    iexact Hbufs
  isplitl [H0 H1 H2 H3 H4 H5 H6 H7 H8 Hsems]
  · isplitr [Hsems]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact Hsems
  iexists _; isplitr
  swap; · iexact HO
  ipureintro; intro p hp
  simp only [Finset.mem_insert] at hp
  rcases hp with hp | hp | hp | hp | hp | hp | hp | hp | hp | hp | hp | hp | hp
  all_goals first | exact .inl hp | exact .inr (hp ▸ rfl)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sV (Memref.isWhole_whole _) rV (Memref.isWhole_whole _) cc0_scratch2 cc0_scoped0 cc0_scoped1 cc0_scoped2 cc0_scoped3
          cc0_scoped4 cc0_scoped5 cc0_scoped6 cc0_scoped7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : InRange FI) : (K (F := F)).TileObl (D (F := F)) 𝒱 (P FT FI FO) v₀ 0 := by
  intro d c i O W hO _ _
  simp only [show (P FT FI FO).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body FT FI FO d (coordsV ⟨_, hci.1⟩ ⟨_, hci.2⟩) hF hin O W hO).trans (wp_mono frame _ _ fun _ => obl_post)

end Tile

/-! ## A core's part split among its tiles, and the arrays split between the cores -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem core_tiles (d : Dev nD) (c : Fin 2) (f : Buf (Elt F) (oLoc d)) :
    (bigSep Finset.univ fun s : Fin 16 => tileAt FT FI d c s f) = coreAt FT FI d c f := by
  unfold tileAt coreAt
  rw [bigSep_sep', bigSep_sep', pts_tiles, pts_tiles]

omit [FloatOps F] in
theorem oPts_blocks (d : Dev nD) (f : Buf (Elt F) (oLoc d)) :
    (oLoc d ↦{fullShare} f : sProp 𝕄) = bigSep Finset.univ fun c : Fin 2 => bigSep Finset.univ fun s : Fin 16 => oTile d c s f := by
  unfold oTile oPt
  rw [show (oLoc d ↦{fullShare} f : sProp 𝕄) = oLoc d ↦[Finset.univ.biUnion oSet]{fullShare} f by rw [oSet_cover],
    pointsTo_biUnion Finset.univ (ℓ := oLoc d) oSet oSet_disjoint, BI.bigSep_univ_prod]
  exact bigSep_congr fun c _ => BI.bigSep_univ_prod _

abbrev allAt (d : Dev nD) (f : Buf (Elt F) (oLoc d)) : sProp 𝕄 :=
  iprop((iLoc d ↦{fullShare} FI d) ∗ (tLoc d ↦{fullShare} FT d) ∗ oLoc d ↦{fullShare} f)

omit [FloatOps F] in
theorem all_cores (d : Dev nD) (f : Buf (Elt F) (oLoc d)) :
    (bigSep Finset.univ fun c : Fin 2 => coreAt FT FI d c f) = allAt FT FI d f := by
  unfold coreAt allAt
  rw [bigSep_sep', bigSep_sep', oPts_blocks, pts_cores, pts_cores]

theorem vecSplit : (K (F := F)).VecSplit' (P FT FI FO) 0 := by
  intro d c
  show coreAt FT FI d (Fin.cast nCore_zero c) (FO d) ⊢ |={Set.univ}=> iprop(
      (bigSep Finset.univ fun i : Fin ((K (F := F)).nSub 0) => tileAt FT FI d (Fin.cast nCore_zero c) (Fin.cast nSub_zero i) (FO d))
      ∗ ((bigSep Finset.univ fun i : Fin ((K (F := F)).nSub 0) => tileAt FT FI d (Fin.cast nCore_zero c) (Fin.cast nSub_zero i) (GO FT FI d))
          -∗ coreAt FT FI d (Fin.cast nCore_zero c) (GO FT FI d)))
  rw [bigSep_tasks (F := F) (fun i => tileAt FT FI d (Fin.cast nCore_zero c) i (FO d)),
    bigSep_tasks (F := F) (fun i => tileAt FT FI d (Fin.cast nCore_zero c) i (GO FT FI d)), core_tiles, core_tiles]
  iintro H; imodintro
  isplitl [H]; · iexact H
  iintro H; iexact H

theorem st0_eq (d : Dev nD) : (bigSep Finset.univ fun c : Fin ((K (F := F)).nCore 0) => (P FT FI FO).st 0 d c) = allAt FT FI d (FO d) :=
  (bigSep_cores (F := F) (fun c => coreAt FT FI d c (FO d))).trans (all_cores FT FI d _)
theorem dn0_eq (d : Dev nD) : (bigSep Finset.univ fun c : Fin ((K (F := F)).nCore 0) => (P FT FI FO).dn 0 d c) = allAt FT FI d (GO FT FI d) :=
  (bigSep_cores (F := F) (fun c => coreAt FT FI d c (GO FT FI d))).trans (all_cores FT FI d _)

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P FT FI FO).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) FT FI FO).x q thr) = bigSep Finset.univ fun _ => iprop(emp) from
    bigSep_congr fun _ _ => bigSep_univ_of_subsingleton (0 : Fin 1), bigSep_emp']
  iempintro

/-! ## @main, and the run -/

variable (m : (ℓ : Loc nD τ sig) → Buf (Elt F) ℓ) (ρ : Dev nD → PrngReg)

abbrev mT : (d : Dev nD) → Buf (Elt F) (tLoc d) := fun d => m (tLoc d)
abbrev mI : (d : Dev nD) → Buf (Elt F) (iLoc d) := fun d => m (iLoc d)
abbrev mO : (d : Dev nD) → Buf (Elt F) (oLoc d) := fun d => m (oLoc d)

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev FIN (d : Dev nD) : sProp 𝕄 := allAt (mT m) (mI m) d (GO (mT m) (mI m) d)

/-- @main on device `d`'s TensorCore: the one call, from the three arrays; all three kept. -/
theorem hmain (κ : GSem nD τ sig → ℕ) (d : Dev nD) :
    iprop((K (F := F)).ctx EH (P (mT m) (mI m) (mO m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, Hi, Ho⟩, Hts, -⟩, -⟩
  iapply ((K (F := F)).wp_run (D (F := F)) 𝒱 (EH := EH) (P := P (mT m) (mI m) (mO m)) κ d 0) $$ [Hst Hi Ht Ho Hb Hts]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq (mT m) (mI m) (mO m) d)) $$ Hdn
  imodintro
  isplitl [Hst]; · iexact Hst
  isplitr [Hb Hts]
  · iexact Hdn'
  isplitl [Hb] <;> iassumption

def fq (d : Dev nD) (s' : Phys nD τ sig (Elt F)) : Prop :=
  s'.mem.mem (iLoc d) = m (iLoc d) ∧ s'.mem.mem (tLoc d) = m (tLoc d) ∧ s'.mem.mem (oLoc d) = rowsAt (m (tLoc d)) (m (iLoc d))

omit [FloatOps F] in
set_option maxRecDepth 16384 in
theorem hfin (d : Dev nD) (s' : Phys nD τ sig (Elt F)) : iprop(FIN m d ∗ SI s') ⊢ (⌜fq m d s'⌝ : sProp 𝕄) := by
  iintro ⟨⟨Hi, Ht, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := GO (mT m) (mI m) d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- The run: the table and the indices unchanged, the result the table's rows at the indices, every semaphore at zero. -/
theorem run_main [∀ e, Nonempty (Elt F e)] (hin : InRange (mI m)) :
    θ_run (Cert.GatherIdeal.defs (F := F)) (Cert.GatherIdeal.threads (F := F)) ⟨m, fun _ => 0, ρ⟩
      (fun r => (∀ c : Dev nD, r.2.mem (iLoc c) = m (iLoc c) ∧ r.2.mem (tLoc c) = m (tLoc c) ∧ r.2.mem (oLoc c) = rowsAt (m (tLoc c)) (m (iLoc c)))
        ∧ r.2.sem = fun _ => 0) :=
  SparseCore.Cfg.θ_run_sc_quiescent (K := K (F := F)) (D := D (F := F)) (𝒱 := 𝒱) (EH := EH) (P := P (mT m) (mI m) (mO m)) (A := ∅) facts v₀
    (fun q hq => match q with | 0 => nomatch hq)
    (fun q _ => match q with | 0 => tileObl (mT m) (mI m) (mO m) facts hin)
    (fun q _ => match q with | 0 => SparseCore.Cfg.VecSplit.of_plain (vecSplit (mT m) (mI m) (mO m)))
    m ρ main (fun _ => iprop(emp)) (FIN m) (u₀ (F := F)) (sep_elim_left.trans (hu₀ (mT m) (mI m) (mO m))) (hmain m ρ) (fq m) (hfin m) _ (fun _ h hz => ⟨h, hz⟩)

end Cert.Proof.Gather

end
-- ==== Proof.Sc.lean ====
/-
  The SparseCore gather inside the whole kernel: each of thirty-two vector subcores fetches four lists of 128 row
  numbers, gathers the rows they name from the padded table, and writes them out. Over any float values; that the
  numbers are in range is a hypothesis here.
-/
module

public import proofs.«01_k».proof.Proof.Base
public import Idealize.ShloMosaic.Lib.SparseCore.Quiescent
public import Idealize.ShloMosaic.Lib.SparseCore.Ops
public import Idealize.ShloMosaic.Lib.SparseCore.Stream
public import Idealize.ShloMosaic.Lib.StableHlo.Run
public import proofs.«01_k».proof.Proof.Gen.KernelIdeal.Skeleton

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays, and the result array in 128 blocks of 128 rows -/

abbrev tLoc (d : Dev nD) : Loc nD τ sig := (SparseCore.T d).loc main_v25
abbrev iLoc (d : Dev nD) : Loc nD τ sig := (SparseCore.T d).loc main_v24
abbrev oLoc (d : Dev nD) : Loc nD τ sig := (SparseCore.T d).loc main_v26

local notation "tV" => (Memref.whole Cert.KernelIdeal.main_v25_scv : Memref Cert.KernelIdeal.sig Kind.scVector Space.hbm Cert.KernelIdeal.S8192x128 EltTy.f32)
local notation "iV" => (Memref.whole Cert.KernelIdeal.main_v24_scv : Memref Cert.KernelIdeal.sig Kind.scVector Space.hbm Cert.KernelIdeal.S16384 EltTy.i32)
local notation "oV" => (Memref.whole Cert.KernelIdeal.main_v26_scv : Memref Cert.KernelIdeal.sig Kind.scVector Space.hbm Cert.KernelIdeal.S16384x128 EltTy.f32)
local notation "sV" => (Memref.whole Cert.KernelIdeal.cc1_scratch0 : Memref Cert.KernelIdeal.sig Kind.scVector Space.vmem Cert.KernelIdeal.S128 EltTy.i32)
local notation "rV" => (Memref.whole Cert.KernelIdeal.cc1_scratch1 : Memref Cert.KernelIdeal.sig Kind.scVector Space.vmem Cert.KernelIdeal.S128x128 EltTy.f32)

/-- Block `j` of tile `(c, s)`: the tile's number is `2 s + c`, and it has four blocks. -/
def blk (p : Fin 2 × Fin 16 × Fin 4) : Fin 128 := ⟨8 * p.2.1.val + 4 * p.1.val + p.2.2.val, by omega⟩

theorem blk_inj : Function.Injective blk := by
  rintro ⟨c, s, j⟩ ⟨c', s', j'⟩ h
  have := congrArg Fin.val h
  simp only [blk] at this
  refine Prod.ext (Fin.ext ?_) (Prod.ext (Fin.ext ?_) (Fin.ext ?_)) <;> dsimp only <;> omega

theorem blk_surj : Function.Surjective blk := fun k =>
  ⟨(⟨k.val / 4 % 2, by omega⟩, ⟨k.val / 8, by omega⟩, ⟨k.val % 4, by omega⟩), Fin.ext (by simp only [blk]; omega)⟩

theorem odiv : 128 ∣ S16384x128.size 0 := ⟨128, rfl⟩
abbrev oRect (k : Fin 128) : Rect S16384x128 := Rect.part (s := S16384x128) (a₀ := 0) odiv k
abbrev oSet (p : Fin 2 × Fin 16 × Fin 4) : Finset S16384x128.Idx := ((oV).view.slice (oRect (blk p))).set

theorem oSet_eq (p : Fin 2 × Fin 16 × Fin 4) : oSet p = (oRect (blk p)).set := by
  show ((View.whole (main_v26_scv : Ref sig .scVector)).slice (oRect (blk p))).set = _
  rw [View.set_slice]; exact Finset.map_refl

theorem oSet_disjoint : ∀ p ∈ (Finset.univ : Finset (Fin 2 × Fin 16 × Fin 4)), ∀ p' ∈ (Finset.univ : Finset (Fin 2 × Fin 16 × Fin 4)),
    p ≠ p' → Disjoint (oSet p) (oSet p') := fun p _ p' _ h => by
  rw [oSet_eq, oSet_eq]; exact Rect.part_disjoint odiv fun e => h (blk_inj e)

theorem oSet_cover : (Finset.univ : Finset (Fin 2 × Fin 16 × Fin 4)).biUnion oSet = Finset.univ := by
  refine Finset.eq_univ_iff_forall.mpr fun x => ?_
  have hx : x ∈ (Finset.univ : Finset (Fin 128)).biUnion fun k => (oRect k).set := by rw [Rect.biUnion_part odiv]; exact Finset.mem_univ x
  obtain ⟨k, -, hk⟩ := Finset.mem_biUnion.mp hx
  obtain ⟨p, rfl⟩ := blk_surj k
  exact Finset.mem_biUnion.mpr ⟨p, Finset.mem_univ p, (oSet_eq p).symm ▸ hk⟩

/-! ## Shares of the two arrays that are only read -/

abbrev cq (c : Fin 2) : PosShare TreeShare := Transfers.dealOf fullShare (Finset.univ : Finset (Fin 2)) c
abbrev tq (c : Fin 2) (s : Fin 16) : PosShare TreeShare := Transfers.dealOf (cq c) (Finset.univ : Finset (Fin 16)) s

theorem pts_cores {ℓ : Loc nD τ sig} (f : Buf (Elt F) ℓ) : (ℓ ↦{fullShare} f : sProp 𝕄) = bigSep Finset.univ fun c : Fin 2 => ℓ ↦{cq c} f :=
  Transfers.pointsTo_deal _ ⟨0, Finset.mem_univ _⟩ fullShare
theorem pts_tiles {ℓ : Loc nD τ sig} (c : Fin 2) (f : Buf (Elt F) ℓ) : (ℓ ↦{cq c} f : sProp 𝕄) = bigSep Finset.univ fun s : Fin 16 => ℓ ↦{tq c s} f :=
  Transfers.pointsTo_deal _ ⟨0, Finset.mem_univ _⟩ (cq c)

/-! ## The result's contents -/

/-- The row of the table that a word names. -/
def rowOf (v : BitVec 32) : Fin 8192 := ⟨min v.toNat 8191, by omega⟩

/-- The table's row at the word of each row of the result. -/
def rowsAt {α : Type} (t : S8192x128.Idx → α) (ix : S16384.Idx → BitVec 32) : S16384x128.Idx → α :=
  fun x => t (Fin.cons (rowOf (ix (Fin.cons (x 0) (fun a => a.elim0)))) (Fin.cons (x 1) (fun a => a.elim0)))

variable (FT : (d : Dev nD) → Buf (Elt F) (tLoc d)) (FI : (d : Dev nD) → Buf (Elt F) (iLoc d)) (FO : (d : Dev nD) → Buf (Elt F) (oLoc d))

/-- What the result array ends at. -/
abbrev GO (d : Dev nD) : Buf (Elt F) (oLoc d) := rowsAt (FT d) (FI d)

/-- An index of a list of 128 words. -/
abbrev one (k : Fin 128) : S128.Idx := Fin.cons k (fun a => a.elim0)

/-! ## What the handshakes carry -/

abbrev oPt (d : Dev nD) (p : Fin 2 × Fin 16 × Fin 4) (f : Buf (Elt F) (oLoc d)) : sProp 𝕄 := oLoc d ↦[oSet p]{fullShare} f
abbrev oTile (d : Dev nD) (c : Fin 2) (s : Fin 16) (f : Buf (Elt F) (oLoc d)) : sProp 𝕄 := bigSep Finset.univ fun j : Fin 4 => oPt d (c, s, j) f

abbrev tileAt (d : Dev nD) (c : Fin 2) (s : Fin 16) (f : Buf (Elt F) (oLoc d)) : sProp 𝕄 :=
  iprop((iLoc d ↦{tq c s} FI d) ∗ (tLoc d ↦{tq c s} FT d) ∗ oTile d c s f)
abbrev coreAt (d : Dev nD) (c : Fin 2) (f : Buf (Elt F) (oLoc d)) : sProp 𝕄 :=
  iprop((iLoc d ↦{cq c} FI d) ∗ (tLoc d ↦{cq c} FT d) ∗ bigSep Finset.univ fun s : Fin 16 => oTile d c s f)

/-- Each SparseCore takes its share of the table and of the indices and its tiles' blocks of the result; each tile its
    share and its four blocks; both bring them back with the blocks at the gathered rows. -/
def P : (K (F := F)).Pay (nD := nD) (Val := Elt F) (Name := ℕ) (U := UU) where
  st := fun q d c => match q with | 0 => coreAt FT FI d (Fin.cast nCore_zero c) (FO d)
  dn := fun q d c => match q with | 0 => coreAt FT FI d (Fin.cast nCore_zero c) (GO FT FI d)
  go := fun q d c i => match q with | 0 => tileAt FT FI d (Fin.cast nCore_zero c) (Fin.cast nSub_zero i) (FO d)
  td := fun q d c i => match q with | 0 => tileAt FT FI d (Fin.cast nCore_zero c) (Fin.cast nSub_zero i) (GO FT FI d)
  x := fun _ _ => iprop(emp)

instance P_storable : (P (F := F) FT FI FO).IsStorable where
  st q d c := match q with
    | 0 => (inferInstance : BI.Storable (upEmb : UEmb _ 𝕄) (coreAt FT FI d (Fin.cast nCore_zero c) (FO d)))
  dn q d c := match q with
    | 0 => (inferInstance : BI.Storable (upEmb : UEmb _ 𝕄) (coreAt FT FI d (Fin.cast nCore_zero c) (GO FT FI d)))
  go q d c i := match q with
    | 0 => (inferInstance : BI.Storable (upEmb : UEmb _ 𝕄) (tileAt FT FI d (Fin.cast nCore_zero c) (Fin.cast nSub_zero i) (FO d)))
  td q d c i := match q with
    | 0 => (inferInstance : BI.Storable (upEmb : UEmb _ 𝕄) (tileAt FT FI d (Fin.cast nCore_zero c) (Fin.cast nSub_zero i) (GO FT FI d)))

/-- Every index names a row of the table. -/
def InRange : Prop := ∀ (d : Dev nD) (j : S16384.Idx), (FI d j).toNat < 8192

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The task -/

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

/-- List `j` of the tile's row numbers, and its block `j` of the result, as the task addresses them. -/
abbrev iRectK (L : grid1.Coords) (j : Fin 4) : Rect S16384 := Rect.unit (s := S16384) (k1_off1 L (BitVec.ofNat 32 (128 * j.val))) S128.size (k1_off1_inb L j)
abbrev oRectK (L : grid1.Coords) (j : Fin 4) : Rect S16384x128 := Rect.unit (s := S16384x128) (k1_off2 L (BitVec.ofNat 32 (128 * j.val))) S128x128.size (k1_off2_inb L j)
abbrev iChK (L : grid1.Coords) (j : Fin 4) : Memref sig .scVector .hbm S128 .i32 := (iV).slice (iRectK L j) (fun _ => rfl)
abbrev oChK (L : grid1.Coords) (j : Fin 4) : Memref sig .scVector .hbm S128x128 .f32 := (oV).slice (oRectK L j) (fun _ => rfl)
abbrev tAllK : Memref sig .scVector .hbm S8192x128 .f32 := (tV).slice (Rect.unit (s := S8192x128) ![0, 0] S8192x128.size inb_S8192x128_S8192x128_0_0) (fun _ => rfl)

theorem oRectK_eq (j : Fin 4) : oRectK L j = oRect (blk (cL L, jL L, j)) := by
  unfold oRectK oRect Rect.part Rect.block
  congr 1 <;> funext a
  · rw [k1_off2_eq]
    match a with
    | 0 => simp [Shape.partIx, Shape.partSize, blk]; omega
    | 1 => simp [Shape.partIx, Shape.partSize]
  · match a with
    | 0 => simp [Shape.partSize]
    | 1 => simp [Shape.partSize]

theorem set_oChK (j : Fin 4) : (oChK L j).view.set = oSet (cL L, jL L, j) := by
  show ((oV).view.slice (oRectK L j)).set = ((oV).view.slice (oRect (blk (cL L, jL L, j)))).set
  rw [oRectK_eq L j]

theorem pts_oChK (j : Fin 4) (f : Buf (Elt F) (oLoc d)) :
    ((oChK L j).view.loc (V d (cV L) (jV L)) ↦[(oChK L j).view.set]{fullShare} f : sProp 𝕄) = oPt d (cL L, jL L, j) f := by
  rw [set_oChK]

/-- The scoped DMA semaphores of the task, the gather's first. -/
def semNo (n : Fin 9) : Fin 26 := ⟨10 + n.val, by omega⟩
abbrev tCell (d : Dev nD) (c : Fin τ.nSC) (i : Fin τ.nSub) (n : Fin 9) : GSem nD τ sig := (V d c i, .dma (semNo n))

theorem tCell_inj (c : Fin τ.nSC) (i : Fin τ.nSub) : Function.Injective (tCell d c i) := fun n n' h => by
  have := congrArg Prod.snd h
  have := congrArg Fin.val (SemLoc.dma.inj this)
  exact Fin.ext (by simp only [semNo] at this; omega)

/-- The nine semaphores are among the subcore's own: they are them, at zero, and the rest. -/
theorem ownSems0_V :
    (ownSems0 (V d (cV L) (jV L)) : sProp 𝕄)
      = iprop((semVal (tCell d (cV L) (jV L) 0) 0 ∗ semVal (tCell d (cV L) (jV L) 1) 0 ∗ semVal (tCell d (cV L) (jV L) 2) 0
          ∗ semVal (tCell d (cV L) (jV L) 3) 0 ∗ semVal (tCell d (cV L) (jV L) 4) 0 ∗ semVal (tCell d (cV L) (jV L) 5) 0
          ∗ semVal (tCell d (cV L) (jV L) 6) 0 ∗ semVal (tCell d (cV L) (jV L) 7) 0 ∗ semVal (tCell d (cV L) (jV L) 8) 0)
        ∗ bigSep (ownCells (V d (cV L) (jV L)) \ Finset.univ.image (tCell d (cV L) (jV L))) fun g => semVal g 0) := by
  unfold SparseCore.Cfg.ownSems0
  have hsub : Finset.univ.image (tCell d (cV L) (jV L)) ⊆ ownCells (V d (cV L) (jV L)) := fun g hg => by
    obtain ⟨n, -, rfl⟩ := Finset.mem_image.mp hg
    exact mem_ownCells.mpr ⟨rfl, (show ∀ n : Fin 9, (SemLoc.dma (semNo n) : SemLoc sig).isScoped .scVector = true by decide) n⟩
  rw [SparseCore.bigSep_sdiff_split' hsub, SparseCore.bigSep_image_of_injOn ((tCell_inj d (cV L) (jV L)).injOn),
    bigSep_univ_eq_bigSepL [0, 1, 2, 3, 4, 5, 6, 7, 8] (by decide) (by decide)]
  rfl

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The words that the index fetch lands are in range. -/
theorem list_inb (fi : Buf (Elt F) (iLoc d)) (hin : ∀ j, (fi j).toNat < 8192) (g : Buf (Elt F) ((V d (cV L) (jV L)).loc cc1_scratch0)) (off : Fin 1 → Nat)
    (h : ∀ a, off a + S128.size a ≤ S16384.size a) (x : S128.Idx) :
    ((sV).view.read (Elt F) (View.write (Elt F) (sV).view g (((iV).slice (Rect.unit (s := S16384) off S128.size h) (fun _ => rfl)).view.read (Elt F) fi) Finset.univ) x).toNat
      < S8192x128.size gathers_S8192x128_S128x128.axis := by
  rw [View.write_whole_univ]
  simp only [Memref.view_whole, View.read_whole]
  rw [show ∀ j, ((iV).slice (Rect.unit (s := S16384) off S128.size h) (fun _ => rfl)).view.read (Elt F) fi j
      = fi (((iV).slice (Rect.unit (s := S16384) off S128.size h) (fun _ => rfl)).view.emb j) from fun j => (View.read_apply _ _).trans (cast_eq _ _)]
  exact hin _

/-- A row gathered through the fetched list is the row of the result that it lands on. -/
theorem gathered_eq (j : Fin 4) (hin : InRange FI) (lc : S128.Idx → BitVec 32) (hl : ∀ x, lc x = FI d ((iRectK L j).emb x))
    (hn : S128.numel = S128x128.size gathers_S8192x128_S128x128.axis') (h : ∀ x, (lc x).toNat < S8192x128.size gathers_S8192x128_S128x128.axis)
    (y : S128x128.Idx) :
    SparseCore.gatherPayload (F := F) (e := .f32) gathers_S8192x128_S128x128 ((tAllK).view.read (Elt F) (FT d)) (SparseCore.rows (F := F) lc hn h) y
      = GO FT FI d ((oRectK L j).emb y) := by
  have hix : ∀ k : Fin 128, S128.rowMajor.symm (Fin.cast hn.symm k) = one k := fun k => by
    rw [Equiv.symm_apply_eq]
    exact Fin.ext (Shape.rowMajor_val_one (one k)).symm
  unfold SparseCore.gatherPayload GO rowsAt
  rw [show ∀ x, (tAllK).view.read (Elt F) (FT d) x = FT d ((tAllK).view.emb x) from fun x => (View.read_apply _ _).trans (cast_eq _ _)]
  have hy1 : (k1_off2 L (BitVec.ofNat 32 (128 * j.val))) 1 = 0 := by rw [k1_off2_eq]; rfl
  have hy0 : (k1_off2 L (BitVec.ofNat 32 (128 * j.val))) 0 = (k1_off1 L (BitVec.ofNat 32 (128 * j.val))) 0 := by rw [k1_off2_eq, k1_off1_eq]; rfl
  refine congrArg (FT d) (funext fun a => Fin.ext ?_)
  match a with
  | 0 =>
    show 0 + 1 * (gathers_S8192x128_S128x128.idx (SparseCore.rows (F := F) lc hn h) y 0).val = min (FI d _).toNat 8191
    have e := congrArg Fin.val (Shape.Gathers.idx_axis gathers_S8192x128_S128x128 (SparseCore.rows (F := F) lc hn h) y)
    have e' : (gathers_S8192x128_S128x128.idx (SparseCore.rows (F := F) lc hn h) y 0).val = (lc (one (y 0))).toNat := by
      refine e.trans ?_
      exact congrArg (fun z => (lc z).toNat) (hix (y 0))
    rw [e', hl]
    have e2 : (iRectK L j).emb (one (y 0)) = (Fin.cons ((oRectK L j).emb y 0) (fun a => a.elim0) : S16384.Idx) := by
      funext a
      match a with
      | 0 =>
        refine Fin.ext ?_
        show (k1_off1 L _) 0 + 1 * (y 0).val = (k1_off2 L _) 0 + 1 * (y 0).val
        rw [hy0]
    rw [e2]
    have := hin d (Fin.cons ((oRectK L j).emb y 0) (fun a => a.elim0) : S16384.Idx)
    omega
  | 1 =>
    show 0 + 1 * (gathers_S8192x128_S128x128.idx (SparseCore.rows (F := F) lc hn h) y 1).val = (k1_off2 L (BitVec.ofNat 32 (128 * j.val))) 1 + 1 * (y 1).val
    rw [hy1]
    have e := Shape.Gathers.idx_of_ne gathers_S8192x128_S128x128 (SparseCore.rows (F := F) lc hn h) y 1 (by decide)
    exact congrArg (fun n => 0 + 1 * n) e

/-- A block written with rows that are the result's is the block at the result. -/
theorem pts_landed (j : Fin 4) (w : S128x128.Idx → Elt F .f32) (hw : ∀ y, w y = GO FT FI d ((oRectK L j).emb y)) :
    ((oChK L j).view.loc (V d (cV L) (jV L)) ↦[(oChK L j).view.set]{fullShare}
        (oChK L j).view.writes (Elt F) (FO d) [⟨Rect.whole S128x128, w⟩] : sProp 𝕄) = oPt d (cL L, jL L, j) (GO FT FI d) := by
  rw [← pts_oChK (F := F) d L j]
  refine pointsTo_congr fun i hi => ?_
  obtain ⟨y, -, rfl⟩ := Finset.mem_map.mp hi
  have e := View.write_univ_eq_writes_whole (oChK L j).view (FO d) [] w
  rw [View.writes_nil] at e
  rw [← e, View.write_emb_of_mem _ _ (Finset.mem_univ _), cast_eq]
  exact hw y

/-- What the row buffer reads after the last of its whole writes. -/
theorem read_last (g : Buf (Elt F) ((V d (cV L) (jV L)).loc cc1_scratch1)) (w : S128x128.Idx → Elt F .f32)
    (Ls : List (View.Piece (Elt F) S128x128 .f32)) :
    (rV).view.read (Elt F) ((rV).view.writes (Elt F) g (⟨Rect.whole S128x128, w⟩ :: Ls)) = w := by
  have e := View.write_univ_eq_writes_whole (rV).view g Ls w
  exact (congrArg ((rV).view.read (Elt F)) e.symm).trans (View.read_write_univ _ _)

/-- What the list's buffer reads after a fetch: the words fetched. -/
theorem read_list (g : Buf (Elt F) ((V d (cV L) (jV L)).loc cc1_scratch0)) (w : S128.Idx → Elt F .i32) :
    (sV).view.read (Elt F) (View.write (Elt F) (sV).view g w Finset.univ) = w := View.read_write_univ _ _

set_option maxHeartbeats 4000000 in
theorem tile_body (hF : (K (F := F)).Facts) (hin : InRange FI) (O : CellTallies nD τ sig (HIx 1)) (W : Waits sig (HIx 1)) (hO : ∀ g, O g none = 0) :
    iprop(levAts (K (F := F)).L (K (F := F)).lev ∗ emp
        ∗ tileAt FT FI d (cL L) (jL L) (FO d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L tV (Memref.isWhole_whole _) iV (Memref.isWhole_whole _) oV (Memref.isWhole_whole _)
            sV (Memref.isWhole_whole _) rV (Memref.isWhole_whole _) cc1_scratch2 cc1_scoped0 cc1_scoped1 cc1_scoped2 cc1_scoped3
            cc1_scoped4 cc1_scoped5 cc1_scoped6 cc1_scoped7)
          fun _ => iprop(tileAt FT FI d (cL L) (jL L) (GO FT FI d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  simp only [k1_part1_eq_skeleton]; unfold k1_part1_skel
  rw [(K (F := F)).scopedBufs_V hF d (cV L) (jV L), SparseCore.Cfg.scopedSems0_V (Val := Elt F) d (cV L) (jV L), ownSems0_V, ownBufs_V]
  unfold tileAt oTile
  simp only [bigSep_four]
  iintro ⟨#Hlv, -, ⟨Hi, Ht, Ho0, Ho1, Ho2, Ho3⟩, ⟨⟨%fs, Hs⟩, ⟨%fr, Hr⟩, Hbufs⟩, ⟨⟨H0, H1, H2, H3, H4, H5, H6, H7, H8⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho0' := (Entails.of_eq (pts_oChK (F := F) d L 0 _).symm) $$ Ho0
  ihave Ho1' := (Entails.of_eq (pts_oChK (F := F) d L 1 _).symm) $$ Ho1
  ihave Ho2' := (Entails.of_eq (pts_oChK (F := F) d L 2 _).symm) $$ Ho2
  ihave Ho3' := (Entails.of_eq (pts_oChK (F := F) d L 3 _).symm) $$ Ho3
  ihave Hi' := (Entails.of_eq (show ((iV).view.loc (V d (cV L) (jV L)) ↦{tq (cL L) (jL L)} FI d : sProp 𝕄) = iLoc d ↦{tq (cL L) (jL L)} FI d from rfl).symm) $$ Hi
  ihave Ht' := (Entails.of_eq (show ((tV).view.loc (V d (cV L) (jV L)) ↦{tq (cL L) (jL L)} FT d : sProp 𝕄) = tLoc d ↦{tq (cL L) (jL L)} FT d from rfl).symm) $$ Ht
  ihave Hs' := (Entails.of_eq (show ((sV).view.loc (V d (cV L) (jV L)) ↦{fullShare} fs : sProp 𝕄) = _ from rfl)) $$ Hs
  ihave Hr' := (Entails.of_eq (show ((rV).view.loc (V d (cV L) (jV L)) ↦{fullShare} fr : sProp 𝕄) = _ from rfl)) $$ Hr
  have hlist := fun g off h x => list_inb (F := F) d L (FI d) (hin d) g off h x
  sl_exec
  ihave Ho0 := (Entails.of_eq (pts_landed (F := F) FT FI FO d L 0 (tile_body.sl.dma0_1 FT FI d L fs fr hlist) fun y =>
    (congrFun (read_last (F := F) d L fr _ _) y).trans (gathered_eq FT FI d L 0 hin _ (fun x => congrFun (read_list (F := F) d L _ _) x) _ _ y))) $$ Ho0'
  ihave Ho1 := (Entails.of_eq (pts_landed (F := F) FT FI FO d L 1 (tile_body.sl.dma0_3 FT FI d L fs fr hlist) fun y =>
    (congrFun (read_last (F := F) d L fr _ _) y).trans (gathered_eq FT FI d L 1 hin _ (fun x => congrFun (read_list (F := F) d L _ _) x) _ _ y))) $$ Ho1'
  ihave Ho2 := (Entails.of_eq (pts_landed (F := F) FT FI FO d L 2 (tile_body.sl.dma0_5 FT FI d L fs fr hlist) fun y =>
    (congrFun (read_last (F := F) d L fr _ _) y).trans (gathered_eq FT FI d L 2 hin _ (fun x => congrFun (read_list (F := F) d L _ _) x) _ _ y))) $$ Ho2'
  ihave Ho3 := (Entails.of_eq (pts_landed (F := F) FT FI FO d L 3 (tile_body.sl.dma0_7 FT FI d L fs fr hlist) fun y =>
    (congrFun (read_last (F := F) d L fr _ _) y).trans (gathered_eq FT FI d L 3 hin _ (fun x => congrFun (read_list (F := F) d L _ _) x) _ _ y))) $$ Ho3'
  rw [wp_ret]; imodintro
  isplitl [Hi' Ht' Ho0 Ho1 Ho2 Ho3]
  · isplitl [Hi']; · iexact Hi'
    isplitl [Ht']; · iexact Ht'
    isplitl [Ho0]; · iexact Ho0
    isplitl [Ho1]; · iexact Ho1
    isplitl [Ho2]; · iexact Ho2
    iexact Ho3
  isplitl [Hs' Hr' Hbufs]
  · isplitl [Hs']; · iexists _; iexact Hs'
    isplitl [Hr']; · iexists _; iexact Hr'
    iexact Hbufs
  isplitl [H0 H1 H2 H3 H4 H5 H6 H7 H8 Hsems]
  · isplitr [Hsems]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact Hsems
  iexists _; isplitr
  swap; · iexact HO
  ipureintro; intro p hp
  simp only [Finset.mem_insert] at hp
  rcases hp with hp | hp | hp | hp | hp | hp | hp | hp | hp | hp | hp | hp | hp
  all_goals first | exact .inl hp | exact .inr (hp ▸ rfl)

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _)
          sV (Memref.isWhole_whole _) rV (Memref.isWhole_whole _) cc1_scratch2 cc1_scoped0 cc1_scoped1 cc1_scoped2 cc1_scoped3
          cc1_scoped4 cc1_scoped5 cc1_scoped6 cc1_scoped7) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : InRange FI) : (K (F := F)).TileObl (D (F := F)) 𝒱 (P FT FI FO) v₀ 0 := by
  intro d c i O W hO _ _
  simp only [show (P FT FI FO).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body FT FI FO d (coordsV ⟨_, hci.1⟩ ⟨_, hci.2⟩) hF hin O W hO).trans (wp_mono frame _ _ fun _ => obl_post)

end Tile

/-! ## A core's part split among its tiles, and the arrays split between the cores -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem core_tiles (d : Dev nD) (c : Fin 2) (f : Buf (Elt F) (oLoc d)) :
    (bigSep Finset.univ fun s : Fin 16 => tileAt FT FI d c s f) = coreAt FT FI d c f := by
  unfold tileAt coreAt
  rw [bigSep_sep', bigSep_sep', pts_tiles, pts_tiles]

theorem oPts_blocks (d : Dev nD) (f : Buf (Elt F) (oLoc d)) :
    (oLoc d ↦{fullShare} f : sProp 𝕄) = bigSep Finset.univ fun c : Fin 2 => bigSep Finset.univ fun s : Fin 16 => oTile d c s f := by
  unfold oTile oPt
  rw [show (oLoc d ↦{fullShare} f : sProp 𝕄) = oLoc d ↦[Finset.univ.biUnion oSet]{fullShare} f by rw [oSet_cover],
    pointsTo_biUnion Finset.univ (ℓ := oLoc d) oSet oSet_disjoint, BI.bigSep_univ_prod]
  exact bigSep_congr fun c _ => BI.bigSep_univ_prod _

abbrev allAt (d : Dev nD) (f : Buf (Elt F) (oLoc d)) : sProp 𝕄 :=
  iprop((iLoc d ↦{fullShare} FI d) ∗ (tLoc d ↦{fullShare} FT d) ∗ oLoc d ↦{fullShare} f)

theorem all_cores (d : Dev nD) (f : Buf (Elt F) (oLoc d)) :
    (bigSep Finset.univ fun c : Fin 2 => coreAt FT FI d c f) = allAt FT FI d f := by
  unfold coreAt allAt
  rw [bigSep_sep', bigSep_sep', oPts_blocks, pts_cores, pts_cores]

theorem vecSplit : (K (F := F)).VecSplit' (P FT FI FO) 0 := by
  intro d c
  show coreAt FT FI d (Fin.cast nCore_zero c) (FO d) ⊢ |={Set.univ}=> iprop(
      (bigSep Finset.univ fun i : Fin ((K (F := F)).nSub 0) => tileAt FT FI d (Fin.cast nCore_zero c) (Fin.cast nSub_zero i) (FO d))
      ∗ ((bigSep Finset.univ fun i : Fin ((K (F := F)).nSub 0) => tileAt FT FI d (Fin.cast nCore_zero c) (Fin.cast nSub_zero i) (GO FT FI d))
          -∗ coreAt FT FI d (Fin.cast nCore_zero c) (GO FT FI d)))
  rw [bigSep_tasks (F := F) (fun i => tileAt FT FI d (Fin.cast nCore_zero c) i (FO d)),
    bigSep_tasks (F := F) (fun i => tileAt FT FI d (Fin.cast nCore_zero c) i (GO FT FI d)), core_tiles, core_tiles]
  iintro H; imodintro
  isplitl [H]; · iexact H
  iintro H; iexact H

theorem st0_eq (d : Dev nD) : (bigSep Finset.univ fun c : Fin ((K (F := F)).nCore 0) => (P FT FI FO).st 0 d c) = allAt FT FI d (FO d) :=
  (bigSep_cores (F := F) (fun c => coreAt FT FI d c (FO d))).trans (all_cores FT FI d _)
theorem dn0_eq (d : Dev nD) : (bigSep Finset.univ fun c : Fin ((K (F := F)).nCore 0) => (P FT FI FO).dn 0 d c) = allAt FT FI d (GO FT FI d) :=
  (bigSep_cores (F := F) (fun c => coreAt FT FI d c (GO FT FI d))).trans (all_cores FT FI d _)

end Cert.Proof.Whole
-- ==== Proof.Host.lean ====
/-
  The kernel's host code as four stretches of operations, and the three calls between them.
-/
module

public import proofs.«01_k».proof.Proof.Regs
public import proofs.«01_k».proof.Proof.Sc

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

/-- The operations before the argmin call. -/
abbrev opsA : List (HloOp τ sig (Elt F)) :=
  [ TRef.binary (TRef.of (T := ⟨S16x1024x32, .f32⟩) main_arg0) (TRef.of (T := ⟨S16x1024x32, .f32⟩) main_arg0) (TRef.of (T := ⟨S16x1024x32, .f32⟩) main_call0_v0) mulf,
    TRef.nullary (TRef.of (T := ⟨S_, .f32⟩) main_call0_cst) (constant S_ .f32 0x00000000#32),
    TRef.binary (TRef.of (T := ⟨S16x1024x32, .f32⟩) main_call0_v0) (TRef.of (T := ⟨S_, .f32⟩) main_call0_cst) (TRef.of (T := ⟨S16x32, .f32⟩) main_call0_v1) (fun x v => Host.reduceAdd x v reducesTo_S16x1024x32_S16x32_d1 h_S_),
    TRef.unary (TRef.of (T := ⟨S16x32, .f32⟩) main_call0_v1) (TRef.of (T := ⟨S16x1x32, .f32⟩) main_call0_v2) (broadcastInDim S16x1x32 ![0, 2] bcast_S16x32_S16x1x32_0_2),
    TRef.unary (TRef.of (T := ⟨S16x1x32, .f32⟩) main_call0_v2) (TRef.of (T := ⟨S16x1x32, .f32⟩) main_v0) Host.sqrt,
    nullary main_cst (constant S_ .f32 0x2B8CBCCC#32),
    unary main_cst main_v1 (broadcastInDim S16x1x32 ![] bcast_S_S16x1x32 : (⟨S_, .f32⟩ : BufTy).Contents (Elt F) → (⟨S16x1x32, .f32⟩ : BufTy).Contents (Elt F)),
    binary main_v0 main_v1 main_v2 (maximumf : (⟨S16x1x32, .f32⟩ : BufTy).Contents (Elt F) → (⟨S16x1x32, .f32⟩ : BufTy).Contents (Elt F) → (⟨S16x1x32, .f32⟩ : BufTy).Contents (Elt F)),
    unary main_v2 main_v3 (broadcastInDim S16x1024x32 ![0, 1, 2] bcast_S16x1x32_S16x1024x32_0_1_2 : (⟨S16x1x32, .f32⟩ : BufTy).Contents (Elt F) → (⟨S16x1024x32, .f32⟩ : BufTy).Contents (Elt F)),
    binary main_arg0 main_v3 main_v4 (Host.divf : (⟨S16x1024x32, .f32⟩ : BufTy).Contents (Elt F) → (⟨S16x1024x32, .f32⟩ : BufTy).Contents (Elt F) → (⟨S16x1024x32, .f32⟩ : BufTy).Contents (Elt F)),
    TRef.binary (TRef.of (T := ⟨S8192x32, .f32⟩) main_arg1) (TRef.of (T := ⟨S8192x32, .f32⟩) main_arg1) (TRef.of (T := ⟨S8192x32, .f32⟩) main_call1_v0) mulf,
    TRef.nullary (TRef.of (T := ⟨S_, .f32⟩) main_call1_cst) (constant S_ .f32 0x00000000#32),
    TRef.binary (TRef.of (T := ⟨S8192x32, .f32⟩) main_call1_v0) (TRef.of (T := ⟨S_, .f32⟩) main_call1_cst) (TRef.of (T := ⟨S8192, .f32⟩) main_call1_v1) (fun x v => Host.reduceAdd x v reducesTo_S8192x32_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v5) Host.sqrt,
    nullary main_cst_0 (constant S_ .f32 0x2B8CBCCC#32),
    unary main_cst_0 main_v6 (broadcastInDim S8192x1 ![] bcast_S_S8192x1 : (⟨S_, .f32⟩ : BufTy).Contents (Elt F) → (⟨S8192x1, .f32⟩ : BufTy).Contents (Elt F)),
    binary main_v5 main_v6 main_v7 (maximumf : (⟨S8192x1, .f32⟩ : BufTy).Contents (Elt F) → (⟨S8192x1, .f32⟩ : BufTy).Contents (Elt F) → (⟨S8192x1, .f32⟩ : BufTy).Contents (Elt F)),
    unary main_v7 main_v8 (broadcastInDim S8192x32 ![0, 1] bcast_S8192x1_S8192x32_0_1 : (⟨S8192x1, .f32⟩ : BufTy).Contents (Elt F) → (⟨S8192x32, .f32⟩ : BufTy).Contents (Elt F)),
    binary main_arg1 main_v8 main_v9 (Host.divf : (⟨S8192x32, .f32⟩ : BufTy).Contents (Elt F) → (⟨S8192x32, .f32⟩ : BufTy).Contents (Elt F) → (⟨S8192x32, .f32⟩ : BufTy).Contents (Elt F)),
    reshape main_v4 main_v10 (rfl : (.f32 : EltTy) = .f32) shapeCasts_S16x1024x32_S16384x32,
    binary main_v10 main_v10 main_v11 (mulf : (⟨S16384x32, .f32⟩ : BufTy).Contents (Elt F) → (⟨S16384x32, .f32⟩ : BufTy).Contents (Elt F) → (⟨S16384x32, .f32⟩ : BufTy).Contents (Elt F)),
    nullary main_cst_1 (constant S_ .f32 0x00000000#32),
    binary main_v11 main_cst_1 main_v12 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v12 main_v13 (broadcastInDim S16384x1 ![0] bcast_S16384_S16384x1_0 : (⟨S16384, .f32⟩ : BufTy).Contents (Elt F) → (⟨S16384x1, .f32⟩ : BufTy).Contents (Elt F)),
    reshape main_v13 main_v14 (rfl : (.f32 : EltTy) = .f32) shapeCasts_S16384x1_S16x1024,
    unary main_v14 main_v15 (broadcastInDim S16x1x1024 ![0, 2] bcast_S16x1024_S16x1x1024_0_2 : (⟨S16x1024, .f32⟩ : BufTy).Contents (Elt F) → (⟨S16x1x1024, .f32⟩ : BufTy).Contents (Elt F)),
    binary main_arg1 main_arg1 main_v16 (mulf : (⟨S8192x32, .f32⟩ : BufTy).Contents (Elt F) → (⟨S8192x32, .f32⟩ : BufTy).Contents (Elt F) → (⟨S8192x32, .f32⟩ : BufTy).Contents (Elt F)),
    nullary main_cst_2 (constant S_ .f32 0x00000000#32),
    binary main_v16 main_cst_2 main_v17 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    reshape main_v17 main_v18 (rfl : (.f32 : EltTy) = .f32) shapeCasts_S8192_S8192x1,
    nullary main_cst_3 (constant S_ .f32 0x40000000#32),
    unary main_cst_3 main_v19 (broadcastInDim S16x1024x32 ![] bcast_S_S16x1024x32 : (⟨S_, .f32⟩ : BufTy).Contents (Elt F) → (⟨S16x1024x32, .f32⟩ : BufTy).Contents (Elt F)),
    binary main_v4 main_v19 main_v20 (mulf : (⟨S16x1024x32, .f32⟩ : BufTy).Contents (Elt F) → (⟨S16x1024x32, .f32⟩ : BufTy).Contents (Elt F) → (⟨S16x1024x32, .f32⟩ : BufTy).Contents (Elt F)),
    unary main_v20 main_v21 ((truncf .bf16 · bitsLt_bf16_f32) : (⟨S16x1024x32, .f32⟩ : BufTy).Contents (Elt F) → (⟨S16x1024x32, .bf16⟩ : BufTy).Contents (Elt F)),
    unary main_v9 main_v22 ((truncf .bf16 · bitsLt_bf16_f32) : (⟨S8192x32, .f32⟩ : BufTy).Contents (Elt F) → (⟨S8192x32, .bf16⟩ : BufTy).Contents (Elt F)) ]

theorem opsA_sub : (opsA : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., binary_bufs_sub .., nullary_bufs_sub .., binary_bufs_sub .., unary_bufs_sub .., reshape_bufs_sub .., unary_bufs_sub .., binary_bufs_sub .., nullary_bufs_sub .., binary_bufs_sub .., reshape_bufs_sub .., nullary_bufs_sub .., unary_bufs_sub .., binary_bufs_sub .., unary_bufs_sub .., unary_bufs_sub ..⟩

theorem opsA_fresh : ∀ op ∈ (opsA : List (HloOp τ sig (Elt F))), op.fresh = ∅ := by
  intro op h; simp only [opsA, List.mem_cons, List.not_mem_nil, or_false] at h; rcases h with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> rfl

/-- Between the argmin call and the SparseCore call. -/
abbrev opsB : List (HloOp τ sig (Elt F)) :=
  [ reshape main_v23 main_v24 (rfl : (.i32 : EltTy) = .i32) shapeCasts_S16x1x1024_S16384,
    nullary main_c (constantI S_ 32 0#32),
    TRef.unary (TRef.of (T := ⟨S_, .i32⟩) main_c) (TRef.of (T := ⟨S_, .f32⟩) main_call2_v0) (sitofp .f32),
    TRef.binary (TRef.of (T := ⟨S8192x32, .f32⟩) main_arg1) (TRef.of (T := ⟨S_, .f32⟩) main_call2_v0) (TRef.of (T := ⟨S8192x128, .f32⟩) main_v25) (fun x v => pad S8192x128 ![0, 0] ![0, 96] ![0, 0] x v pads_S8192x32_S8192x128_000_0960 h_S_) ]

theorem opsB_sub : (opsB : List (HloOp τ sig (Elt F))).Forall fun op => op.bufs ⊆ tcRefs τ sig :=
  ⟨reshape_bufs_sub .., nullary_bufs_sub .., unary_bufs_sub .., binary_bufs_sub ..⟩

theorem opsB_fresh : ∀ op ∈ (opsB : List (HloOp τ sig (Elt F))), op.fresh = ∅ := by
  intro op h; simp only [opsB, List.mem_cons, List.not_mem_nil, or_false] at h; rcases h with rfl | rfl | rfl | rfl <;> rfl

/-- Between the SparseCore call and the finalize call. -/
abbrev opsC : List (HloOp τ sig (Elt F)) :=
  [ reshape main_v26 main_v27 (rfl : (.f32 : EltTy) = .f32) shapeCasts_S16384x128_S16x1024x128 ]

theorem opsC_sub : (opsC : List (HloOp τ sig (Elt F))).Forall fun op => op.bufs ⊆ tcRefs τ sig :=
  reshape_bufs_sub ..

theorem opsC_fresh : ∀ op ∈ (opsC : List (HloOp τ sig (Elt F))), op.fresh = ∅ := by
  intro op h; simp only [opsC, List.mem_cons, List.not_mem_nil, or_false] at h; rcases h with rfl <;> rfl

/-- After the finalize call. -/
abbrev opsD : List (HloOp τ sig (Elt F)) :=
  [ reshape main_v28_1 main_v29 (rfl : (.f32 : EltTy) = .f32) shapeCasts_S1x1_S_ ]

theorem opsD_sub : (opsD : List (HloOp τ sig (Elt F))).Forall fun op => op.bufs ⊆ tcRefs τ sig :=
  reshape_bufs_sub ..

theorem opsD_fresh : ∀ op ∈ (opsD : List (HloOp τ sig (Elt F))), op.fresh = ∅ := by
  intro op h; simp only [opsD, List.mem_cons, List.not_mem_nil, or_false] at h; rcases h with rfl <;> rfl

set_option maxRecDepth 8192 in
/-- The host code is the four stretches with the three calls between them. -/
theorem main_eq (d : Dev nD) : main (F := F) d =
    (seq opsA >>= fun _ => Prog.lift (.customCall (SparseCore.inner (Pipeline.entry 0)) ()) >>= fun _ => seq opsB >>= fun _ => sc.run d 0 >>= fun _ =>
      seq opsC >>= fun _ => Prog.lift (.customCall (SparseCore.inner (Pipeline.entry 1)) ()) >>= fun _ => seq opsD) := by
  rfl

end Cert.Proof.Whole
-- ==== Proof.Main.lean ====
/-
  The kernel's @main: the contents of every array between the host stretches and the three calls, and the run.
-/
module

public import proofs.«01_k».proof.Proof.Host

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

abbrev adm : (p : Fin 2) → (pcfgs (F := F) p).Adm := fun p => (cfgs p).toPCfg_adm

theorem phinj : Function.Injective (cellOf (nD := nD) (τ := τ) (Pipeline.pin (pcfgs (F := F)) adm)) := cellOf_inj

/-- What @main's thread owes before the SparseCore call (`n = 0`) and after it (`n = 1`). -/
def debt (n : ℕ) : Debt := ⟨fun d => (K (F := F)).Otc d n, fun d => {x | (K (F := F)).lev (T d, x.1) x.2 ≤ 8 * n}⟩

variable (m : (ℓ : Loc nD τ sig) → Buf (Elt F) ℓ) (ρ : Dev nD → PrngReg)

/-! ## The contents of the arrays, stage by stage -/

/-- A device's arrays at a valuation, by reference. -/
abbrev at' (W : Dev nD → Valuation τ sig (Elt F)) : (c : Dev nD) → (b : Ref sig .tc) → Buf (Elt F) ((c : Thread nD τ).loc b) := fun c b => W c b

def V0 : Dev nD → Valuation τ sig (Elt F) := fun d b => m (d, b)
def VA : Dev nD → Valuation τ sig (Elt F) := fun d => after opsA (V0 m d)
def VA' : Dev nD → Valuation τ sig (Elt F) := fun d => Function.update (VA m d) main_v23 (out0 (at' (VA m)) (debt (F := F) 0) d)
def VB : Dev nD → Valuation τ sig (Elt F) := fun d => after opsB (VA' m d)
abbrev FT : (d : Dev nD) → Buf (Elt F) (tLoc d) := fun d => VB m d main_v25
abbrev FI : (d : Dev nD) → Buf (Elt F) (iLoc d) := fun d => VB m d main_v24
abbrev FO : (d : Dev nD) → Buf (Elt F) (oLoc d) := fun d => VB m d main_v26
def VB' : Dev nD → Valuation τ sig (Elt F) := fun d => Function.update (VB m d) main_v26 (GO (FT m) (FI m) d)
def VC : Dev nD → Valuation τ sig (Elt F) := fun d => after opsC (VB' m d)
def VC' : Dev nD → Valuation τ sig (Elt F) := fun d =>
  Function.update (Function.update (VC m d) main_v28_0 (out2 (at' (VC m)) (debt (F := F) 1) d)) main_v28_1 (out3 (at' (VC m)) (debt (F := F) 1) d)
def VD : Dev nD → Valuation τ sig (Elt F) := fun d => after opsD (VC' m d)

theorem dev_ne {b b' : Ref sig .tc} (h : b ≠ b') : (b : DevRef τ sig) ≠ (b' : DevRef τ sig) := fun e => h (Proc.devRef_injective _ e)

/-! ## The calls -/

/-- A TensorCore call's region, from @main. -/
theorem region_wp [∀ e, Nonempty (Elt F e)] {p : Fin 2} {pdats : (p : Fin 2) → (c : Dev nD) → Dat τ (Elt F) (HIx 1) ℕ UU ℕ (Pipeline.pin (pcfgs (F := F)) adm p) c}
    (R : Pipeline.RegionSeg (pcfgs (F := F)) adm pdats none defs₀ 𝒱₀ (K (F := F)).L (K (F := F)).lev p) (c : Dev nD) (Φ : PUnit → sProp 𝕄) :
    iprop((iprop(boundary (c.tc : Thread nD τ) ∗ R.post c) -∗ Φ ⟨⟩)
        ∗ boundary (c.tc : Thread nD τ) ∗ R.pre c ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs (D (F := F))) 𝒱 (SparseCore.T c) none) Set.univ (Prog.lift (.customCall (SparseCore.inner (Pipeline.entry p)) ())) Φ := by
  have h := Pipeline.RegionSeg.wp (pcfgs (F := F)) adm pdats none phinj EP defs₀ 𝒱₀ (K (F := F)).L (K (F := F)).lev R c none (by nofun) (fun x => .ret x) Φ
  have h' := (K (F := F)).wp_liftProg (D (F := F)) 𝒱 (SparseCore.T c) Set.univ none (Prog.lift (.customCall (Pipeline.entry p) ())) Φ
  rw [wp_ret] at h
  refine BIBase.Entails.trans (BIBase.Entails.trans (sep_mono_left ?_) h) h'
  iintro Hk H
  imodintro
  iapply Hk; iexact H

theorem debt_none (n : ℕ) : ∀ (c : Dev nD) g, (debt (F := F) n).owed c g none = 0 := fun c g => by
  by_contra h
  have := (K (F := F)).lev_of_Otc_pos (Nat.pos_of_ne_zero h)
  exact absurd (this.trans (Nat.le_of_eq (rfl : (K (F := F)).lev g none = 0))) (Nat.not_succ_le_zero _)
theorem debt_recd (n : ℕ) : ∀ (c : Dev nD) sm, (sm, none) ∈ (debt (F := F) n).recd c := fun _ _ => Nat.zero_le _

theorem owesIn_eq (n : ℕ) (d : Dev nD) : (owesIn (debt (F := F) n) d : sProp 𝕄) =
    iprop(∃ W, ⌜(K (F := F)).WBelow (T d) W (8 * SparseCore.Cfg.Blocks.fst 1 1 n)⌝ ∗ owes (T d) ((K (F := F)).Otc d n) W) := rfl

/-- The argmin call's region and the finalize call's, at the contents they are entered with. -/
def segArg : Pipeline.RegionSeg (pcfgs (F := F)) adm (pdats (at' (VA m)) (debt (F := F) 0) adm) none defs₀ 𝒱₀ (K (F := F)).L (K (F := F)).lev 0 :=
  reg0 (at' (VA m)) (at' (VA' m)) (debt (F := F) 0) adm (fun _ => iprop(emp)) (debt_none 0) (debt_recd 0)
    (fun c => Function.update_self ..) (fun c b h => Function.update_of_ne (dev_ne h) ..)
def segFin : Pipeline.RegionSeg (pcfgs (F := F)) adm (pdats (at' (VC m)) (debt (F := F) 1) adm) none defs₀ 𝒱₀ (K (F := F)).L (K (F := F)).lev 1 :=
  reg2 (at' (VC m)) (at' (VC' m)) (debt (F := F) 1) adm (fun _ => iprop(emp)) (debt_none 1) (debt_recd 1)
    (fun c => (Function.update_of_ne (dev_ne (by decide)) ..).trans (Function.update_self ..)) (fun c => Function.update_self ..)
    (fun c b h h' => (Function.update_of_ne (dev_ne h') ..).trans (Function.update_of_ne (dev_ne h) ..))

theorem segArg_pre (d : Dev nD) : (segArg m).pre d = iprop(unscopedBufs d (at' (VA m) d) ∗ emp ∗ owesIn (debt (F := F) 0) d) := rfl
theorem segArg_post (d : Dev nD) : (segArg m).post d = iprop(unscopedBufs d (at' (VA' m) d) ∗ emp ∗ owesIn (debt (F := F) 0) d) := rfl
theorem segFin_pre (d : Dev nD) : (segFin m).pre d = iprop(unscopedBufs d (at' (VC m) d) ∗ emp ∗ owesIn (debt (F := F) 1) d) := rfl
theorem segFin_post (d : Dev nD) : (segFin m).post d = iprop(unscopedBufs d (at' (VC' m) d) ∗ emp ∗ owesIn (debt (F := F) 1) d) := rfl

/-- The ghost state of the two regions' staging cells. -/
def G (d : Dev nD) : sProp 𝕄 := bigSep Finset.univ fun p : Fin 2 =>
  iprop(Pipeline.cellsGhost (Pipeline.pin (pcfgs (F := F)) adm) EP p d ∗ Pipeline.toksInit (Pipeline.pin (pcfgs (F := F)) adm) EP p d)

theorem G_eq (d : Dev nD) : (G (F := F) d) = iprop(
    (Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d)) := by
  unfold G
  rw [show (Finset.univ : Finset (Fin 2)) = {0, 1} by decide, SparseCore.bigSep_insert' (by decide), bigSep_singleton]

/-- A host stretch, from the boundary and every unscoped array at a valuation. -/
theorem stretch (ops : List (HloOp τ sig (Elt F))) (hsub : ops.Forall fun op => op.bufs ⊆ tcRefs τ sig) (hfresh : ∀ op ∈ ops, op.fresh = ∅)
    (W W' : Dev nD → Valuation τ sig (Elt F)) (hW : ∀ d, W' d = after ops (W d)) (d : Dev nD) {α : Type} (k : PUnit → Prog (TpuEff nD τ sig (Elt F) (SparseCore.Sig (ΛP (F := F)) 1) .tc) α) (Q : α → sProp 𝕄) :
    iprop((boundary (d.tc : Thread nD τ) ∗ unscopedBufs d (at' W d))
        ∗ ((boundary (d.tc : Thread nD τ) ∗ unscopedBufs d (at' W' d)) -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (seq ops >>= k) Q := by
  rw [show (unscopedBufs d (at' W d) : sProp 𝕄) = held (d.tc : Thread nD τ) (Pipeline.ucRefs τ sig) (W d) from Pipeline.unscopedBufs_held d (W d),
    show (unscopedBufs d (at' W' d) : sProp 𝕄) = held (d.tc : Thread nD τ) (Pipeline.ucRefs τ sig) (W' d) from Pipeline.unscopedBufs_held d (W' d), hW]
  iintro ⟨H, Hk⟩
  iapply (StableHlo.wp_seq 𝒱 none Set.univ d (Pipeline.ucRefs τ sig) k ops (fun op h => Pipeline.sub_ucRefs op (List.forall_iff_forall_mem.mp hsub op h)) hfresh (W d)) $$ H
  iexact Hk

/-- The three arrays of the SparseCore call, and the rest. -/
def arrs : Finset (Ref sig .tc) := {main_v24, main_v25, main_v26}

theorem arrs_sub : arrs ⊆ Finset.univ.filter fun b : Ref sig .tc => ¬ b.isScoped := by decide

theorem arrs_split (d : Dev nD) (W : (b : Ref sig .tc) → Buf (Elt F) ((d.tc : Thread nD τ).loc b)) :
    (unscopedBufs d W : sProp 𝕄) = iprop(((iLoc d ↦{fullShare} W main_v24) ∗ (tLoc d ↦{fullShare} W main_v25) ∗ oLoc d ↦{fullShare} W main_v26)
      ∗ bigSep ((Finset.univ.filter fun b : Ref sig .tc => ¬ b.isScoped) \ arrs) fun b => ((d.tc : Thread nD τ).loc b) ↦{fullShare} W b) := by
  have e : (bigSep arrs fun b => ((d.tc : Thread nD τ).loc b) ↦{fullShare} W b : sProp 𝕄)
      = iprop((iLoc d ↦{fullShare} W main_v24) ∗ (tLoc d ↦{fullShare} W main_v25) ∗ oLoc d ↦{fullShare} W main_v26) := by
    unfold arrs
    rw [SparseCore.bigSep_insert' (by decide), SparseCore.bigSep_insert' (by decide), bigSep_singleton]
  rw [← e]
  exact SparseCore.bigSep_sdiff_split' arrs_sub

theorem arrs_join (d : Dev nD) : (unscopedBufs d (at' (VB' m) d) : sProp 𝕄) = iprop(allAt (FT m) (FI m) d (GO (FT m) (FI m) d)
      ∗ bigSep ((Finset.univ.filter fun b : Ref sig .tc => ¬ b.isScoped) \ arrs) fun b => ((d.tc : Thread nD τ).loc b) ↦{fullShare} at' (VB m) d b) := by
  rw [arrs_split]
  have e1 : at' (VB' m) d main_v24 = FI m d := Function.update_of_ne (dev_ne (by decide)) ..
  have e2 : at' (VB' m) d main_v25 = FT m d := Function.update_of_ne (dev_ne (by decide)) ..
  have e3 : at' (VB' m) d main_v26 = GO (FT m) (FI m) d := Function.update_self ..
  have e4 : (bigSep ((Finset.univ.filter fun b : Ref sig .tc => ¬ b.isScoped) \ arrs) fun b => ((d.tc : Thread nD τ).loc b) ↦{fullShare} at' (VB' m) d b : sProp 𝕄)
      = bigSep ((Finset.univ.filter fun b : Ref sig .tc => ¬ b.isScoped) \ arrs) fun b => ((d.tc : Thread nD τ).loc b) ↦{fullShare} at' (VB m) d b :=
    bigSep_congr fun b hb => by
      have hne : b ≠ main_v26 := fun h => (Finset.mem_sdiff.mp hb).2 (h ▸ by decide)
      rw [show at' (VB' m) d b = at' (VB m) d b from Function.update_of_ne (dev_ne hne) ..]
  rw [e1, e2, e3, e4]

abbrev FIN (d : Dev nD) : sProp 𝕄 := unscopedBufs d (at' (VD m) d)

/-- @main on device `d`'s TensorCore: from every array as at the launch, every array at its last contents. -/
theorem hmain [∀ e, Nonempty (Elt F e)] (κ : GSem nD τ sig → ℕ) (d : Dev nD) :
    iprop((K (F := F)).ctx EH (P (FT m) (FI m) (FO m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, G_eq]
  iintro ⟨#Hctx, Hst, ⟨Hb, Hub, Hts, -⟩, ⟨Hg0, Ht0⟩, Hg1, Ht1⟩
  ihave #Hlev := (SparseCore.Cfg.ctx_levAts κ) $$ Hctx
  iapply (stretch opsA opsA_sub opsA_fresh (V0 m) (VA m) (fun _ => rfl) d)
  isplitl [Hb Hub]
  · isplitl [Hb]; · iexact Hb
    iexact Hub
  iintro ⟨Hb, Hub⟩
  rw [wp_bind]
  unfold SparseCore.Cfg.tcSt
  icases Hst with ⟨HO, Hst⟩
  iapply (region_wp (segArg m) d)
  rw [segArg_pre, segArg_post]
  isplitr [Hb Hub HO Hg0 Ht0]
  swap
  · isplitl [Hb]; · iexact Hb
    isplitl [Hub HO]
    · isplitl [Hub]; · iexact Hub
      isplitr; · iempintro
      rw [owesIn_eq]; iexact HO
    isplitr; · iexact Hlev
    isplitl [Hg0] <;> iassumption
  iintro ⟨Hb, Hub, -, HO⟩
  ihave HO := (Entails.of_eq (owesIn_eq (F := F) 0 d)) $$ HO
  iapply (stretch opsB opsB_sub opsB_fresh (VA' m) (VB m) (fun _ => rfl) d)
  isplitl [Hb Hub]
  · isplitl [Hb]; · iexact Hb
    iexact Hub
  iintro ⟨Hb, Hub⟩
  rw [wp_bind]
  ihave Hub' := (Entails.of_eq (arrs_split d (at' (VB m) d))) $$ Hub
  icases Hub' with ⟨Harr, Hrest⟩
  iapply ((K (F := F)).wp_run (D (F := F)) 𝒱 (EH := EH) (P := P (FT m) (FI m) (FO m)) κ d 0) $$ [HO Hst Harr Hrest Hb Hts Hg1 Ht1]
  isplitr; · iexact Hctx
  isplitl [HO Hst]
  · unfold SparseCore.Cfg.tcSt
    isplitl [HO]; · iexact HO
    iexact Hst
  isplitl [Harr]
  · rw [st0_eq]; iexact Harr
  iintro ⟨Hst, Hdn⟩
  ihave Hdn' := (Entails.of_eq (dn0_eq (FT m) (FI m) (FO m) d)) $$ Hdn
  ihave Hub := (Entails.of_eq (arrs_join m d).symm) $$ [Hdn' Hrest]
  · isplitl [Hdn'] <;> iassumption
  iapply (stretch opsC opsC_sub opsC_fresh (VB' m) (VC m) (fun _ => rfl) d)
  isplitl [Hb Hub]
  · isplitl [Hb]; · iexact Hb
    iexact Hub
  iintro ⟨Hb, Hub⟩
  rw [wp_bind]
  unfold SparseCore.Cfg.tcSt
  icases Hst with ⟨HO, Hst⟩
  iapply (region_wp (segFin m) d)
  rw [segFin_pre, segFin_post]
  isplitr [Hb Hub HO Hg1 Ht1]
  swap
  · isplitl [Hb]; · iexact Hb
    isplitl [Hub HO]
    · isplitl [Hub]; · iexact Hub
      isplitr; · iempintro
      rw [owesIn_eq]; iexact HO
    isplitr; · iexact Hlev
    isplitl [Hg1] <;> iassumption
  iintro ⟨Hb, Hub, -, HO⟩
  ihave HO := (Entails.of_eq (owesIn_eq (F := F) 1 d)) $$ HO
  rw [← bind_pure (seq (opsD (F := F)))]
  iapply (stretch opsD opsD_sub opsD_fresh (VC' m) (VD m) (fun _ => rfl) d)
  isplitl [Hb Hub]
  · isplitl [Hb]; · iexact Hb
    iexact Hub
  iintro ⟨Hb, Hub⟩
  rw [wp_pure]
  imodintro
  isplitl [HO Hst]
  · isplitl [HO]; · iexact HO
    iexact Hst
  isplitl [Hub]; · iexact Hub
  isplitl [Hb] <;> iassumption

/-! ## The launch element of the ghost state -/

def u₀ : UU := (initOf (Pipeline.cells (nD := nD) (τ := τ) (Pipeline.pin (pcfgs (F := F)) adm) phinj) (Pipeline.launchToks (nD := nD) (τ := τ) (Pipeline.pin (pcfgs (F := F)) adm) phinj),
  (initOf (K (F := F)).hsCells (K (F := F)).hsToks, 1))

theorem bigSep_emp' {I : Type} (s : Finset I) : (bigSep s fun _ => iprop(emp)) = (iprop(emp) : sProp 𝕄) := bigSep_emp_const s

theorem hu₀ (FT : (d : Dev nD) → Buf (Elt F) (tLoc d)) (FI : (d : Dev nD) → Buf (Elt F) (iLoc d)) (FO : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P FT FI FO).x q thr) := by
  unfold u₀
  iintro Hu
  ihave H := (ownU_pair (initOf (Pipeline.cells (nD := nD) (τ := τ) (Pipeline.pin (pcfgs (F := F)) adm) phinj) (Pipeline.launchToks (nD := nD) (τ := τ) (Pipeline.pin (pcfgs (F := F)) adm) phinj))
    (initOf (K (F := F)).hsCells (K (F := F)).hsToks, (1 : Counters))) $$ Hu
  icases H with ⟨HP, HR⟩
  ihave H := (own_pair_emb embR (initOf (K (F := F)).hsCells (K (F := F)).hsToks) (1 : Counters)) $$ HR
  icases H with ⟨HH, -⟩
  ihave Hg := (Pipeline.fund_ghost (nD := nD) (τ := τ) (Pipeline.pin (pcfgs (F := F)) adm) EP phinj) $$ HP
  imod Hg with ⟨Hg, Ht⟩
  imodintro
  isplitl [HH]; · iexact HH
  isplitl [Hg Ht]
  · unfold G
    rw [show (bigSep Finset.univ fun d : Dev nD => bigSep Finset.univ fun p : Fin 2 =>
          iprop(Pipeline.cellsGhost (Pipeline.pin (pcfgs (F := F)) adm) EP p d ∗ Pipeline.toksInit (Pipeline.pin (pcfgs (F := F)) adm) EP p d) : sProp 𝕄)
        = iprop((bigSep Finset.univ fun d : Dev nD => bigSep Finset.univ fun p : Fin 2 => Pipeline.cellsGhost (Pipeline.pin (pcfgs (F := F)) adm) EP p d)
          ∗ bigSep Finset.univ fun d : Dev nD => bigSep Finset.univ fun p : Fin 2 => Pipeline.toksInit (Pipeline.pin (pcfgs (F := F)) adm) EP p d) from by
      rw [← bigSep_sep']; exact bigSep_congr fun d _ => bigSep_sep' _ _ _]
    isplitl [Hg] <;> iassumption
  rw [show (bigSep Finset.univ fun thr : Thread nD τ => bigSep Finset.univ fun q : Fin 1 => (P (F := F) FT FI FO).x q thr) = bigSep Finset.univ fun _ => iprop(emp) from
    bigSep_congr fun _ _ => bigSep_univ_of_subsingleton (0 : Fin 1), bigSep_emp']
  iempintro

/-! ## The run -/

def fq (d : Dev nD) (s' : Phys nD τ sig (Elt F)) : Prop :=
  ∀ b : Ref sig .tc, ¬ b.isScoped → s'.mem.mem ((d.tc : Thread nD τ).loc b) = at' (VD m) d b

theorem hfin (d : Dev nD) (s' : Phys nD τ sig (Elt F)) : iprop(FIN m d ∗ SI s') ⊢ (⌜fq m d s'⌝ : sProp 𝕄) := by
  refine (forall_intro fun b => ?_).trans pure_forall.2
  by_cases hb : b.isScoped
  · exact BIClass.pure_intro fun h => absurd hb h
  have hm : b ∈ Finset.univ.filter fun b : Ref sig .tc => ¬ b.isScoped := Finset.mem_filter.mpr ⟨Finset.mem_univ _, hb⟩
  unfold FIN unscopedBufs
  rw [SparseCore.bigSep_erase' hm]
  iintro ⟨⟨H, -⟩, HSI⟩
  ihave H := (SI_pointsTo_agree (st := s') (ℓ := (d.tc : Thread nD τ).loc b) (I := Finset.univ) (q := fullShare) (f := at' (VD m) d b)) $$ [HSI H]
  · isplitl [HSI] <;> iassumption
  icases H with %h
  ipureintro
  exact fun _ => funext fun i => h i (Finset.mem_univ i)

/-- The run of the whole kernel, given that the numbers the SparseCore gathers by are in range: every array ends at its
    last contents, every semaphore at zero. -/
theorem run_main [∀ e, Nonempty (Elt F e)] (hin : InRange (FI m)) :
    θ_run (Cert.KernelIdeal.defs (F := F)) (Cert.KernelIdeal.threads (F := F)) ⟨m, fun _ => 0, ρ⟩
      (fun r => (∀ (c : Dev nD) (b : Ref sig .tc), ¬ b.isScoped → r.2.mem ((c : Thread nD τ).loc b) = VD m c b) ∧ r.2.sem = fun _ => 0) :=
  SparseCore.Cfg.θ_run_sc_quiescent (K := K (F := F)) (D := D (F := F)) (𝒱 := 𝒱) (EH := EH) (P := P (FT m) (FI m) (FO m)) (A := ∅) facts v₀
    (fun q hq => match q with | 0 => nomatch hq)
    (fun q _ => match q with | 0 => tileObl (FT m) (FI m) (FO m) facts hin)
    (fun q _ => match q with | 0 => SparseCore.Cfg.VecSplit.of_plain (vecSplit (FT m) (FI m) (FO m)))
    m ρ main (G (F := F)) (FIN m) (u₀ (F := F)) (sep_elim_left.trans (hu₀ (FT m) (FI m) (FO m))) (hmain m ρ) (fq m) (hfin m) _ (fun _ h hz => ⟨h, hz⟩)

end Cert.Proof.Whole
-- ==== Proof.KVal.lean ====
/-
  What the kernel's host code leaves in the buffers its calls read, and in the results.
-/
module

public import proofs.«01_k».proof.Proof.Main
public import proofs.«01_k».proof.Proof.Spec

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

section Values
variable (W : Valuation τ sig (Elt F))

set_option maxHeartbeats 2000000 in
theorem afterA_v4 : after opsA W main_v4 = normT (W main_arg0) := by
  simp only [opsA, TRef.quaternary, TRef.binary, TRef.nullary, TRef.ternary, TRef.unary, TRef.toBuf, TRef.ofBuf, cast_eq]; after_results <;> rfl

set_option maxHeartbeats 2000000 in
theorem afterA_v21 : after opsA W main_v21 = truncf .bf16 (mulf (normT (W main_arg0)) (broadcastInDim S16x1024x32 ![] bcast_S_S16x1024x32 (constant S_ .f32 0x40000000#32))) := by
  simp only [opsA, TRef.quaternary, TRef.binary, TRef.nullary, TRef.ternary, TRef.unary, TRef.toBuf, TRef.ofBuf, cast_eq]; after_results <;> rfl

set_option maxHeartbeats 2000000 in
theorem afterA_v22 : after opsA W main_v22 = truncf .bf16 (enT (W main_arg1)) := by
  simp only [opsA, TRef.quaternary, TRef.binary, TRef.nullary, TRef.ternary, TRef.unary, TRef.toBuf, TRef.ofBuf, cast_eq]; after_results <;> rfl

set_option maxHeartbeats 2000000 in
theorem afterA_v15 : after opsA W main_v15 = broadcastInDim S16x1x1024 ![0, 2] bcast_S16x1024_S16x1x1024_0_2 (shapeCast S16x1024 (broadcastInDim S16384x1 ![0] bcast_S16384_S16384x1_0 (sqT (normT (W main_arg0)))) shapeCasts_S16384x1_S16x1024) := by
  simp only [opsA, TRef.quaternary, TRef.binary, TRef.nullary, TRef.ternary, TRef.unary, TRef.toBuf, TRef.ofBuf, cast_eq]; after_results <;> rfl

set_option maxHeartbeats 2000000 in
theorem afterA_v18 : after opsA W main_v18 = shapeCast S8192x1 (c2T (W main_arg1)) shapeCasts_S8192_S8192x1 := by
  simp only [opsA, TRef.quaternary, TRef.binary, TRef.nullary, TRef.ternary, TRef.unary, TRef.toBuf, TRef.ofBuf, cast_eq]; after_results <;> rfl

set_option maxHeartbeats 2000000 in
theorem afterA_arg0 : after opsA W main_arg0 = W main_arg0 := by
  simp only [opsA, TRef.quaternary, TRef.binary, TRef.nullary, TRef.ternary, TRef.unary, TRef.toBuf, TRef.ofBuf, cast_eq]; after_results <;> rfl

set_option maxHeartbeats 2000000 in
theorem afterA_arg1 : after opsA W main_arg1 = W main_arg1 := by
  simp only [opsA, TRef.quaternary, TRef.binary, TRef.nullary, TRef.ternary, TRef.unary, TRef.toBuf, TRef.ofBuf, cast_eq]; after_results <;> rfl

set_option maxHeartbeats 2000000 in
theorem afterB_v24 : after opsB W main_v24 = shapeCast S16384 (W main_v23) shapeCasts_S16x1x1024_S16384 := by
  simp only [opsB, TRef.quaternary, TRef.binary, TRef.nullary, TRef.ternary, TRef.unary, TRef.toBuf, TRef.ofBuf, cast_eq]; after_results <;> rfl

set_option maxHeartbeats 2000000 in
theorem afterB_v25 : after opsB W main_v25 = pad S8192x128 ![0, 0] ![0, 96] ![0, 0] (W main_arg1) (sitofp .f32 (constantI S_ 32 0#32)) pads_S8192x32_S8192x128_000_0960 h_S_ := by
  simp only [opsB, TRef.quaternary, TRef.binary, TRef.nullary, TRef.ternary, TRef.unary, TRef.toBuf, TRef.ofBuf, cast_eq]; after_results <;> rfl

set_option maxHeartbeats 2000000 in
theorem afterB_v4 : after opsB W main_v4 = W main_v4 := by
  simp only [opsB, TRef.quaternary, TRef.binary, TRef.nullary, TRef.ternary, TRef.unary, TRef.toBuf, TRef.ofBuf, cast_eq]; after_results <;> rfl

set_option maxHeartbeats 2000000 in
theorem afterB_arg0 : after opsB W main_arg0 = W main_arg0 := by
  simp only [opsB, TRef.quaternary, TRef.binary, TRef.nullary, TRef.ternary, TRef.unary, TRef.toBuf, TRef.ofBuf, cast_eq]; after_results <;> rfl

set_option maxHeartbeats 2000000 in
theorem afterB_arg1 : after opsB W main_arg1 = W main_arg1 := by
  simp only [opsB, TRef.quaternary, TRef.binary, TRef.nullary, TRef.ternary, TRef.unary, TRef.toBuf, TRef.ofBuf, cast_eq]; after_results <;> rfl

set_option maxHeartbeats 2000000 in
theorem afterC_v27 : after opsC W main_v27 = shapeCast S16x1024x128 (W main_v26) shapeCasts_S16384x128_S16x1024x128 := by
  simp only [opsC, TRef.quaternary, TRef.binary, TRef.nullary, TRef.ternary, TRef.unary, TRef.toBuf, TRef.ofBuf, cast_eq]; after_results <;> rfl

set_option maxHeartbeats 2000000 in
theorem afterC_v4 : after opsC W main_v4 = W main_v4 := by
  simp only [opsC, TRef.quaternary, TRef.binary, TRef.nullary, TRef.ternary, TRef.unary, TRef.toBuf, TRef.ofBuf, cast_eq]; after_results <;> rfl

set_option maxHeartbeats 2000000 in
theorem afterC_v24 : after opsC W main_v24 = W main_v24 := by
  simp only [opsC, TRef.quaternary, TRef.binary, TRef.nullary, TRef.ternary, TRef.unary, TRef.toBuf, TRef.ofBuf, cast_eq]; after_results <;> rfl

set_option maxHeartbeats 2000000 in
theorem afterC_arg0 : after opsC W main_arg0 = W main_arg0 := by
  simp only [opsC, TRef.quaternary, TRef.binary, TRef.nullary, TRef.ternary, TRef.unary, TRef.toBuf, TRef.ofBuf, cast_eq]; after_results <;> rfl

set_option maxHeartbeats 2000000 in
theorem afterC_arg1 : after opsC W main_arg1 = W main_arg1 := by
  simp only [opsC, TRef.quaternary, TRef.binary, TRef.nullary, TRef.ternary, TRef.unary, TRef.toBuf, TRef.ofBuf, cast_eq]; after_results <;> rfl

set_option maxHeartbeats 2000000 in
theorem afterD_v29 : after opsD W main_v29 = shapeCast S_ (W main_v28_1) shapeCasts_S1x1_S_ := by
  simp only [opsD, TRef.quaternary, TRef.binary, TRef.nullary, TRef.ternary, TRef.unary, TRef.toBuf, TRef.ofBuf, cast_eq]; after_results <;> rfl

set_option maxHeartbeats 2000000 in
theorem afterD_v28_0 : after opsD W main_v28_0 = W main_v28_0 := by
  simp only [opsD, TRef.quaternary, TRef.binary, TRef.nullary, TRef.ternary, TRef.unary, TRef.toBuf, TRef.ofBuf, cast_eq]; after_results <;> rfl

set_option maxHeartbeats 2000000 in
theorem afterD_v24 : after opsD W main_v24 = W main_v24 := by
  simp only [opsD, TRef.quaternary, TRef.binary, TRef.nullary, TRef.ternary, TRef.unary, TRef.toBuf, TRef.ofBuf, cast_eq]; after_results <;> rfl

set_option maxHeartbeats 2000000 in
theorem afterD_arg0 : after opsD W main_arg0 = W main_arg0 := by
  simp only [opsD, TRef.quaternary, TRef.binary, TRef.nullary, TRef.ternary, TRef.unary, TRef.toBuf, TRef.ofBuf, cast_eq]; after_results <;> rfl

set_option maxHeartbeats 2000000 in
theorem afterD_arg1 : after opsD W main_arg1 = W main_arg1 := by
  simp only [opsD, TRef.quaternary, TRef.binary, TRef.nullary, TRef.ternary, TRef.unary, TRef.toBuf, TRef.ofBuf, cast_eq]; after_results <;> rfl

end Values

end Cert.Proof.Whole
-- ==== Proof.Take.lean ====
/-
  A row lookup as a host program spells it: an index below zero counts from the end, an index outside the table gives a
  row of NaNs. Where every index names a row of the table neither clause matters, and the result holds the named rows.
-/
module

public import Idealize.ShloMosaic.Lib.Routing.Ops
public import Idealize.ShloMosaic.Lib.ReduceAll
public import Idealize.ShloMosaic.Lib.StableHlo.Predicate

@[expose] public section

noncomputable section

namespace Cert.Proof.Take

open Idealize.ShloMosaic Idealize.ShloMosaic.Routing Idealize.ShloMosaic.ValueIdx

theorem ofBool_one (b : Bool) : BitVec.ofBool b = 1#1 ↔ b = true := by cases b <;> decide

/-- A row number is not below zero, so it is not wrapped. -/
theorem not_below (v : BitVec 32) (h : v.toNat < 8192) : IntOp.cmpi .slt v 0#32 = 0#1 := by
  simp only [IntOp.cmpi]
  have : v.slt 0#32 = false := by
    rw [BitVec.slt_eq_decide]
    simp only [decide_eq_false_iff_not, BitVec.toInt_eq_toNat_cond, BitVec.toNat_ofNat, Nat.reducePow, Nat.zero_mod]
    omega
  rw [this]; rfl

/-- A row number lies between the first row and the last. -/
theorem within (v : BitVec 32) (h : v.toNat < 8192) : IntOp.andi (IntOp.cmpi .sge v 0#32) (IntOp.cmpi .sle v 8191#32) = 1#1 := by
  simp only [IntOp.cmpi]
  have h1 : (0#32).sle v = true := by
    rw [BitVec.sle_eq_decide]
    simp only [decide_eq_true_eq, BitVec.toInt_eq_toNat_cond, BitVec.toNat_ofNat, Nat.reducePow, Nat.zero_mod]
    omega
  have h2 : v.sle 8191#32 = true := by
    rw [BitVec.sle_eq_decide]
    simp only [decide_eq_true_eq, BitVec.toInt_eq_toNat_cond, BitVec.toNat_ofNat, Nat.reducePow, Nat.reduceMod]
    omega
  rw [h1, h2]; rfl

variable {α : Type} {n B : Nat}

/-- The lookup of rows as the host spells it, at one entry. -/
theorem take_rows
    (d : GatherDims (shape2 8192 B) (shape2 n 1) (shape2 n B)) (hoff : d.offsetDims = [1])
    (hcoll : d.collapsedSliceDims = [0]) (hob : d.operandBatchingDims = []) (hsim : d.startIndexMap = [0]) (hivd : d.indexVectorDim = 1)
    (x : (shape2 8192 B).Idx → α) (ix : IVec ⟨1, ![n]⟩ 32) (nan : (shape2 n B).Idx → α) (hix : ∀ i, (ix i).toNat < 8192)
    (z : IVec ⟨1, ![n]⟩ 32) (hz : ∀ i, z i = 0#32) (k : IVec ⟨1, ![n]⟩ 32)
    (z2 l2 : IVec (shape2 n 1) 32) (hz2 : ∀ i, z2 i = 0#32) (hl2 : ∀ i, l2 i = 8191#32)
    (hb : (⟨1, ![n]⟩ : Shape).BroadcastsInDim (shape2 n 1) ![0]) (hb' : (⟨1, ![n]⟩ : Shape).BroadcastsInDim (shape2 n B) ![0])
    {u : Shape} (init : u.Idx → BitVec 1) (hr : (shape2 n 1).ReducesTo [1] ⟨1, ![n]⟩) (hu : 0 < u.numel)
    (hi : init (Shape.Idx.first hu) = 1#1) (c : Fin n) (y : Fin B) (b : Fin 8192)
    (hrow : ix (ix1 c) = BitVec.ofNat 32 b.val) :
    select (broadcastInDim (shape2 n B) ![0] hb' (Host.reduce IntOp.andi
        (andi (cmpi .sge (broadcastInDim (shape2 n 1) ![0] hb (select (cmpi .slt ix z) (addi ix k) ix)) z2)
          (cmpi .sle (broadcastInDim (shape2 n 1) ![0] hb (select (cmpi .slt ix z) (addi ix k) ix)) l2)) init hr hu))
      (Host.gather d x (broadcastInDim (shape2 n 1) ![0] hb (select (cmpi .slt ix z) (addi ix k) ix))) nan (ix2 c y) = x (ix2 b y) := by
  have hsel : select (cmpi .slt ix z) (addi ix k) ix = ix := by
    funext i
    show (if IntOp.cmpi .slt (ix i) (z i) = 1#1 then _ else ix i) = ix i
    rw [hz, not_below _ (hix i), if_neg (by decide)]
  rw [hsel]
  have hone : Host.reduce IntOp.andi (andi (cmpi .sge (broadcastInDim (shape2 n 1) ![0] hb ix) z2)
      (cmpi .sle (broadcastInDim (shape2 n 1) ![0] hb ix) l2)) init hr hu = fun _ => 1#1 := by
    funext j
    refine Host.reduce_andi_one _ _ _ _ _ hi fun i => ?_
    show IntOp.andi (IntOp.cmpi .sge (ix _) (z2 i)) (IntOp.cmpi .sle (ix _) (l2 i)) = 1#1
    rw [hz2, hl2]
    exact within _ (hix _)
  rw [hone]
  show (if (1#1 : BitVec 1) = 1#1 then Host.gather d x _ (ix2 c y) else nan (ix2 c y)) = _
  rw [if_pos rfl]
  refine gather_row d hoff hcoll hob hsim hivd x _ c y b ?_ (by norm_num)
  rw [← hrow]
  show ix _ = ix _
  refine congrArg ix (funext fun a => ?_)
  match a with
  | ⟨0, _⟩ =>
    apply Fin.ext
    by_cases h : n = 1
    · have : c.val = 0 := by omega
      simp [ix2, h, this]
    · simp [ix2, h]
      rfl

end Cert.Proof.Take
end
-- ==== Proof.KEnd.lean ====
/-
  What the whole kernel leaves over the extended reals: the indices, the results and the loss are the reference's.
-/
module

public import proofs.«01_k».proof.Proof.FinVal
public import proofs.«01_k».proof.Proof.KVal
public import proofs.«01_k».proof.Proof.Take

@[expose] public section

noncomputable section

namespace Cert.Proof.Whole

open Cert.KernelIdeal Cert.KernelIdeal.Gen

open Idealize.ShloMosaic hiding ix0 ix1 ix2 ix3 ix4 ix5
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

open Idealize.ShloMosaic.StableHlo
open Idealize.ShloMosaic.ValueIdx (ix0 ix1 ix2 ix3)

variable (m : (ℓ : Loc nD τ sig) → Buf (Elt Ideal) ℓ) (d : Dev nD)

/-- The vectors and the table the kernel is given. -/
def argZ : FVec Ideal S16x1024x32 .f32 := V0 m d main_arg0
def argW : FVec Ideal S8192x32 .f32 := V0 m d main_arg1

/-! ## The indices -/

theorem VA_v21 : VA m d main_v21 = rd21 (normT (argZ m d)) := afterA_v21 (V0 m d)
theorem VA_v22 : VA m d main_v22 = rd22 (argW m d) := afterA_v22 (V0 m d)
theorem VA_v15 : VA m d main_v15 = rd15 (normT (argZ m d)) := afterA_v15 (V0 m d)
theorem VA_v18 : VA m d main_v18 = rd18 (argW m d) := afterA_v18 (V0 m d)

theorem dval_VA (b : Fin 16) (n : Fin 1024) :
    dval (at' (VA m)) d b n = dv (rd21 (normT (argZ m d))) (rd22 (argW m d)) (rd15 (normT (argZ m d))) (rd18 (argW m d)) b n := by
  funext k
  unfold dval
  show dv (VA m d main_v21) (VA m d main_v22) (VA m d main_v15) (VA m d main_v18) b n k = _
  rw [VA_v21, VA_v22, VA_v15, VA_v18]

/-- The indices the argmin call leaves, as the gather reads them. -/
def ixK : IVec S16384 32 := FI m d

theorem ixK_row (b : Fin 16) (n : Fin 1024) : ixK m d (ix1 (row b n)) = res0 (at' (VA m)) d (4 * b.val) (ix3 0 0 n) := by
  have h1 : ixK m d = shapeCast S16384 (out0 (at' (VA m)) (debt (F := Ideal) 0) d) shapeCasts_S16x1x1024_S16384 := by
    refine (afterB_v24 (VA' m d)).trans (congrArg (fun x : IVec S16x1x1024 32 => shapeCast S16384 x shapeCasts_S16x1x1024_S16384) ?_)
    exact Function.update_self ..
  rw [h1]
  refine (shapeCast_apply _ _ (ix1 (row b n)) (ix3 b 0 n) ?_).trans (out0_apply (at' (VA m)) (debt (F := Ideal) 0) d b n)
  rw [Shape.rowMajor_val_three, Shape.rowMajor_val_one]
  show (b.val * 1 + 0) * 1024 + n.val = 1024 * b.val + n.val
  omega

theorem exists_row (j : S16384.Idx) : ∃ (b : Fin 16) (n : Fin 1024), j = ix1 (row b n) := by
  have hj : (j 0).val < 16384 := (j 0).isLt
  refine ⟨⟨(j 0).val / 1024, by omega⟩, ⟨(j 0).val % 1024, by omega⟩, funext fun a => ?_⟩
  match a with
  | ⟨0, _⟩ => exact Fin.ext (by show (j 0).val = 1024 * ((j 0).val / 1024) + (j 0).val % 1024; omega)

theorem ixK_first (b : Fin 16) (n : Fin 1024) :
    FirstMin.IsFirst (dv (rd21 (normT (argZ m d))) (rd22 (argW m d)) (rd15 (normT (argZ m d))) (rd18 (argW m d)) b n) 8192 (ixK m d (ix1 (row b n))).toNat := by
  rw [ixK_row, ← dval_VA]
  exact res0_first (at' (VA m)) d b n

theorem ixK_lt (j : S16384.Idx) : (ixK m d j).toNat < 8192 := by
  obtain ⟨b, n, rfl⟩ := exists_row j
  exact (ixK_first m d b n).lt

theorem inRange : InRange (FI m) := fun d j => ixK_lt m d j

/-- The kernel's indices are the reference's. -/
theorem ixK_eq : ixK m d = Ref.argT (Ref.distT (normT (argZ m d)) (argW m d)) := by
  funext j
  obtain ⟨b, n, rfl⟩ := exists_row j
  exact idx_eq _ _ b n _ (ixK_first m d b n)

/-! ## The gathered rows -/

/-- The reference's rows at indices that name rows of the table. -/
theorem takeT_apply (W : FVec Ideal S8192x32 .f32) (I : IVec S16384 32) (hI : ∀ j, (I j).toNat < 8192) (r : Fin 16384) (h : Fin 32) :
    Ref.takeT W I (ix2 r h) = W (ix2 (rowOf (I (ix1 r))) h) := by
  unfold Ref.takeT Ref.wrapT
  refine Take.take_rows (n := 16384) (B := 32) Cert.ReferenceIdeal.gather_S8192x32_S16384x1_S16384x32_1_0_n_n_0_1_132 rfl rfl rfl rfl rfl W I _ hI _ (fun _ => rfl) _ _ _
    (fun _ => rfl) (fun _ => rfl) _ _ _ _ _ rfl r h _ ?_
  apply BitVec.eq_of_toNat_eq
  have := hI (ix1 r)
  rw [BitVec.toNat_ofNat]
  show _ = min (I (ix1 r)).toNat 8191 % 2 ^ 32
  omega

/-- The table with its rows padded to 128 lanes. -/
def padK : FVec Ideal S8192x128 .f32 := FT m d

theorem padK_apply (k : Fin 8192) (h : Fin 32) : padK m d (ix2 k (lane h)) = argW m d (ix2 k h) := by
  have h1 : padK m d = pad S8192x128 ![0, 0] ![0, 96] ![0, 0] (argW m d) (sitofp (F := Ideal) .f32 (constantI S_ 32 0#32)) pads_S8192x32_S8192x128_000_0960 h_S_ := by
    refine (afterB_v25 (VA' m d)).trans (congrArg (fun x : FVec Ideal S8192x32 .f32 =>
      pad S8192x128 ![0, 0] ![0, 96] ![0, 0] x (sitofp (F := Ideal) .f32 (constantI S_ 32 0#32)) pads_S8192x32_S8192x128_000_0960 h_S_) ?_)
    exact (Function.update_of_ne (dev_ne (by decide)) ..).trans (afterA_arg1 (V0 m d))
  rw [h1]
  refine pad_apply_of_inside _ _ _ _ _ _ _ (ix2 k (lane h)) (ix2 k h) fun a => ?_
  match a with
  | ⟨0, _⟩ => show k.val = 0 + k.val * (0 + 1); omega
  | ⟨1, _⟩ => show h.val = 0 + h.val * (0 + 1); omega

theorem rd27_apply (b : Fin 16) (n : Fin 1024) (h : Fin 32) :
    rd27 (at' (VC m)) d (ix3 b n (lane h)) = Ref.batchT (Ref.takeT (argW m d) (ixK m d)) (ix3 b n h) := by
  have h1 : rd27 (at' (VC m)) d = shapeCast S16x1024x128 (rowsAt (padK m d) (ixK m d)) shapeCasts_S16384x128_S16x1024x128 := by
    refine (afterC_v27 (VB' m d)).trans (congrArg (fun x : FVec Ideal S16384x128 .f32 => shapeCast S16x1024x128 x shapeCasts_S16384x128_S16x1024x128) ?_)
    exact Function.update_self ..
  rw [h1]
  refine (shapeCast_apply _ _ (ix3 b n (lane h)) (ix2 (row b n) (lane h)) ?_).trans ?_
  · rw [Shape.rowMajor_val_three, Shape.rowMajor_val_two]
    show (1024 * b.val + n.val) * 128 + h.val = (b.val * 1024 + n.val) * 128 + h.val
    omega
  unfold Ref.batchT
  refine Eq.trans ?_ (shapeCast_apply (Ref.takeT (argW m d) (ixK m d)) _ (ix3 b n h) (ix2 (row b n) h) ?_).symm
  · rw [takeT_apply _ _ (ixK_lt m d), ← padK_apply]
    unfold rowsAt
    have e1 : (Fin.cons ((ix2 (row b n) (lane h) : S16384x128.Idx) 0) (fun a => a.elim0) : S16384.Idx) = ix1 (row b n) := funext fun a => by
      match a with
      | ⟨0, _⟩ => rfl
    rw [e1]
    refine congrArg (padK m d) (funext fun a => ?_)
    match a with
    | ⟨0, _⟩ => rfl
    | ⟨1, _⟩ => rfl
  · rw [Shape.rowMajor_val_three, Shape.rowMajor_val_two]
    show (1024 * b.val + n.val) * 32 + h.val = (b.val * 1024 + n.val) * 32 + h.val
    omega

theorem rd4_eq : rd4 (at' (VC m)) d = normT (argZ m d) := by
  refine (afterC_v4 (VB' m d)).trans ((Function.update_of_ne (dev_ne (by decide)) ..).trans ?_)
  refine (afterB_v4 (VA' m d)).trans ((Function.update_of_ne (dev_ne (by decide)) ..).trans ?_)
  exact afterA_v4 (V0 m d)

/-! ## The results -/

/-- The chosen rows, normalised. -/
def nearK : FVec Ideal S16x1024x32 .f32 := normT (Ref.batchT (Ref.takeT (argW m d) (ixK m d)))

theorem end_v28_0 : VD m d main_v28_0 = addf (normT (argZ m d)) (subf (nearK m d) (normT (argZ m d))) := by
  refine (afterD_v28_0 (VC' m d)).trans ((Function.update_of_ne (dev_ne (by decide)) ..).trans ((Function.update_self ..).trans ?_))
  exact out2_eq (at' (VC m)) (debt (F := Ideal) 1) d _ _ (rd27_apply m d) (rd4_eq m d)

theorem end_v24 : VD m d main_v24 = ixK m d := by
  refine (afterD_v24 (VC' m d)).trans ((Function.update_of_ne (dev_ne (by decide)) ..).trans ((Function.update_of_ne (dev_ne (by decide)) ..).trans ?_))
  exact (afterC_v24 (VB' m d)).trans (Function.update_of_ne (dev_ne (by decide)) ..)

theorem end_v29 : VD m d main_v29 = Ref.lossT (nearK m d) (normT (argZ m d)) := by
  have h1 : VD m d main_v29 = shapeCast S_ (out3 (at' (VC m)) (debt (F := Ideal) 1) d) shapeCasts_S1x1_S_ := by
    refine (afterD_v29 (VC' m d)).trans (congrArg (fun x : FVec Ideal S1x1 .f32 => shapeCast S_ x shapeCasts_S1x1_S_) ?_)
    exact Function.update_self ..
  refine h1.trans (funext fun j => ?_)
  rw [show j = ix0 from funext fun a => a.elim0]
  refine Eq.trans ?_ (out3_eq (at' (VC m)) (debt (F := Ideal) 1) d _ _ (rd27_apply m d) (rd4_eq m d))
  exact congrArg (out3 (at' (VC m)) (debt (F := Ideal) 1) d) (funext fun a => by
    match a with
    | ⟨0, _⟩ => exact Subsingleton.elim (α := Fin 1) _ _
    | ⟨1, _⟩ => exact Subsingleton.elim (α := Fin 1) _ _)

theorem end_arg0 : VD m d main_arg0 = argZ m d := by
  refine (afterD_arg0 (VC' m d)).trans ((Function.update_of_ne (dev_ne (by decide)) ..).trans ((Function.update_of_ne (dev_ne (by decide)) ..).trans ?_))
  refine (afterC_arg0 (VB' m d)).trans ((Function.update_of_ne (dev_ne (by decide)) ..).trans ?_)
  refine (afterB_arg0 (VA' m d)).trans ((Function.update_of_ne (dev_ne (by decide)) ..).trans ?_)
  exact afterA_arg0 (V0 m d)

theorem end_arg1 : VD m d main_arg1 = argW m d := by
  refine (afterD_arg1 (VC' m d)).trans ((Function.update_of_ne (dev_ne (by decide)) ..).trans ((Function.update_of_ne (dev_ne (by decide)) ..).trans ?_))
  refine (afterC_arg1 (VB' m d)).trans ((Function.update_of_ne (dev_ne (by decide)) ..).trans ?_)
  refine (afterB_arg1 (VA' m d)).trans ((Function.update_of_ne (dev_ne (by decide)) ..).trans ?_)
  exact afterA_arg1 (V0 m d)

end Cert.Proof.Whole
-- ==== Proof.lean ====
/-
  The proof of `Cert.Claim`.
-/
module

public import proofs.«01_k».proof.Proof.ArgCallVal
public import proofs.«01_k».proof.Proof.FinCallVal
public import proofs.«01_k».proof.Proof.Nearest
public import proofs.«01_k».proof.Proof.Gen.FinalizeIdeal.Frame
public import proofs.«01_k».proof.Proof.Gen.FinalizeIdeal.Skeleton
public import proofs.«01_k».proof.Proof.Gen.FinalizeIdeal.Points
public import proofs.«01_k».proof.Proof.Gen.FinalizeIdeal.Launch
public import proofs.«01_k».proof.Proof.Gen.NormalisedIdeal.Run
public import proofs.«01_k».proof.Proof.Gen.Argmin
public import proofs.«01_k».proof.Proof.Gen.Finalize
public import proofs.«01_k».proof.Proof.Gather
public import proofs.«01_k».proof.Proof.KEnd
public import proofs.«01_k».proof.Proof.Take
public import proofs.«01_k».proof.Proof.Gen.Rows.Run
public import proofs.«01_k».proof.Proof.Gen.RowsIdeal.Run
public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.GatherIdeal.Skeleton
public import proofs.«01_k».proof.Proof.Gen.Rows
public import proofs.«01_k».proof.Proof.Gen.RowsIdeal
public import proofs.«01_k».proof.Proof.Gen.Pre_idx_in_table
public import Idealize.ShloMosaic.Adequacy
public import Idealize.ShloMosaic.Init

@[expose] public section

noncomputable section

namespace Cert.Proof

open Idealize.ShloMosaic hiding ix0 ix1 ix2 ix3 ix4 ix5
open Idealize.SL.Sem Idealize.ShloMosaic.ValueIdx

/-! ## The precondition, read at one index -/

theorem ofBool_and (a b : Bool) : IntOp.andi (BitVec.ofBool a) (BitVec.ofBool b) = BitVec.ofBool (a && b) := by
  cases a <;> cases b <;> rfl

theorem in_table (v : BitVec 32) (e : IntOp.andi (IntOp.cmpi .sge v 0#32) (IntOp.cmpi .slt v 8192#32) = 1#1) : v.toNat < 8192 := by
  simp only [IntOp.cmpi, ofBool_and, Take.ofBool_one, Bool.and_eq_true, BitVec.sle_eq_decide, BitVec.slt_eq_decide, decide_eq_true_eq,
    BitVec.toInt_eq_toNat_cond, BitVec.toNat_ofNat, Nat.reducePow, Nat.reduceMod] at e
  omega

theorem in_range {F : FTy → Type} [FloatOps F] (t : Cert.GatherIdeal.S8192x128.Idx → F .f32) (ix : Cert.GatherIdeal.S16384.Idx → BitVec 32)
    (h : Cert.Pre_idx_in_table.fn (F := F) t ix = fun _ => 1#1) (j : Cert.GatherIdeal.S16384.Idx) : (ix j).toNat < 8192 := by
  have e := congrFun h j
  simp only [Cert.Pre_idx_in_table.fn, andi, cmpi, broadcastInDim, constantI] at e
  exact in_table _ e

/-! ## What the reference's lookup holds -/

theorem rows_value {F : FTy → Type} [FloatOps F] (t : Cert.GatherIdeal.S8192x128.Idx → F .f32) (ix : Cert.GatherIdeal.S16384.Idx → BitVec 32)
    (hix : ∀ j, (ix j).toNat < 8192) : ∀ (c : Fin 16384) (y : Fin 128), Gather.rowsAt t ix (ix2 c y) = t (ix2 (Gather.rowOf (ix (ix1 c))) y) := by
  intro c y
  unfold Gather.rowsAt
  congr 1
  funext a
  match a with
  | ⟨0, _⟩ =>
    show Gather.rowOf _ = Gather.rowOf _
    congr 2
    funext a
    match a with
    | ⟨0, _⟩ => rfl
  | ⟨1, _⟩ => rfl

open Cert.RowsIdeal Cert.RowsIdeal.Facts₀ in
theorem rows_eq {F : FTy → Type} [FloatOps F] (t : S8192x128.Idx → F .f32) (ix : S16384.Idx → BitVec 32) (hix : ∀ j, (ix j).toNat < 8192)
    (nan : S16384x128.Idx → F .f32) :
    select (broadcastInDim S16384x128 ![0] bcast_S16384_S16384x128_0 (Host.reduce IntOp.andi (andi (cmpi .sge (broadcastInDim S16384x1 ![0] bcast_S16384_S16384x1_0 (select (cmpi .slt ix (broadcastInDim S16384 ![] bcast_S_S16384 (constantI S_ 32 0#32))) (addi ix (broadcastInDim S16384 ![] bcast_S_S16384 (constantI S_ 32 8192#32))) ix)) (broadcastInDim S16384x1 ![] bcast_S_S16384x1 (constantI S_ 32 0#32))) (cmpi .sle (broadcastInDim S16384x1 ![0] bcast_S16384_S16384x1_0 (select (cmpi .slt ix (broadcastInDim S16384 ![] bcast_S_S16384 (constantI S_ 32 0#32))) (addi ix (broadcastInDim S16384 ![] bcast_S_S16384 (constantI S_ 32 8192#32))) ix)) (broadcastInDim S16384x1 ![0, 1] bcast_S1x1_S16384x1_0_1 (broadcastInDim S1x1 ![1] bcast_S1_S1x1_1 (constantI S1 32 8191#32))))) (constantI S_ 1 1#1) reducesTo_S16384x1_S16384_d1 h_S_)) (Host.gather gather_S8192x128_S16384x1_S16384x128_1_0_n_n_0_1_1128 t (broadcastInDim S16384x1 ![0] bcast_S16384_S16384x1_0 (select (cmpi .slt ix (broadcastInDim S16384 ![] bcast_S_S16384 (constantI S_ 32 0#32))) (addi ix (broadcastInDim S16384 ![] bcast_S_S16384 (constantI S_ 32 8192#32))) ix))) nan
      = Gather.rowsAt t ix := by
  funext x
  obtain ⟨c, y, rfl⟩ : ∃ (c : Fin 16384) (y : Fin 128), x = ix2 c y := ⟨x 0, x 1, by
    funext a
    match a with
    | ⟨0, _⟩ => rfl
    | ⟨1, _⟩ => rfl⟩
  rw [rows_value t ix hix]
  refine Take.take_rows (n := 16384) (B := 128) gather_S8192x128_S16384x1_S16384x128_1_0_n_n_0_1_1128 rfl rfl rfl rfl rfl t ix nan hix _ (fun _ => rfl) _ _ _
    (fun _ => rfl) (fun _ => rfl) _ _ _ _ _ rfl c y _ ?_
  apply BitVec.eq_of_toNat_eq
  have := hix (ix1 c)
  rw [BitVec.toNat_ofNat]
  show _ = min (ix (ix1 c)).toNat 8191 % 2 ^ 32
  omega

/-! ## The claims -/

theorem frame_gather : Cert.quiescent_Gather := fun m ρ h =>
  (θ_run Cert.GatherIdeal.defs _ _).mono (fun _ r => ⟨fun c => ⟨(r.1 c).2.1, (r.1 c).1⟩, r.2⟩)
    (Gather.run_main (F := Bits) m ρ fun d j => in_range _ _ (h d) j)

theorem frame_gatherIdeal : Cert.quiescent_GatherIdeal := fun m ρ h =>
  (θ_run Cert.GatherIdeal.defs _ _).mono (fun _ r => ⟨fun c => ⟨(r.1 c).2.1, (r.1 c).1⟩, r.2⟩)
    (Gather.run_main (F := Ideal) m ρ fun d j => in_range _ _ (h d) j)

theorem frame_rows : Cert.quiescent_Rows := fun m ρ _ =>
  (θ_run Cert.Rows.defs _ _).mono (fun r h => ⟨fun c => (h c).2, sem_eq_zero_of_no_sems (by decide) r.2⟩) (Cert.Rows.Value.run m ρ)

theorem frame_rowsIdeal : Cert.quiescent_RowsIdeal := fun m ρ _ =>
  (θ_run Cert.RowsIdeal.defs _ _).mono (fun r h => ⟨fun c => (h c).2, sem_eq_zero_of_no_sems (by decide) r.2⟩) (Cert.RowsIdeal.Value.run m ρ)

theorem bitexact_gather : Cert.bitexact_Gather_Rows := by
  intro m ρ m' ρ' h hm
  have hin := fun d j => in_range _ _ (h d) j
  refine ⟨fun c => Gather.rowsAt (m (Gather.tLoc c)) (m (Gather.iLoc c)),
    (θ_run Cert.GatherIdeal.defs _ _).mono (fun _ r c => ⟨(r.1 c).2.2, (r.1 c).2.1, (r.1 c).1⟩) (Gather.run_main (F := Bits) m ρ hin),
    (θ_run Cert.Rows.defs _ _).mono (fun _ r c => ⟨(r c).1.trans ?_, (r c).2⟩) (Cert.Rows.Value.run m' ρ')⟩
  rw [(hm c).1, (hm c).2]
  exact rows_eq (F := Bits) _ _ (hin c) _

theorem algebraic_gather : Cert.algebraic_GatherIdeal_RowsIdeal := by
  intro m ρ m' ρ' h hm
  have hin := fun d j => in_range _ _ (h d) j
  refine ⟨fun c => Gather.rowsAt (m (Gather.tLoc c)) (m (Gather.iLoc c)),
    (θ_run Cert.GatherIdeal.defs _ _).mono (fun _ r c => ⟨(r.1 c).2.2, (r.1 c).2.1, (r.1 c).1⟩) (Gather.run_main (F := Ideal) m ρ hin),
    (θ_run Cert.RowsIdeal.defs _ _).mono (fun _ r c => ⟨(r c).1.trans ?_, (r c).2⟩) (Cert.RowsIdeal.Value.run m' ρ')⟩
  rw [(hm c).1, (hm c).2]
  exact rows_eq (F := Ideal) _ _ (hin c) _

/-! ## The whole kernel -/

section Whole
open Whole

/-- What the whole kernel leaves: its three results at these terms of its arguments, and the arguments unchanged. -/
theorem run_kernel (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ fun r =>
      (∀ c : Dev Cert.KernelIdeal.nD,
        r.2.mem ((c.tc : Thread Cert.KernelIdeal.nD Cert.KernelIdeal.τ).loc Cert.KernelIdeal.main_v28_0) = addf (normT (argZ m c)) (subf (nearK m c) (normT (argZ m c)))
        ∧ r.2.mem ((c.tc : Thread Cert.KernelIdeal.nD Cert.KernelIdeal.τ).loc Cert.KernelIdeal.main_v24) = ixK m c
        ∧ r.2.mem ((c.tc : Thread Cert.KernelIdeal.nD Cert.KernelIdeal.τ).loc Cert.KernelIdeal.main_v29) = Ref.lossT (nearK m c) (normT (argZ m c))
        ∧ r.2.mem ((c.tc : Thread Cert.KernelIdeal.nD Cert.KernelIdeal.τ).loc Cert.KernelIdeal.main_arg0) = argZ m c
        ∧ r.2.mem ((c.tc : Thread Cert.KernelIdeal.nD Cert.KernelIdeal.τ).loc Cert.KernelIdeal.main_arg1) = argW m c)
      ∧ r.2.sem = fun _ => 0 :=
  (θ_run Cert.KernelIdeal.defs _ _).mono (fun _ r => ⟨fun c =>
    ⟨(r.1 c Cert.KernelIdeal.main_v28_0 (by decide)).trans (end_v28_0 m c),
     (r.1 c Cert.KernelIdeal.main_v24 (by decide)).trans (end_v24 m c),
     (r.1 c Cert.KernelIdeal.main_v29 (by decide)).trans (end_v29 m c),
     (r.1 c Cert.KernelIdeal.main_arg0 (by decide)).trans (end_arg0 m c),
     (r.1 c Cert.KernelIdeal.main_arg1 (by decide)).trans (end_arg1 m c)⟩, r.2⟩)
    (run_main (F := Ideal) m ρ (inRange m))

theorem frame_kernelIdeal : Cert.quiescent_KernelIdeal := fun m ρ _ =>
  (θ_run Cert.KernelIdeal.defs _ _).mono (fun _ r => ⟨fun c => (r.1 c).2.2.2, r.2⟩) (run_kernel m ρ)

theorem frame_referenceIdeal : Cert.quiescent_ReferenceIdeal := fun m ρ _ =>
  (θ_run Cert.ReferenceIdeal.defs _ _).mono (fun _ r => ⟨fun c => (r.1 c).2.2.2, r.2⟩) (Ref.run (F := Ideal) m ρ)

/-- The two programs name the indices and the chosen rows alike. -/
theorem ixK_idx (m : (ℓ : Loc Cert.KernelIdeal.nD Cert.KernelIdeal.τ Cert.KernelIdeal.sig) → Buf (Elt Ideal) ℓ) (c : Dev Cert.KernelIdeal.nD) :
    Ref.idx (argZ m c) (argW m c) = ixK m c := (ixK_eq m c).symm

theorem nearK_near (m : (ℓ : Loc Cert.KernelIdeal.nD Cert.KernelIdeal.τ Cert.KernelIdeal.sig) → Buf (Elt Ideal) ℓ) (c : Dev Cert.KernelIdeal.nD) :
    Ref.near (argZ m c) (argW m c) = nearK m c :=
  congrArg (fun I => normT (Ref.batchT (Ref.takeT (argW m c) I))) (ixK_idx m c)

theorem algebraic_kernel : Cert.algebraic_KernelIdeal_ReferenceIdeal := by
  intro m ρ m' ρ' _ hm
  have e0 : ∀ c : Dev Cert.KernelIdeal.nD, m' ((c.tc : Thread Cert.ReferenceIdeal.nD Cert.ReferenceIdeal.τ).loc Cert.ReferenceIdeal.main_arg0) = argZ m c := fun c => (hm c).1
  have e1 : ∀ c : Dev Cert.KernelIdeal.nD, m' ((c.tc : Thread Cert.ReferenceIdeal.nD Cert.ReferenceIdeal.τ).loc Cert.ReferenceIdeal.main_arg1) = argW m c := fun c => (hm c).2
  refine ⟨fun c => addf (normT (argZ m c)) (subf (nearK m c) (normT (argZ m c))), fun c => ixK m c, fun c => Ref.lossT (nearK m c) (normT (argZ m c)),
    (θ_run Cert.KernelIdeal.defs _ _).mono (fun _ r => r.1) (run_kernel m ρ),
    (θ_run Cert.ReferenceIdeal.defs _ _).mono (fun _ r c => ?_) (Ref.run (F := Ideal) m' ρ')⟩
  obtain ⟨r0, r1, r2, r3, r4⟩ := r.1 c
  refine ⟨r0.trans ?_, r1.trans ?_, r2.trans ?_, r3, r4⟩
  · rw [e0 c, e1 c, nearK_near]
  · rw [e0 c, e1 c, ixK_idx]
  · rw [e0 c, e1 c, nearK_near]

end Whole

/-! ## The argmin call alone -/

section ArgCall
open Cert.ArgminIdeal

variable (m : (ℓ : Loc nD τ sig) → Buf (Elt Ideal) ℓ)

/-- The index array found for the call's four arguments. -/
def nearest (c : Dev nD) : IVec S16x1x1024 32 :=
  Near.batchN (Near.argN (F := Ideal) (Near.distN (m ((c.tc : Thread nD τ).loc main_arg0)) (m ((c.tc : Thread nD τ).loc main_arg1))
    (m ((c.tc : Thread nD τ).loc main_arg2)) (m ((c.tc : Thread nD τ).loc main_arg3))))

theorem argmin_left (c : Dev nD) : (ArgCall.dat0 (F := Ideal) (Gen.V m) c).arrAt 4 cfg0.N = nearest m c := by
  funext j
  obtain ⟨b, n, rfl⟩ : ∃ (b : Fin 16) (n : Fin 1024), j = ix3 b 0 n := ⟨j 0, j 2, funext fun a => by
    match a with
    | ⟨0, _⟩ => rfl
    | ⟨1, _⟩ => exact Fin.ext (by have : (j 1).val < 1 := (j 1).isLt; show (j 1).val = 0; omega)
    | ⟨2, _⟩ => rfl⟩
  refine (ArgCall.out0_apply (Gen.V m) c b n).trans ?_
  exact Near.idx_eq _ _ _ _ b n _ (ArgCall.res0_first (Gen.V m) c b n)

theorem run_argmin (ρ : Dev nD → PrngReg) : θ_run (defs (F := Ideal)) (onTc (τ := τ) (main (F := Ideal))) ⟨m, fun _ => 0, ρ⟩ fun r =>
    ∀ c : Dev nD, r.2.mem ((c.tc : Thread nD τ).loc main_v0) = nearest m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ r c => ⟨((r.1.1 c).1 4).trans (argmin_left m c), r.2.1 c⟩)
    (θ_run_and (ArgCall.run_main_quiescent m ρ) (ArgCall.frame m ρ))

end ArgCall

/-- The call's printed body is the same text in both programs. -/
theorem argmin_kernels {F : FTy → Type} [FloatOps F] : Cert.Argmin.defs₀ (F := F) = Cert.ArgminIdeal.defs₀ (F := F) := by
  refine congrArg Defs.onTc (funext fun l => funext fun x => ?_)
  match l, x with
  | 0, (t, s) => rfl

theorem argmin_defs {F : FTy → Type} [FloatOps F] : Cert.Argmin.defs (F := F) = Cert.ArgminIdeal.defs (F := F) :=
  congrArg (Pipeline.defs Cert.ArgminIdeal.pcfgs) argmin_kernels

theorem frame_argmin : Cert.quiescent_Argmin := fun m ρ _ => by
  rw [argmin_defs]
  exact ArgCall.frame (F := Bits) m ρ

theorem frame_argminIdeal : Cert.quiescent_ArgminIdeal := fun m ρ _ => ArgCall.frame (F := Ideal) m ρ

theorem frame_nearestIdeal : Cert.quiescent_NearestIdeal := fun m ρ _ =>
  (θ_run Cert.NearestIdeal.defs _ _).mono (fun _ r => ⟨fun c => (r.1 c).2, r.2⟩) (Near.run (F := Ideal) m ρ)

theorem algebraic_argmin : Cert.algebraic_ArgminIdeal_NearestIdeal := by
  intro m ρ m' ρ' _ hm
  refine ⟨fun c => nearest m c, run_argmin m ρ, (θ_run Cert.NearestIdeal.defs _ _).mono (fun _ r c => ?_) (Near.run (F := Ideal) m' ρ')⟩
  obtain ⟨r0, r1⟩ := r.1 c
  obtain ⟨h0, h1, h2, h3⟩ := hm c
  refine ⟨r0.trans ?_, r1⟩
  rw [h0, h1, h2, h3]
  rfl

/-! ## The finalize call alone -/

section FinCall
open Cert.FinalizeIdeal

variable (m : (ℓ : Loc nD τ sig) → Buf (Elt Ideal) ℓ)

/-- The chosen rows: the lanes of the table's own width. -/
def chosen (c : Dev nD) : FVec Ideal S16x1024x32 .f32 :=
  extractStridedSlice Cert.NormalisedIdeal.S16x1024x32 ![0, 0, 0] (FinCall.rows (Gen.V m) c) Cert.NormalisedIdeal.Gen.slices_S16x1024x128_S16x1024x32_0_0_0

/-- The chosen rows normalised, carried by the vectors. -/
def carried (c : Dev nD) : FVec Ideal S16x1024x32 .f32 :=
  addf (FinCall.vecs (Gen.V m) c) (subf (Whole.normT (chosen m c)) (FinCall.vecs (Gen.V m) c))

/-- The loss of the chosen rows. -/
def lossOf (c : Dev nD) : FVec Ideal S1x1 .f32 :=
  shapeCast Cert.NormalisedIdeal.S1x1 (Ref.lossT (Whole.normT (chosen m c)) (FinCall.vecs (Gen.V m) c)) Cert.NormalisedIdeal.Gen.shapeCasts_S_S1x1

theorem chosen_apply (c : Dev nD) (b : Fin 16) (n : Fin 1024) (h : Fin 32) :
    FinCall.rows (Gen.V m) c (ix3 b n (Whole.lane h)) = chosen m c (ix3 b n h) := by
  unfold chosen extractStridedSlice
  congr 1
  funext a
  match a with
  | ⟨0, _⟩ => exact Fin.ext (Nat.zero_add _).symm
  | ⟨1, _⟩ => exact Fin.ext (Nat.zero_add _).symm
  | ⟨2, _⟩ => exact Fin.ext (Nat.zero_add _).symm

theorem carried_left (c : Dev nD) : (FinCall.dat0 (F := Ideal) (Gen.V m) c).arrAt 2 cfg0.N = carried m c :=
  FinCall.out2_eq (Gen.V m) c (chosen m c) (FinCall.vecs (Gen.V m) c) (chosen_apply m c) rfl

theorem loss_left (c : Dev nD) : (FinCall.dat0 (F := Ideal) (Gen.V m) c).arrAt 3 cfg0.N = lossOf m c := by
  funext j
  obtain rfl : j = ix2 0 0 := funext fun a => by
    match a with
    | ⟨0, _⟩ => exact Fin.ext (by have : (j 0).val < 1 := (j 0).isLt; show (j 0).val = 0; omega)
    | ⟨1, _⟩ => exact Fin.ext (by have : (j 1).val < 1 := (j 1).isLt; show (j 1).val = 0; omega)
  refine (FinCall.out3_eq (Gen.V m) c (chosen m c) (FinCall.vecs (Gen.V m) c) (chosen_apply m c) rfl).trans ?_
  refine (shapeCast_apply _ _ (ix2 0 0) ix0 ?_).symm
  rw [Shape.rowMajor_val_two]
  rfl

theorem run_finalize (ρ : Dev nD → PrngReg) : θ_run (defs (F := Ideal)) (onTc (τ := τ) (main (F := Ideal))) ⟨m, fun _ => 0, ρ⟩ fun r =>
    ∀ c : Dev nD, r.2.mem ((c.tc : Thread nD τ).loc main_v0_0) = carried m c
      ∧ r.2.mem ((c.tc : Thread nD τ).loc main_v0_1) = lossOf m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ r c => ⟨((r.1.1 c).1 2).trans (carried_left m c), ((r.1.1 c).1 3).trans (loss_left m c), r.2.1 c⟩)
    (θ_run_and (FinCall.run_main_quiescent m ρ) (Gen.frame m ρ))

end FinCall

/-- The call's printed body is the same text in both programs. -/
theorem finalize_kernels {F : FTy → Type} [FloatOps F] : Cert.Finalize.defs₀ (F := F) = Cert.FinalizeIdeal.defs₀ (F := F) := by
  refine congrArg Defs.onTc (funext fun l => funext fun x => ?_)
  match l, x with
  | 0, (t, s) => rfl

theorem finalize_defs {F : FTy → Type} [FloatOps F] : Cert.Finalize.defs (F := F) = Cert.FinalizeIdeal.defs (F := F) :=
  congrArg (Pipeline.defs Cert.FinalizeIdeal.pcfgs) finalize_kernels

theorem frame_finalize : Cert.quiescent_Finalize := fun m ρ _ => by
  rw [finalize_defs]
  exact Cert.FinalizeIdeal.Gen.frame (F := Bits) m ρ

theorem frame_finalizeIdeal : Cert.quiescent_FinalizeIdeal := fun m ρ _ => Cert.FinalizeIdeal.Gen.frame (F := Ideal) m ρ

theorem frame_normalisedIdeal : Cert.quiescent_NormalisedIdeal := fun m ρ _ =>
  (θ_run Cert.NormalisedIdeal.defs _ _).mono (fun r h => ⟨fun c => (h c).2.2, sem_eq_zero_of_no_sems (by decide) r.2⟩) (Cert.NormalisedIdeal.Value.run m ρ)

theorem algebraic_finalize : Cert.algebraic_FinalizeIdeal_NormalisedIdeal := by
  intro m ρ m' ρ' _ hm
  refine ⟨fun c => carried m c, fun c => lossOf m c, run_finalize m ρ,
    (θ_run Cert.NormalisedIdeal.defs _ _).mono (fun _ r c => ?_) (Cert.NormalisedIdeal.Value.run (F := Ideal) m' ρ')⟩
  obtain ⟨r0, r1, r2⟩ := r c
  obtain ⟨h0, h1⟩ := hm c
  refine ⟨r0.trans ?_, r1.trans ?_, r2⟩
  · rw [h0, h1]
    rfl
  · rw [h0, h1]
    rfl

theorem claim : Cert.Claim := ⟨Cert.KernelIdeal.Gen.facts, Cert.ReferenceIdeal.Gen.facts, Cert.Argmin.Gen.facts, Cert.ArgminIdeal.Gen.facts,
  Cert.NearestIdeal.Gen.facts, Cert.Finalize.Gen.facts, Cert.FinalizeIdeal.Gen.facts, Cert.NormalisedIdeal.Gen.facts, Cert.Gather.Gen.facts,
  Cert.GatherIdeal.Gen.facts, Cert.Rows.Gen.facts, Cert.RowsIdeal.Gen.facts, Cert.Pre_idx_in_table.Gen.facts,
  frame_kernelIdeal, frame_referenceIdeal, frame_argmin, frame_argminIdeal, frame_nearestIdeal, frame_finalize, frame_finalizeIdeal,
  frame_normalisedIdeal, frame_gather, frame_gatherIdeal, frame_rows, frame_rowsIdeal, algebraic_kernel, trivial, algebraic_argmin, trivial,
  algebraic_finalize, trivial, bitexact_gather, algebraic_gather⟩

end Cert.Proof

end
